-- ==== Defs.lean ====
def Pre_Kernel [hPre_groups_in_range : Cert.Pre_groups_in_range.Facts] (m : (ℓ : Loc Cert.Kernel.nD Cert.Kernel.τ Cert.Kernel.sig) → Buf (Elt Bits) ℓ) : Prop :=
  ∀ c : Dev Cert.Kernel.nD,
    (Cert.Pre_groups_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_groups_in_range : Cert.Pre_groups_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_groups_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_in_range [hPre_groups_in_range : Cert.Pre_groups_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_groups_in_range : Cert.Pre_groups_in_range.Facts] (m : (ℓ : Loc Cert.Reference.nD Cert.Reference.τ Cert.Reference.sig) → Buf (Elt Bits) ℓ) : Prop :=
  ∀ c : Dev Cert.Reference.nD,
    (Cert.Pre_groups_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_NormPrompt (m : (ℓ : Loc Cert.NormPrompt.nD Cert.NormPrompt.τ Cert.NormPrompt.sig) → Buf (Elt Bits) ℓ) : Prop :=
  True

def Pre_NormPromptIdeal (m : (ℓ : Loc Cert.NormPromptIdeal.nD Cert.NormPromptIdeal.τ Cert.NormPromptIdeal.sig) → Buf (Elt Ideal) ℓ) : Prop :=
  True

def Pre_NormPromptRefIdeal (m : (ℓ : Loc Cert.NormPromptRefIdeal.nD Cert.NormPromptRefIdeal.τ Cert.NormPromptRefIdeal.sig) → Buf (Elt Ideal) ℓ) : Prop :=
  True

def Pre_NormSample (m : (ℓ : Loc Cert.NormSample.nD Cert.NormSample.τ Cert.NormSample.sig) → Buf (Elt Bits) ℓ) : Prop :=
  True

def Pre_NormSampleIdeal (m : (ℓ : Loc Cert.NormSampleIdeal.nD Cert.NormSampleIdeal.τ Cert.NormSampleIdeal.sig) → Buf (Elt Ideal) ℓ) : Prop :=
  True

def Pre_NormSampleRefIdeal (m : (ℓ : Loc Cert.NormSampleRefIdeal.nD Cert.NormSampleRefIdeal.τ Cert.NormSampleRefIdeal.sig) → Buf (Elt Ideal) ℓ) : Prop :=
  True

def Pre_Grouped [hPre_grouped_inputs : Cert.Pre_grouped_inputs.Facts] (m : (ℓ : Loc Cert.Grouped.nD Cert.Grouped.τ Cert.Grouped.sig) → Buf (Elt Bits) ℓ) : Prop :=
  ∀ c : Dev Cert.Grouped.nD,
    (Cert.Pre_grouped_inputs.fn (F := Bits) (m ((c.tc : Thread Cert.Grouped.nD Cert.Grouped.τ).loc Cert.Grouped.main_arg0)) (m ((c.tc : Thread Cert.Grouped.nD Cert.Grouped.τ).loc Cert.Grouped.main_arg1)) (m ((c.tc : Thread Cert.Grouped.nD Cert.Grouped.τ).loc Cert.Grouped.main_arg2)) (m ((c.tc : Thread Cert.Grouped.nD Cert.Grouped.τ).loc Cert.Grouped.main_arg3)) (m ((c.tc : Thread Cert.Grouped.nD Cert.Grouped.τ).loc Cert.Grouped.main_arg4)) (m ((c.tc : Thread Cert.Grouped.nD Cert.Grouped.τ).loc Cert.Grouped.main_arg5)) (m ((c.tc : Thread Cert.Grouped.nD Cert.Grouped.τ).loc Cert.Grouped.main_arg6)) (m ((c.tc : Thread Cert.Grouped.nD Cert.Grouped.τ).loc Cert.Grouped.main_arg7)) (m ((c.tc : Thread Cert.Grouped.nD Cert.Grouped.τ).loc Cert.Grouped.main_arg8))) = (fun _ => 1#1)

def Pre_GroupedIdeal [hPre_grouped_inputs : Cert.Pre_grouped_inputs.Facts] (m : (ℓ : Loc Cert.GroupedIdeal.nD Cert.GroupedIdeal.τ Cert.GroupedIdeal.sig) → Buf (Elt Ideal) ℓ) : Prop :=
  ∀ c : Dev Cert.GroupedIdeal.nD,
    (Cert.Pre_grouped_inputs.fn (F := Ideal) (m ((c.tc : Thread Cert.GroupedIdeal.nD Cert.GroupedIdeal.τ).loc Cert.GroupedIdeal.main_arg0)) (m ((c.tc : Thread Cert.GroupedIdeal.nD Cert.GroupedIdeal.τ).loc Cert.GroupedIdeal.main_arg1)) (m ((c.tc : Thread Cert.GroupedIdeal.nD Cert.GroupedIdeal.τ).loc Cert.GroupedIdeal.main_arg2)) (m ((c.tc : Thread Cert.GroupedIdeal.nD Cert.GroupedIdeal.τ).loc Cert.GroupedIdeal.main_arg3)) (m ((c.tc : Thread Cert.GroupedIdeal.nD Cert.GroupedIdeal.τ).loc Cert.GroupedIdeal.main_arg4)) (m ((c.tc : Thread Cert.GroupedIdeal.nD Cert.GroupedIdeal.τ).loc Cert.GroupedIdeal.main_arg5)) (m ((c.tc : Thread Cert.GroupedIdeal.nD Cert.GroupedIdeal.τ).loc Cert.GroupedIdeal.main_arg6)) (m ((c.tc : Thread Cert.GroupedIdeal.nD Cert.GroupedIdeal.τ).loc Cert.GroupedIdeal.main_arg7)) (m ((c.tc : Thread Cert.GroupedIdeal.nD Cert.GroupedIdeal.τ).loc Cert.GroupedIdeal.main_arg8))) = (fun _ => 1#1)

def Pre_GroupedRefIdeal (m : (ℓ : Loc Cert.GroupedRefIdeal.nD Cert.GroupedRefIdeal.τ Cert.GroupedRefIdeal.sig) → Buf (Elt Ideal) ℓ) : Prop :=
  True

def Pre_GroupedRefIdeal_grouped_inputs [hPre_grouped_inputs : Cert.Pre_grouped_inputs.Facts] (m : (ℓ : Loc Cert.GroupedRefIdeal.nD Cert.GroupedRefIdeal.τ Cert.GroupedRefIdeal.sig) → Buf (Elt Ideal) ℓ) : Prop :=
  ∀ c : Dev Cert.GroupedRefIdeal.nD,
    (Cert.Pre_grouped_inputs.fn (F := Ideal) (m ((c.tc : Thread Cert.GroupedRefIdeal.nD Cert.GroupedRefIdeal.τ).loc Cert.GroupedRefIdeal.main_arg0)) (m ((c.tc : Thread Cert.GroupedRefIdeal.nD Cert.GroupedRefIdeal.τ).loc Cert.GroupedRefIdeal.main_arg1)) (m ((c.tc : Thread Cert.GroupedRefIdeal.nD Cert.GroupedRefIdeal.τ).loc Cert.GroupedRefIdeal.main_arg2)) (m ((c.tc : Thread Cert.GroupedRefIdeal.nD Cert.GroupedRefIdeal.τ).loc Cert.GroupedRefIdeal.main_arg3)) (m ((c.tc : Thread Cert.GroupedRefIdeal.nD Cert.GroupedRefIdeal.τ).loc Cert.GroupedRefIdeal.main_arg4)) (m ((c.tc : Thread Cert.GroupedRefIdeal.nD Cert.GroupedRefIdeal.τ).loc Cert.GroupedRefIdeal.main_arg5)) (m ((c.tc : Thread Cert.GroupedRefIdeal.nD Cert.GroupedRefIdeal.τ).loc Cert.GroupedRefIdeal.main_arg6)) (m ((c.tc : Thread Cert.GroupedRefIdeal.nD Cert.GroupedRefIdeal.τ).loc Cert.GroupedRefIdeal.main_arg7)) (m ((c.tc : Thread Cert.GroupedRefIdeal.nD Cert.GroupedRefIdeal.τ).loc Cert.GroupedRefIdeal.main_arg8))) = (fun _ => 1#1)

def quiescent_Kernel [hKernel : Cert.Kernel.Facts] [hPre_groups_in_range : Cert.Pre_groups_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_groups_in_range [hReferenceIdeal : Cert.ReferenceIdeal.Facts] [hPre_groups_in_range : Cert.Pre_groups_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_groups_in_range : Cert.Pre_groups_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_NormPrompt [hNormPrompt : Cert.NormPrompt.Facts] : Prop :=
  ∀ (m : (ℓ : Loc Cert.NormPrompt.nD Cert.NormPrompt.τ Cert.NormPrompt.sig) → Buf (Elt Bits) ℓ) (g : Dev Cert.NormPrompt.nD → PrngReg), Pre_NormPrompt m →
    θ_run (Cert.NormPrompt.defs (F := Bits)) (onTc (τ := Cert.NormPrompt.τ) (Cert.NormPrompt.main (F := Bits))) ⟨m, fun _ => 0, g⟩ (fun r => (∀ c : Dev Cert.NormPrompt.nD,
      r.2.mem ((c.tc : Thread Cert.NormPrompt.nD Cert.NormPrompt.τ).loc Cert.NormPrompt.main_arg0) = m ((c.tc : Thread Cert.NormPrompt.nD Cert.NormPrompt.τ).loc Cert.NormPrompt.main_arg0)
      ∧ r.2.mem ((c.tc : Thread Cert.NormPrompt.nD Cert.NormPrompt.τ).loc Cert.NormPrompt.main_arg1) = m ((c.tc : Thread Cert.NormPrompt.nD Cert.NormPrompt.τ).loc Cert.NormPrompt.main_arg1))
      ∧ r.2.sem = fun _ => 0)

def quiescent_NormPromptIdeal [hNormPromptIdeal : Cert.NormPromptIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg), Pre_NormPromptIdeal m →
    θ_run (Cert.NormPromptIdeal.defs (F := Ideal)) (onTc (τ := Cert.NormPromptIdeal.τ) (Cert.NormPromptIdeal.main (F := Ideal))) ⟨m, fun _ => 0, g⟩ (fun r => (∀ c : Dev Cert.NormPromptIdeal.nD,
      r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
      ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1))
      ∧ r.2.sem = fun _ => 0)

def quiescent_NormPromptRefIdeal [hNormPromptRefIdeal : Cert.NormPromptRefIdeal.Facts] : Prop :=
  ∀ (m : (ℓ : Loc Cert.NormPromptRefIdeal.nD Cert.NormPromptRefIdeal.τ Cert.NormPromptRefIdeal.sig) → Buf (Elt Ideal) ℓ) (g : Dev Cert.NormPromptRefIdeal.nD → PrngReg), Pre_NormPromptRefIdeal m →
    θ_run (Cert.NormPromptRefIdeal.defs (F := Ideal)) (onTc (τ := Cert.NormPromptRefIdeal.τ) (Cert.NormPromptRefIdeal.main (F := Ideal))) ⟨m, fun _ => 0, g⟩ (fun r => (∀ c : Dev Cert.NormPromptRefIdeal.nD,
      r.2.mem ((c.tc : Thread Cert.NormPromptRefIdeal.nD Cert.NormPromptRefIdeal.τ).loc Cert.NormPromptRefIdeal.main_arg0) = m ((c.tc : Thread Cert.NormPromptRefIdeal.nD Cert.NormPromptRefIdeal.τ).loc Cert.NormPromptRefIdeal.main_arg0)
      ∧ r.2.mem ((c.tc : Thread Cert.NormPromptRefIdeal.nD Cert.NormPromptRefIdeal.τ).loc Cert.NormPromptRefIdeal.main_arg1) = m ((c.tc : Thread Cert.NormPromptRefIdeal.nD Cert.NormPromptRefIdeal.τ).loc Cert.NormPromptRefIdeal.main_arg1))
      ∧ r.2.sem = fun _ => 0)

def quiescent_NormSample [hNormSample : Cert.NormSample.Facts] : Prop :=
  ∀ (m : (ℓ : Loc Cert.NormSample.nD Cert.NormSample.τ Cert.NormSample.sig) → Buf (Elt Bits) ℓ) (g : Dev Cert.NormSample.nD → PrngReg), Pre_NormSample m →
    θ_run (Cert.NormSample.defs (F := Bits)) (onTc (τ := Cert.NormSample.τ) (Cert.NormSample.main (F := Bits))) ⟨m, fun _ => 0, g⟩ (fun r => (∀ c : Dev Cert.NormSample.nD,
      r.2.mem ((c.tc : Thread Cert.NormSample.nD Cert.NormSample.τ).loc Cert.NormSample.main_arg0) = m ((c.tc : Thread Cert.NormSample.nD Cert.NormSample.τ).loc Cert.NormSample.main_arg0)
      ∧ r.2.mem ((c.tc : Thread Cert.NormSample.nD Cert.NormSample.τ).loc Cert.NormSample.main_arg1) = m ((c.tc : Thread Cert.NormSample.nD Cert.NormSample.τ).loc Cert.NormSample.main_arg1))
      ∧ r.2.sem = fun _ => 0)

def quiescent_NormSampleIdeal [hNormSampleIdeal : Cert.NormSampleIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg), Pre_NormSampleIdeal m →
    θ_run (Cert.NormSampleIdeal.defs (F := Ideal)) (onTc (τ := Cert.NormSampleIdeal.τ) (Cert.NormSampleIdeal.main (F := Ideal))) ⟨m, fun _ => 0, g⟩ (fun r => (∀ c : Dev Cert.NormSampleIdeal.nD,
      r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
      ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ r.2.sem = fun _ => 0)

def quiescent_NormSampleRefIdeal [hNormSampleRefIdeal : Cert.NormSampleRefIdeal.Facts] : Prop :=
  ∀ (m : (ℓ : Loc Cert.NormSampleRefIdeal.nD Cert.NormSampleRefIdeal.τ Cert.NormSampleRefIdeal.sig) → Buf (Elt Ideal) ℓ) (g : Dev Cert.NormSampleRefIdeal.nD → PrngReg), Pre_NormSampleRefIdeal m →
    θ_run (Cert.NormSampleRefIdeal.defs (F := Ideal)) (onTc (τ := Cert.NormSampleRefIdeal.τ) (Cert.NormSampleRefIdeal.main (F := Ideal))) ⟨m, fun _ => 0, g⟩ (fun r => (∀ c : Dev Cert.NormSampleRefIdeal.nD,
      r.2.mem ((c.tc : Thread Cert.NormSampleRefIdeal.nD Cert.NormSampleRefIdeal.τ).loc Cert.NormSampleRefIdeal.main_arg0) = m ((c.tc : Thread Cert.NormSampleRefIdeal.nD Cert.NormSampleRefIdeal.τ).loc Cert.NormSampleRefIdeal.main_arg0)
      ∧ r.2.mem ((c.tc : Thread Cert.NormSampleRefIdeal.nD Cert.NormSampleRefIdeal.τ).loc Cert.NormSampleRefIdeal.main_arg1) = m ((c.tc : Thread Cert.NormSampleRefIdeal.nD Cert.NormSampleRefIdeal.τ).loc Cert.NormSampleRefIdeal.main_arg1))
      ∧ r.2.sem = fun _ => 0)

def quiescent_Grouped [hGrouped : Cert.Grouped.Facts] [hPre_grouped_inputs : Cert.Pre_grouped_inputs.Facts] : Prop :=
  ∀ (m : (ℓ : Loc Cert.Grouped.nD Cert.Grouped.τ Cert.Grouped.sig) → Buf (Elt Bits) ℓ) (g : Dev Cert.Grouped.nD → PrngReg), Pre_Grouped m →
    θ_run (Cert.Grouped.defs (F := Bits)) (onTc (τ := Cert.Grouped.τ) (Cert.Grouped.main (F := Bits))) ⟨m, fun _ => 0, g⟩ (fun r => (∀ c : Dev Cert.Grouped.nD,
      r.2.mem ((c.tc : Thread Cert.Grouped.nD Cert.Grouped.τ).loc Cert.Grouped.main_arg0) = m ((c.tc : Thread Cert.Grouped.nD Cert.Grouped.τ).loc Cert.Grouped.main_arg0)
      ∧ r.2.mem ((c.tc : Thread Cert.Grouped.nD Cert.Grouped.τ).loc Cert.Grouped.main_arg1) = m ((c.tc : Thread Cert.Grouped.nD Cert.Grouped.τ).loc Cert.Grouped.main_arg1)
      ∧ r.2.mem ((c.tc : Thread Cert.Grouped.nD Cert.Grouped.τ).loc Cert.Grouped.main_arg2) = m ((c.tc : Thread Cert.Grouped.nD Cert.Grouped.τ).loc Cert.Grouped.main_arg2)
      ∧ r.2.mem ((c.tc : Thread Cert.Grouped.nD Cert.Grouped.τ).loc Cert.Grouped.main_arg3) = m ((c.tc : Thread Cert.Grouped.nD Cert.Grouped.τ).loc Cert.Grouped.main_arg3)
      ∧ r.2.mem ((c.tc : Thread Cert.Grouped.nD Cert.Grouped.τ).loc Cert.Grouped.main_arg4) = m ((c.tc : Thread Cert.Grouped.nD Cert.Grouped.τ).loc Cert.Grouped.main_arg4)
      ∧ r.2.mem ((c.tc : Thread Cert.Grouped.nD Cert.Grouped.τ).loc Cert.Grouped.main_arg5) = m ((c.tc : Thread Cert.Grouped.nD Cert.Grouped.τ).loc Cert.Grouped.main_arg5)
      ∧ r.2.mem ((c.tc : Thread Cert.Grouped.nD Cert.Grouped.τ).loc Cert.Grouped.main_arg6) = m ((c.tc : Thread Cert.Grouped.nD Cert.Grouped.τ).loc Cert.Grouped.main_arg6)
      ∧ r.2.mem ((c.tc : Thread Cert.Grouped.nD Cert.Grouped.τ).loc Cert.Grouped.main_arg7) = m ((c.tc : Thread Cert.Grouped.nD Cert.Grouped.τ).loc Cert.Grouped.main_arg7)
      ∧ r.2.mem ((c.tc : Thread Cert.Grouped.nD Cert.Grouped.τ).loc Cert.Grouped.main_arg8) = m ((c.tc : Thread Cert.Grouped.nD Cert.Grouped.τ).loc Cert.Grouped.main_arg8))
      ∧ r.2.sem = fun _ => 0)

def quiescent_GroupedIdeal [hGroupedIdeal : Cert.GroupedIdeal.Facts] [hPre_grouped_inputs : Cert.Pre_grouped_inputs.Facts] : Prop :=
  ∀ (m : (ℓ : Loc Cert.GroupedIdeal.nD Cert.GroupedIdeal.τ Cert.GroupedIdeal.sig) → Buf (Elt Ideal) ℓ) (g : Dev Cert.GroupedIdeal.nD → PrngReg), Pre_GroupedIdeal m →
    θ_run (Cert.GroupedIdeal.defs (F := Ideal)) (onTc (τ := Cert.GroupedIdeal.τ) (Cert.GroupedIdeal.main (F := Ideal))) ⟨m, fun _ => 0, g⟩ (fun r => (∀ c : Dev Cert.GroupedIdeal.nD,
      r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
      ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
      ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2)
      ∧ r.2.mem ((c.tc : Thread Cert.GroupedIdeal.nD Cert.GroupedIdeal.τ).loc Cert.GroupedIdeal.main_arg3) = m ((c.tc : Thread Cert.GroupedIdeal.nD Cert.GroupedIdeal.τ).loc Cert.GroupedIdeal.main_arg3)
      ∧ r.2.mem ((c.tc : Thread Cert.GroupedIdeal.nD Cert.GroupedIdeal.τ).loc Cert.GroupedIdeal.main_arg4) = m ((c.tc : Thread Cert.GroupedIdeal.nD Cert.GroupedIdeal.τ).loc Cert.GroupedIdeal.main_arg4)
      ∧ r.2.mem ((c.tc : Thread Cert.GroupedIdeal.nD Cert.GroupedIdeal.τ).loc Cert.GroupedIdeal.main_arg5) = m ((c.tc : Thread Cert.GroupedIdeal.nD Cert.GroupedIdeal.τ).loc Cert.GroupedIdeal.main_arg5)
      ∧ r.2.mem ((c.tc : Thread Cert.GroupedIdeal.nD Cert.GroupedIdeal.τ).loc Cert.GroupedIdeal.main_arg6) = m ((c.tc : Thread Cert.GroupedIdeal.nD Cert.GroupedIdeal.τ).loc Cert.GroupedIdeal.main_arg6)
      ∧ r.2.mem ((c.tc : Thread Cert.GroupedIdeal.nD Cert.GroupedIdeal.τ).loc Cert.GroupedIdeal.main_arg7) = m ((c.tc : Thread Cert.GroupedIdeal.nD Cert.GroupedIdeal.τ).loc Cert.GroupedIdeal.main_arg7)
      ∧ r.2.mem ((c.tc : Thread Cert.GroupedIdeal.nD Cert.GroupedIdeal.τ).loc Cert.GroupedIdeal.main_arg8) = m ((c.tc : Thread Cert.GroupedIdeal.nD Cert.GroupedIdeal.τ).loc Cert.GroupedIdeal.main_arg8))
      ∧ r.2.sem = fun _ => 0)

def quiescent_GroupedRefIdeal [hGroupedRefIdeal : Cert.GroupedRefIdeal.Facts] : Prop :=
  ∀ (m : (ℓ : Loc Cert.GroupedRefIdeal.nD Cert.GroupedRefIdeal.τ Cert.GroupedRefIdeal.sig) → Buf (Elt Ideal) ℓ) (g : Dev Cert.GroupedRefIdeal.nD → PrngReg), Pre_GroupedRefIdeal m →
    θ_run (Cert.GroupedRefIdeal.defs (F := Ideal)) (onTc (τ := Cert.GroupedRefIdeal.τ) (Cert.GroupedRefIdeal.main (F := Ideal))) ⟨m, fun _ => 0, g⟩ (fun r => (∀ c : Dev Cert.GroupedRefIdeal.nD,
      r.2.mem ((c.tc : Thread Cert.GroupedRefIdeal.nD Cert.GroupedRefIdeal.τ).loc Cert.GroupedRefIdeal.main_arg0) = m ((c.tc : Thread Cert.GroupedRefIdeal.nD Cert.GroupedRefIdeal.τ).loc Cert.GroupedRefIdeal.main_arg0)
      ∧ r.2.mem ((c.tc : Thread Cert.GroupedRefIdeal.nD Cert.GroupedRefIdeal.τ).loc Cert.GroupedRefIdeal.main_arg1) = m ((c.tc : Thread Cert.GroupedRefIdeal.nD Cert.GroupedRefIdeal.τ).loc Cert.GroupedRefIdeal.main_arg1)
      ∧ r.2.mem ((c.tc : Thread Cert.GroupedRefIdeal.nD Cert.GroupedRefIdeal.τ).loc Cert.GroupedRefIdeal.main_arg2) = m ((c.tc : Thread Cert.GroupedRefIdeal.nD Cert.GroupedRefIdeal.τ).loc Cert.GroupedRefIdeal.main_arg2)
      ∧ r.2.mem ((c.tc : Thread Cert.GroupedRefIdeal.nD Cert.GroupedRefIdeal.τ).loc Cert.GroupedRefIdeal.main_arg3) = m ((c.tc : Thread Cert.GroupedRefIdeal.nD Cert.GroupedRefIdeal.τ).loc Cert.GroupedRefIdeal.main_arg3)
      ∧ r.2.mem ((c.tc : Thread Cert.GroupedRefIdeal.nD Cert.GroupedRefIdeal.τ).loc Cert.GroupedRefIdeal.main_arg4) = m ((c.tc : Thread Cert.GroupedRefIdeal.nD Cert.GroupedRefIdeal.τ).loc Cert.GroupedRefIdeal.main_arg4)
      ∧ r.2.mem ((c.tc : Thread Cert.GroupedRefIdeal.nD Cert.GroupedRefIdeal.τ).loc Cert.GroupedRefIdeal.main_arg5) = m ((c.tc : Thread Cert.GroupedRefIdeal.nD Cert.GroupedRefIdeal.τ).loc Cert.GroupedRefIdeal.main_arg5)
      ∧ r.2.mem ((c.tc : Thread Cert.GroupedRefIdeal.nD Cert.GroupedRefIdeal.τ).loc Cert.GroupedRefIdeal.main_arg6) = m ((c.tc : Thread Cert.GroupedRefIdeal.nD Cert.GroupedRefIdeal.τ).loc Cert.GroupedRefIdeal.main_arg6)
      ∧ r.2.mem ((c.tc : Thread Cert.GroupedRefIdeal.nD Cert.GroupedRefIdeal.τ).loc Cert.GroupedRefIdeal.main_arg7) = m ((c.tc : Thread Cert.GroupedRefIdeal.nD Cert.GroupedRefIdeal.τ).loc Cert.GroupedRefIdeal.main_arg7)
      ∧ r.2.mem ((c.tc : Thread Cert.GroupedRefIdeal.nD Cert.GroupedRefIdeal.τ).loc Cert.GroupedRefIdeal.main_arg8) = m ((c.tc : Thread Cert.GroupedRefIdeal.nD Cert.GroupedRefIdeal.τ).loc Cert.GroupedRefIdeal.main_arg8))
      ∧ r.2.sem = fun _ => 0)

def quiescent_GroupedRefIdeal_pre_grouped_inputs [hGroupedRefIdeal : Cert.GroupedRefIdeal.Facts] [hPre_grouped_inputs : Cert.Pre_grouped_inputs.Facts] : Prop :=
  ∀ (m : (ℓ : Loc Cert.GroupedRefIdeal.nD Cert.GroupedRefIdeal.τ Cert.GroupedRefIdeal.sig) → Buf (Elt Ideal) ℓ) (g : Dev Cert.GroupedRefIdeal.nD → PrngReg), Pre_GroupedRefIdeal_grouped_inputs m →
    θ_run (Cert.GroupedRefIdeal.defs (F := Ideal)) (onTc (τ := Cert.GroupedRefIdeal.τ) (Cert.GroupedRefIdeal.main (F := Ideal))) ⟨m, fun _ => 0, g⟩ (fun r => (∀ c : Dev Cert.GroupedRefIdeal.nD,
      r.2.mem ((c.tc : Thread Cert.GroupedRefIdeal.nD Cert.GroupedRefIdeal.τ).loc Cert.GroupedRefIdeal.main_arg0) = m ((c.tc : Thread Cert.GroupedRefIdeal.nD Cert.GroupedRefIdeal.τ).loc Cert.GroupedRefIdeal.main_arg0)
      ∧ r.2.mem ((c.tc : Thread Cert.GroupedRefIdeal.nD Cert.GroupedRefIdeal.τ).loc Cert.GroupedRefIdeal.main_arg1) = m ((c.tc : Thread Cert.GroupedRefIdeal.nD Cert.GroupedRefIdeal.τ).loc Cert.GroupedRefIdeal.main_arg1)
      ∧ r.2.mem ((c.tc : Thread Cert.GroupedRefIdeal.nD Cert.GroupedRefIdeal.τ).loc Cert.GroupedRefIdeal.main_arg2) = m ((c.tc : Thread Cert.GroupedRefIdeal.nD Cert.GroupedRefIdeal.τ).loc Cert.GroupedRefIdeal.main_arg2)
      ∧ r.2.mem ((c.tc : Thread Cert.GroupedRefIdeal.nD Cert.GroupedRefIdeal.τ).loc Cert.GroupedRefIdeal.main_arg3) = m ((c.tc : Thread Cert.GroupedRefIdeal.nD Cert.GroupedRefIdeal.τ).loc Cert.GroupedRefIdeal.main_arg3)
      ∧ r.2.mem ((c.tc : Thread Cert.GroupedRefIdeal.nD Cert.GroupedRefIdeal.τ).loc Cert.GroupedRefIdeal.main_arg4) = m ((c.tc : Thread Cert.GroupedRefIdeal.nD Cert.GroupedRefIdeal.τ).loc Cert.GroupedRefIdeal.main_arg4)
      ∧ r.2.mem ((c.tc : Thread Cert.GroupedRefIdeal.nD Cert.GroupedRefIdeal.τ).loc Cert.GroupedRefIdeal.main_arg5) = m ((c.tc : Thread Cert.GroupedRefIdeal.nD Cert.GroupedRefIdeal.τ).loc Cert.GroupedRefIdeal.main_arg5)
      ∧ r.2.mem ((c.tc : Thread Cert.GroupedRefIdeal.nD Cert.GroupedRefIdeal.τ).loc Cert.GroupedRefIdeal.main_arg6) = m ((c.tc : Thread Cert.GroupedRefIdeal.nD Cert.GroupedRefIdeal.τ).loc Cert.GroupedRefIdeal.main_arg6)
      ∧ r.2.mem ((c.tc : Thread Cert.GroupedRefIdeal.nD Cert.GroupedRefIdeal.τ).loc Cert.GroupedRefIdeal.main_arg7) = m ((c.tc : Thread Cert.GroupedRefIdeal.nD Cert.GroupedRefIdeal.τ).loc Cert.GroupedRefIdeal.main_arg7)
      ∧ r.2.mem ((c.tc : Thread Cert.GroupedRefIdeal.nD Cert.GroupedRefIdeal.τ).loc Cert.GroupedRefIdeal.main_arg8) = m ((c.tc : Thread Cert.GroupedRefIdeal.nD Cert.GroupedRefIdeal.τ).loc Cert.GroupedRefIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_groups_in_range : Cert.Pre_groups_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v41)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v41) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v45) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_NormPrompt_NormPromptIdeal : Prop :=
  True

def algebraic_NormPromptIdeal_NormPromptRefIdeal [hNormPromptIdeal : Cert.NormPromptIdeal.Facts] [hNormPromptRefIdeal : Cert.NormPromptRefIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg)
    (m' : (ℓ : Loc Cert.NormPromptRefIdeal.nD Cert.NormPromptRefIdeal.τ Cert.NormPromptRefIdeal.sig) → Buf (Elt Ideal) ℓ) (g' : Dev Cert.NormPromptRefIdeal.nD → PrngReg), Pre_NormPromptIdeal m →
    (∀ c : Dev Cert.NormPromptIdeal.nD,
      m' ((c.tc : Thread Cert.NormPromptRefIdeal.nD Cert.NormPromptRefIdeal.τ).loc Cert.NormPromptRefIdeal.main_arg0) = m ((c.tc : Thread Cert.NormPromptIdeal.nD Cert.NormPromptIdeal.τ).loc Cert.NormPromptIdeal.main_arg0)
      ∧ m' ((c.tc : Thread Cert.NormPromptRefIdeal.nD Cert.NormPromptRefIdeal.τ).loc Cert.NormPromptRefIdeal.main_arg1) = m ((c.tc : Thread Cert.NormPromptIdeal.nD Cert.NormPromptIdeal.τ).loc Cert.NormPromptIdeal.main_arg1)) →
    ∃ (v0 : (c : Dev Cert.NormPromptIdeal.nD) → Buf (Elt Ideal) ((c.tc : Thread Cert.NormPromptIdeal.nD Cert.NormPromptIdeal.τ).loc Cert.NormPromptIdeal.main_v1)),
      θ_run (Cert.NormPromptIdeal.defs (F := Ideal)) (onTc (τ := Cert.NormPromptIdeal.τ) (Cert.NormPromptIdeal.main (F := Ideal))) ⟨m, fun _ => 0, g⟩ (fun r => ∀ c : Dev Cert.NormPromptIdeal.nD,
          r.2.mem ((c.tc : Thread Cert.NormPromptIdeal.nD Cert.NormPromptIdeal.τ).loc Cert.NormPromptIdeal.main_v1) = v0 c
          ∧ r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
          ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1))
      ∧ θ_run (Cert.NormPromptRefIdeal.defs (F := Ideal)) (onTc (τ := Cert.NormPromptRefIdeal.τ) (Cert.NormPromptRefIdeal.main (F := Ideal))) ⟨m', fun _ => 0, g'⟩ (fun r => ∀ c : Dev Cert.NormPromptRefIdeal.nD,
          r.2.mem ((c.tc : Thread Cert.NormPromptRefIdeal.nD Cert.NormPromptRefIdeal.τ).loc Cert.NormPromptRefIdeal.main_v13) = v0 c
          ∧ r.2.mem ((c.tc : Thread Cert.NormPromptRefIdeal.nD Cert.NormPromptRefIdeal.τ).loc Cert.NormPromptRefIdeal.main_arg0) = m' ((c.tc : Thread Cert.NormPromptRefIdeal.nD Cert.NormPromptRefIdeal.τ).loc Cert.NormPromptRefIdeal.main_arg0)
          ∧ r.2.mem ((c.tc : Thread Cert.NormPromptRefIdeal.nD Cert.NormPromptRefIdeal.τ).loc Cert.NormPromptRefIdeal.main_arg1) = m' ((c.tc : Thread Cert.NormPromptRefIdeal.nD Cert.NormPromptRefIdeal.τ).loc Cert.NormPromptRefIdeal.main_arg1))

def preserves_NormSample_NormSampleIdeal : Prop :=
  True

def algebraic_NormSampleIdeal_NormSampleRefIdeal [hNormSampleIdeal : Cert.NormSampleIdeal.Facts] [hNormSampleRefIdeal : Cert.NormSampleRefIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg)
    (m' : (ℓ : Loc Cert.NormSampleRefIdeal.nD Cert.NormSampleRefIdeal.τ Cert.NormSampleRefIdeal.sig) → Buf (Elt Ideal) ℓ) (g' : Dev Cert.NormSampleRefIdeal.nD → PrngReg), Pre_NormSampleIdeal m →
    (∀ c : Dev Cert.NormSampleIdeal.nD,
      m' ((c.tc : Thread Cert.NormSampleRefIdeal.nD Cert.NormSampleRefIdeal.τ).loc Cert.NormSampleRefIdeal.main_arg0) = m ((c.tc : Thread Cert.NormSampleIdeal.nD Cert.NormSampleIdeal.τ).loc Cert.NormSampleIdeal.main_arg0)
      ∧ m' ((c.tc : Thread Cert.NormSampleRefIdeal.nD Cert.NormSampleRefIdeal.τ).loc Cert.NormSampleRefIdeal.main_arg1) = m ((c.tc : Thread Cert.NormSampleIdeal.nD Cert.NormSampleIdeal.τ).loc Cert.NormSampleIdeal.main_arg1)) →
    ∃ (v0 : (c : Dev Cert.NormSampleIdeal.nD) → Buf (Elt Ideal) ((c.tc : Thread Cert.NormSampleIdeal.nD Cert.NormSampleIdeal.τ).loc Cert.NormSampleIdeal.main_v1)),
      θ_run (Cert.NormSampleIdeal.defs (F := Ideal)) (onTc (τ := Cert.NormSampleIdeal.τ) (Cert.NormSampleIdeal.main (F := Ideal))) ⟨m, fun _ => 0, g⟩ (fun r => ∀ c : Dev Cert.NormSampleIdeal.nD,
          r.2.mem ((c.tc : Thread Cert.NormSampleIdeal.nD Cert.NormSampleIdeal.τ).loc Cert.NormSampleIdeal.main_v1) = v0 c
          ∧ r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
          ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ θ_run (Cert.NormSampleRefIdeal.defs (F := Ideal)) (onTc (τ := Cert.NormSampleRefIdeal.τ) (Cert.NormSampleRefIdeal.main (F := Ideal))) ⟨m', fun _ => 0, g'⟩ (fun r => ∀ c : Dev Cert.NormSampleRefIdeal.nD,
          r.2.mem ((c.tc : Thread Cert.NormSampleRefIdeal.nD Cert.NormSampleRefIdeal.τ).loc Cert.NormSampleRefIdeal.main_v13) = v0 c
          ∧ r.2.mem ((c.tc : Thread Cert.NormSampleRefIdeal.nD Cert.NormSampleRefIdeal.τ).loc Cert.NormSampleRefIdeal.main_arg0) = m' ((c.tc : Thread Cert.NormSampleRefIdeal.nD Cert.NormSampleRefIdeal.τ).loc Cert.NormSampleRefIdeal.main_arg0)
          ∧ r.2.mem ((c.tc : Thread Cert.NormSampleRefIdeal.nD Cert.NormSampleRefIdeal.τ).loc Cert.NormSampleRefIdeal.main_arg1) = m' ((c.tc : Thread Cert.NormSampleRefIdeal.nD Cert.NormSampleRefIdeal.τ).loc Cert.NormSampleRefIdeal.main_arg1))

def preserves_Grouped_GroupedIdeal : Prop :=
  True

def algebraic_GroupedIdeal_GroupedRefIdeal [hGroupedIdeal : Cert.GroupedIdeal.Facts] [hGroupedRefIdeal : Cert.GroupedRefIdeal.Facts] [hPre_grouped_inputs : Cert.Pre_grouped_inputs.Facts] : Prop :=
  ∀ (m : (ℓ : Loc Cert.GroupedIdeal.nD Cert.GroupedIdeal.τ Cert.GroupedIdeal.sig) → Buf (Elt Ideal) ℓ) (g : Dev Cert.GroupedIdeal.nD → PrngReg)
    (m' : (ℓ : Loc Cert.GroupedRefIdeal.nD Cert.GroupedRefIdeal.τ Cert.GroupedRefIdeal.sig) → Buf (Elt Ideal) ℓ) (g' : Dev Cert.GroupedRefIdeal.nD → PrngReg), Pre_GroupedIdeal m →
    (∀ c : Dev Cert.GroupedIdeal.nD,
      m' ((c.tc : Thread Cert.GroupedRefIdeal.nD Cert.GroupedRefIdeal.τ).loc Cert.GroupedRefIdeal.main_arg0) = m ((c.tc : Thread Cert.GroupedIdeal.nD Cert.GroupedIdeal.τ).loc Cert.GroupedIdeal.main_arg0)
      ∧ m' ((c.tc : Thread Cert.GroupedRefIdeal.nD Cert.GroupedRefIdeal.τ).loc Cert.GroupedRefIdeal.main_arg1) = m ((c.tc : Thread Cert.GroupedIdeal.nD Cert.GroupedIdeal.τ).loc Cert.GroupedIdeal.main_arg1)
      ∧ m' ((c.tc : Thread Cert.GroupedRefIdeal.nD Cert.GroupedRefIdeal.τ).loc Cert.GroupedRefIdeal.main_arg2) = m ((c.tc : Thread Cert.GroupedIdeal.nD Cert.GroupedIdeal.τ).loc Cert.GroupedIdeal.main_arg2)
      ∧ m' ((c.tc : Thread Cert.GroupedRefIdeal.nD Cert.GroupedRefIdeal.τ).loc Cert.GroupedRefIdeal.main_arg3) = m ((c.tc : Thread Cert.GroupedIdeal.nD Cert.GroupedIdeal.τ).loc Cert.GroupedIdeal.main_arg3)
      ∧ m' ((c.tc : Thread Cert.GroupedRefIdeal.nD Cert.GroupedRefIdeal.τ).loc Cert.GroupedRefIdeal.main_arg4) = m ((c.tc : Thread Cert.GroupedIdeal.nD Cert.GroupedIdeal.τ).loc Cert.GroupedIdeal.main_arg4)
      ∧ m' ((c.tc : Thread Cert.GroupedRefIdeal.nD Cert.GroupedRefIdeal.τ).loc Cert.GroupedRefIdeal.main_arg5) = m ((c.tc : Thread Cert.GroupedIdeal.nD Cert.GroupedIdeal.τ).loc Cert.GroupedIdeal.main_arg5)
      ∧ m' ((c.tc : Thread Cert.GroupedRefIdeal.nD Cert.GroupedRefIdeal.τ).loc Cert.GroupedRefIdeal.main_arg6) = m ((c.tc : Thread Cert.GroupedIdeal.nD Cert.GroupedIdeal.τ).loc Cert.GroupedIdeal.main_arg6)
      ∧ m' ((c.tc : Thread Cert.GroupedRefIdeal.nD Cert.GroupedRefIdeal.τ).loc Cert.GroupedRefIdeal.main_arg7) = m ((c.tc : Thread Cert.GroupedIdeal.nD Cert.GroupedIdeal.τ).loc Cert.GroupedIdeal.main_arg7)
      ∧ m' ((c.tc : Thread Cert.GroupedRefIdeal.nD Cert.GroupedRefIdeal.τ).loc Cert.GroupedRefIdeal.main_arg8) = m ((c.tc : Thread Cert.GroupedIdeal.nD Cert.GroupedIdeal.τ).loc Cert.GroupedIdeal.main_arg8)) →
    ∃ (v0 : (c : Dev Cert.GroupedIdeal.nD) → Buf (Elt Ideal) ((c.tc : Thread Cert.GroupedIdeal.nD Cert.GroupedIdeal.τ).loc Cert.GroupedIdeal.main_v72)),
      θ_run (Cert.GroupedIdeal.defs (F := Ideal)) (onTc (τ := Cert.GroupedIdeal.τ) (Cert.GroupedIdeal.main (F := Ideal))) ⟨m, fun _ => 0, g⟩ (fun r => ∀ c : Dev Cert.GroupedIdeal.nD,
          r.2.mem ((c.tc : Thread Cert.GroupedIdeal.nD Cert.GroupedIdeal.τ).loc Cert.GroupedIdeal.main_v72) = v0 c
          ∧ r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
          ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
          ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2)
          ∧ r.2.mem ((c.tc : Thread Cert.GroupedIdeal.nD Cert.GroupedIdeal.τ).loc Cert.GroupedIdeal.main_arg3) = m ((c.tc : Thread Cert.GroupedIdeal.nD Cert.GroupedIdeal.τ).loc Cert.GroupedIdeal.main_arg3)
          ∧ r.2.mem ((c.tc : Thread Cert.GroupedIdeal.nD Cert.GroupedIdeal.τ).loc Cert.GroupedIdeal.main_arg4) = m ((c.tc : Thread Cert.GroupedIdeal.nD Cert.GroupedIdeal.τ).loc Cert.GroupedIdeal.main_arg4)
          ∧ r.2.mem ((c.tc : Thread Cert.GroupedIdeal.nD Cert.GroupedIdeal.τ).loc Cert.GroupedIdeal.main_arg5) = m ((c.tc : Thread Cert.GroupedIdeal.nD Cert.GroupedIdeal.τ).loc Cert.GroupedIdeal.main_arg5)
          ∧ r.2.mem ((c.tc : Thread Cert.GroupedIdeal.nD Cert.GroupedIdeal.τ).loc Cert.GroupedIdeal.main_arg6) = m ((c.tc : Thread Cert.GroupedIdeal.nD Cert.GroupedIdeal.τ).loc Cert.GroupedIdeal.main_arg6)
          ∧ r.2.mem ((c.tc : Thread Cert.GroupedIdeal.nD Cert.GroupedIdeal.τ).loc Cert.GroupedIdeal.main_arg7) = m ((c.tc : Thread Cert.GroupedIdeal.nD Cert.GroupedIdeal.τ).loc Cert.GroupedIdeal.main_arg7)
          ∧ r.2.mem ((c.tc : Thread Cert.GroupedIdeal.nD Cert.GroupedIdeal.τ).loc Cert.GroupedIdeal.main_arg8) = m ((c.tc : Thread Cert.GroupedIdeal.nD Cert.GroupedIdeal.τ).loc Cert.GroupedIdeal.main_arg8))
      ∧ θ_run (Cert.GroupedRefIdeal.defs (F := Ideal)) (onTc (τ := Cert.GroupedRefIdeal.τ) (Cert.GroupedRefIdeal.main (F := Ideal))) ⟨m', fun _ => 0, g'⟩ (fun r => ∀ c : Dev Cert.GroupedRefIdeal.nD,
          r.2.mem ((c.tc : Thread Cert.GroupedRefIdeal.nD Cert.GroupedRefIdeal.τ).loc Cert.GroupedRefIdeal.main_v105) = v0 c
          ∧ r.2.mem ((c.tc : Thread Cert.GroupedRefIdeal.nD Cert.GroupedRefIdeal.τ).loc Cert.GroupedRefIdeal.main_arg0) = m' ((c.tc : Thread Cert.GroupedRefIdeal.nD Cert.GroupedRefIdeal.τ).loc Cert.GroupedRefIdeal.main_arg0)
          ∧ r.2.mem ((c.tc : Thread Cert.GroupedRefIdeal.nD Cert.GroupedRefIdeal.τ).loc Cert.GroupedRefIdeal.main_arg1) = m' ((c.tc : Thread Cert.GroupedRefIdeal.nD Cert.GroupedRefIdeal.τ).loc Cert.GroupedRefIdeal.main_arg1)
          ∧ r.2.mem ((c.tc : Thread Cert.GroupedRefIdeal.nD Cert.GroupedRefIdeal.τ).loc Cert.GroupedRefIdeal.main_arg2) = m' ((c.tc : Thread Cert.GroupedRefIdeal.nD Cert.GroupedRefIdeal.τ).loc Cert.GroupedRefIdeal.main_arg2)
          ∧ r.2.mem ((c.tc : Thread Cert.GroupedRefIdeal.nD Cert.GroupedRefIdeal.τ).loc Cert.GroupedRefIdeal.main_arg3) = m' ((c.tc : Thread Cert.GroupedRefIdeal.nD Cert.GroupedRefIdeal.τ).loc Cert.GroupedRefIdeal.main_arg3)
          ∧ r.2.mem ((c.tc : Thread Cert.GroupedRefIdeal.nD Cert.GroupedRefIdeal.τ).loc Cert.GroupedRefIdeal.main_arg4) = m' ((c.tc : Thread Cert.GroupedRefIdeal.nD Cert.GroupedRefIdeal.τ).loc Cert.GroupedRefIdeal.main_arg4)
          ∧ r.2.mem ((c.tc : Thread Cert.GroupedRefIdeal.nD Cert.GroupedRefIdeal.τ).loc Cert.GroupedRefIdeal.main_arg5) = m' ((c.tc : Thread Cert.GroupedRefIdeal.nD Cert.GroupedRefIdeal.τ).loc Cert.GroupedRefIdeal.main_arg5)
          ∧ r.2.mem ((c.tc : Thread Cert.GroupedRefIdeal.nD Cert.GroupedRefIdeal.τ).loc Cert.GroupedRefIdeal.main_arg6) = m' ((c.tc : Thread Cert.GroupedRefIdeal.nD Cert.GroupedRefIdeal.τ).loc Cert.GroupedRefIdeal.main_arg6)
          ∧ r.2.mem ((c.tc : Thread Cert.GroupedRefIdeal.nD Cert.GroupedRefIdeal.τ).loc Cert.GroupedRefIdeal.main_arg7) = m' ((c.tc : Thread Cert.GroupedRefIdeal.nD Cert.GroupedRefIdeal.τ).loc Cert.GroupedRefIdeal.main_arg7)
          ∧ r.2.mem ((c.tc : Thread Cert.GroupedRefIdeal.nD Cert.GroupedRefIdeal.τ).loc Cert.GroupedRefIdeal.main_arg8) = m' ((c.tc : Thread Cert.GroupedRefIdeal.nD Cert.GroupedRefIdeal.τ).loc Cert.GroupedRefIdeal.main_arg8))

def Claim : Prop :=
  ∃ (hKernel : Cert.Kernel.Facts) (hKernelIdeal : Cert.KernelIdeal.Facts) (hReferenceIdeal : Cert.ReferenceIdeal.Facts) (hReference : Cert.Reference.Facts) (hNormPrompt : Cert.NormPrompt.Facts) (hNormPromptIdeal : Cert.NormPromptIdeal.Facts) (hNormPromptRefIdeal : Cert.NormPromptRefIdeal.Facts) (hNormSample : Cert.NormSample.Facts) (hNormSampleIdeal : Cert.NormSampleIdeal.Facts) (hNormSampleRefIdeal : Cert.NormSampleRefIdeal.Facts) (hGrouped : Cert.Grouped.Facts) (hGroupedIdeal : Cert.GroupedIdeal.Facts) (hGroupedRefIdeal : Cert.GroupedRefIdeal.Facts) (hPre_groups_in_range : Cert.Pre_groups_in_range.Facts) (hPre_grouped_inputs : Cert.Pre_grouped_inputs.Facts),
    quiescent_Kernel (hKernel := hKernel) (hPre_groups_in_range := hPre_groups_in_range)
    ∧ quiescent_KernelIdeal (hKernelIdeal := hKernelIdeal) (hPre_groups_in_range := hPre_groups_in_range)
    ∧ quiescent_ReferenceIdeal (hReferenceIdeal := hReferenceIdeal)
    ∧ quiescent_ReferenceIdeal_pre_groups_in_range (hReferenceIdeal := hReferenceIdeal) (hPre_groups_in_range := hPre_groups_in_range)
    ∧ quiescent_Reference (hReference := hReference) (hPre_groups_in_range := hPre_groups_in_range)
    ∧ quiescent_NormPrompt (hNormPrompt := hNormPrompt)
    ∧ quiescent_NormPromptIdeal (hNormPromptIdeal := hNormPromptIdeal)
    ∧ quiescent_NormPromptRefIdeal (hNormPromptRefIdeal := hNormPromptRefIdeal)
    ∧ quiescent_NormSample (hNormSample := hNormSample)
    ∧ quiescent_NormSampleIdeal (hNormSampleIdeal := hNormSampleIdeal)
    ∧ quiescent_NormSampleRefIdeal (hNormSampleRefIdeal := hNormSampleRefIdeal)
    ∧ quiescent_Grouped (hGrouped := hGrouped) (hPre_grouped_inputs := hPre_grouped_inputs)
    ∧ quiescent_GroupedIdeal (hGroupedIdeal := hGroupedIdeal) (hPre_grouped_inputs := hPre_grouped_inputs)
    ∧ quiescent_GroupedRefIdeal (hGroupedRefIdeal := hGroupedRefIdeal)
    ∧ quiescent_GroupedRefIdeal_pre_grouped_inputs (hGroupedRefIdeal := hGroupedRefIdeal) (hPre_grouped_inputs := hPre_grouped_inputs)
    ∧ preserves_Kernel_KernelIdeal
    ∧ algebraic_KernelIdeal_ReferenceIdeal (hKernelIdeal := hKernelIdeal) (hReferenceIdeal := hReferenceIdeal) (hPre_groups_in_range := hPre_groups_in_range)
    ∧ bitexact_Kernel_Reference (hKernel := hKernel) (hReference := hReference) (hPre_groups_in_range := hPre_groups_in_range)
    ∧ preserves_NormPrompt_NormPromptIdeal
    ∧ algebraic_NormPromptIdeal_NormPromptRefIdeal (hNormPromptIdeal := hNormPromptIdeal) (hNormPromptRefIdeal := hNormPromptRefIdeal)
    ∧ preserves_NormSample_NormSampleIdeal
    ∧ algebraic_NormSampleIdeal_NormSampleRefIdeal (hNormSampleIdeal := hNormSampleIdeal) (hNormSampleRefIdeal := hNormSampleRefIdeal)
    ∧ preserves_Grouped_GroupedIdeal
    ∧ algebraic_GroupedIdeal_GroupedRefIdeal (hGroupedIdeal := hGroupedIdeal) (hGroupedRefIdeal := hGroupedRefIdeal) (hPre_grouped_inputs := hPre_grouped_inputs)
-- ==== Pre_grouped_inputs.lean ====
abbrev S8192x128 : Shape := ⟨2, ![8192, 128]⟩
abbrev S10240x8x128 : Shape := ⟨3, ![10240, 8, 128]⟩
abbrev S1024x4 : Shape := ⟨2, ![1024, 4]⟩
abbrev S4 : Shape := ⟨1, ![4]⟩
abbrev S1024x4x4 : Shape := ⟨3, ![1024, 4, 4]⟩
abbrev S4x4 : Shape := ⟨2, ![4, 4]⟩
abbrev S4x4x1024x512 : Shape := ⟨4, ![4, 4, 1024, 512]⟩
abbrev S4x4x512x1024 : Shape := ⟨4, ![4, 4, 512, 1024]⟩
abbrev S8192x1 : Shape := ⟨2, ![8192, 1]⟩
abbrev S8192 : Shape := ⟨1, ![8192]⟩
abbrev S_ : Shape := ⟨0, ![]⟩
abbrev S10240x1024 : Shape := ⟨2, ![10240, 1024]⟩
abbrev S10240x4x4 : Shape := ⟨3, ![10240, 4, 4]⟩
abbrev S1x4x4 : Shape := ⟨3, ![1, 4, 4]⟩

class Facts : Prop where
  slices_S8192x128_S8192x1_0_0 : S8192x128.Slices ![0, 0] S8192x1
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  shapeCasts_S10240x8x128_S10240x1024 : S10240x8x128.ShapeCasts S10240x1024
  bcast_S4x4_S1x4x4_1_2 : S4x4.BroadcastsInDim S1x4x4 (![1, 2] : Fin 2 → Fin S1x4x4.rank)
  bcast_S1x4x4_S10240x4x4_0_1_2 : S1x4x4.BroadcastsInDim S10240x4x4 (![0, 1, 2] : Fin 3 → Fin S10240x4x4.rank)
  bcast_S_S10240x4x4 : S_.BroadcastsInDim S10240x4x4 (![] : Fin 0 → Fin S10240x4x4.rank)
  dot_S10240x1024_S1024x4x4_S10240x4x4_1_0_0_12_n_n_wf : DotDims.WF S10240x1024 S1024x4x4 S10240x4x4 [1] [0] [0] [1, 2] [] []

variable [Facts]

def dot_S10240x1024_S1024x4x4_S10240x4x4_1_0_0_12_n_n : DotDims S10240x1024 S1024x4x4 S10240x4x4 where
  lhsContracting := [1]
  rhsContracting := [0]
  lhsNonContracting := [0]
  rhsNonContracting := [1, 2]
  lhsBatch := []
  rhsBatch := []
  wf := dot_S10240x1024_S1024x4x4_S10240x4x4_1_0_0_12_n_n_wf
def fn {F : FTy → Type} [FloatOps F] (main_arg0 : IVec S8192x128 32) (main_arg1 : FVec F S10240x8x128 .f32) (main_arg2 : FVec F S1024x4 .f32) (main_arg3 : FVec F S4 .f32) (main_arg4 : FVec F S1024x4x4 .f32) (main_arg5 : FVec F S4x4 .f32) (main_arg6 : FVec F S4x4x1024x512 .f32) (main_arg7 : FVec F S4x4x1024x512 .f32) (main_arg8 : FVec F S4x4x512x1024 .f32) : IVec S10240x4x4 1 :=
  let main_v0 : IVec S8192x1 32 := (extractStridedSlice S8192x1 ![0, 0] · slices_S8192x128_S8192x1_0_0) main_arg0
  let main_v1 : IVec S8192 32 := shapeCast S8192 main_v0 shapeCasts_S8192x1_S8192
  let main_c : IVec S_ 32 := constantI S_ 32 0#32
  let main_v2 : IVec S8192 32 := broadcastInDim S8192 ![] bcast_S_S8192 main_c
  let main_v3 : IVec S8192 1 := cmpi .sge main_v1 main_v2
  let main_v4 : IVec S8192x1 32 := (extractStridedSlice S8192x1 ![0, 0] · slices_S8192x128_S8192x1_0_0) main_arg0
  let main_v5 : IVec S8192 32 := shapeCast S8192 main_v4 shapeCasts_S8192x1_S8192
  let main_c_0 : IVec S_ 32 := constantI S_ 32 4#32
  let main_v6 : IVec S8192 32 := broadcastInDim S8192 ![] bcast_S_S8192 main_c_0
  let main_v7 : IVec S8192 1 := cmpi .slt main_v5 main_v6
  let main_v8 : IVec S8192 1 := andi main_v3 main_v7
  let main_c_1 : IVec S_ 1 := constantI S_ 1 1#1
  let main_v9 : IVec S_ 1 := (fun x v => Host.reduce IntOp.andi x v reducesTo_S8192_S_d0 h_S_) main_v8 main_c_1
  let main_v10 : FVec F S10240x1024 .f32 := shapeCast S10240x1024 main_arg1 shapeCasts_S10240x8x128_S10240x1024
  let main_v11 : FVec F S10240x4x4 .f32 := (fun l r => Host.dotGeneral dot_S10240x1024_S1024x4x4_S10240x4x4_1_0_0_12_n_n none l r) main_v10 main_arg4
  let main_v12 : FVec F S1x4x4 .f32 := broadcastInDim S1x4x4 ![1, 2] bcast_S4x4_S1x4x4_1_2 main_arg5
  let main_v13 : FVec F S10240x4x4 .f32 := broadcastInDim S10240x4x4 ![0, 1, 2] bcast_S1x4x4_S10240x4x4_0_1_2 main_v12
  let main_v14 : FVec F S10240x4x4 .f32 := addf main_v11 main_v13
  let main_v15 : FVec F S10240x4x4 .f32 := Host.absf main_v14
  let main_cst : FVec F S_ .f32 := constant S_ .f32 0x7F800000#32
  let main_v16 : FVec F S10240x4x4 .f32 := broadcastInDim S10240x4x4 ![] bcast_S_S10240x4x4 main_cst
  let main_v17 : IVec S10240x4x4 1 := cmpf .olt main_v15 main_v16
  let main_v18 : IVec S10240x4x4 1 := broadcastInDim S10240x4x4 ![] bcast_S_S10240x4x4 main_v9
  let main_v19 : IVec S10240x4x4 1 := andi main_v17 main_v18
  main_v19
-- ==== Pre_groups_in_range.lean ====
abbrev S8192x128 : Shape := ⟨2, ![8192, 128]⟩
abbrev S8192x8x128 : Shape := ⟨3, ![8192, 8, 128]⟩
abbrev S8192x1 : Shape := ⟨2, ![8192, 1]⟩
abbrev S8192 : Shape := ⟨1, ![8192]⟩
abbrev S_ : Shape := ⟨0, ![]⟩

class Facts : Prop where
  slices_S8192x128_S8192x1_0_0 : S8192x128.Slices ![0, 0] S8192x1
  shapeCasts_S8192x1_S8192 : S8192x1.ShapeCasts S8192
  bcast_S_S8192 : S_.BroadcastsInDim S8192 (![] : Fin 0 → Fin S8192.rank)

variable [Facts]

def fn {F : FTy → Type} [FloatOps F] (main_arg0 : IVec S8192x128 32) (main_arg1 : FVec F S8192x8x128 .f32) : IVec S8192 1 :=
  let main_v0 : IVec S8192x1 32 := (extractStridedSlice S8192x1 ![0, 0] · slices_S8192x128_S8192x1_0_0) main_arg0
  let main_v1 : IVec S8192 32 := shapeCast S8192 main_v0 shapeCasts_S8192x1_S8192
  let main_c : IVec S_ 32 := constantI S_ 32 0#32
  let main_v2 : IVec S8192 32 := broadcastInDim S8192 ![] bcast_S_S8192 main_c
  let main_v3 : IVec S8192 1 := cmpi .sge main_v1 main_v2
  let main_v4 : IVec S8192x1 32 := (extractStridedSlice S8192x1 ![0, 0] · slices_S8192x128_S8192x1_0_0) main_arg0
  let main_v5 : IVec S8192 32 := shapeCast S8192 main_v4 shapeCasts_S8192x1_S8192
  let main_c_0 : IVec S_ 32 := constantI S_ 32 4#32
  let main_v6 : IVec S8192 32 := broadcastInDim S8192 ![] bcast_S_S8192 main_c_0
  let main_v7 : IVec S8192 1 := cmpi .slt main_v5 main_v6
  let main_v8 : IVec S8192 1 := andi main_v3 main_v7
  main_v8
-- ==== Kernel.lean ====
abbrev S8192x128 : Shape := ⟨2, ![8192, 128]⟩
abbrev S8192x8x128 : Shape := ⟨3, ![8192, 8, 128]⟩
abbrev S8192x1 : Shape := ⟨2, ![8192, 1]⟩
abbrev S8192 : Shape := ⟨1, ![8192]⟩
abbrev S4 : Shape := ⟨1, ![4]⟩
abbrev S1x4 : Shape := ⟨2, ![1, 4]⟩
abbrev S8192x4 : Shape := ⟨2, ![8192, 4]⟩
abbrev S_ : Shape := ⟨0, ![]⟩
abbrev S20 : Shape := ⟨1, ![20]⟩
abbrev S20x1 : Shape := ⟨2, ![20, 1]⟩
abbrev S20x4 : Shape := ⟨2, ![20, 4]⟩
abbrev S1 : Shape := ⟨1, ![1]⟩
abbrev S10240x8x128 : Shape := ⟨3, ![10240, 8, 128]⟩
abbrev S1x8x128 : Shape := ⟨3, ![1, 8, 128]⟩
abbrev S8x128 : Shape := ⟨2, ![8, 128]⟩

abbrev nBuf : Space → Nat
  | .hbm => 73
  | .vmem => 0
  | .smem => 1
  | _ => 0

abbrev bufTy : (tb : Table) → Fin (tcTables nBuf tb) → BufTy
  | .hbm, ⟨0, _⟩ => ⟨S8192x128, .i32⟩
  | .hbm, ⟨1, _⟩ => ⟨S8192x8x128, .f32⟩
  | .hbm, ⟨2, _⟩ => ⟨S8192x1, .i32⟩
  | .hbm, ⟨3, _⟩ => ⟨S8192, .i32⟩
  | .hbm, ⟨4, _⟩ => ⟨S8192x1, .i32⟩
  | .hbm, ⟨5, _⟩ => ⟨S4, .i32⟩
  | .hbm, ⟨6, _⟩ => ⟨S1x4, .i32⟩
  | .hbm, ⟨7, _⟩ => ⟨S8192x4, .i32⟩
  | .hbm, ⟨8, _⟩ => ⟨S8192x4, .i32⟩
  | .hbm, ⟨9, _⟩ => ⟨S8192x4, .i1⟩
  | .hbm, ⟨10, _⟩ => ⟨S8192x4, .i32⟩
  | .hbm, ⟨11, _⟩ => ⟨S_, .i32⟩
  | .hbm, ⟨12, _⟩ => ⟨S_, .i32⟩
  | .hbm, ⟨13, _⟩ => ⟨S8192x4, .i32⟩
  | .hbm, ⟨14, _⟩ => ⟨S8192x4, .i32⟩
  | .hbm, ⟨15, _⟩ => ⟨S_, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S1x4, .i32⟩
  | .hbm, ⟨21, _⟩ => ⟨S4, .i32⟩
  | .hbm, ⟨22, _⟩ => ⟨S_, .i32⟩
  | .hbm, ⟨23, _⟩ => ⟨S4, .i32⟩
  | .hbm, ⟨24, _⟩ => ⟨S4, .i32⟩
  | .hbm, ⟨25, _⟩ => ⟨S_, .i32⟩
  | .hbm, ⟨26, _⟩ => ⟨S4, .i32⟩
  | .hbm, ⟨27, _⟩ => ⟨S4, .i32⟩
  | .hbm, ⟨28, _⟩ => ⟨S_, .i32⟩
  | .hbm, ⟨29, _⟩ => ⟨S_, .i32⟩
  | .hbm, ⟨30, _⟩ => ⟨S4, .i32⟩
  | .hbm, ⟨31, _⟩ => ⟨S4, .i32⟩
  | .hbm, ⟨32, _⟩ => ⟨S4, .i32⟩
  | .hbm, ⟨33, _⟩ => ⟨S_, .i32⟩
  | .hbm, ⟨34, _⟩ => ⟨S4, .i32⟩
  | .hbm, ⟨35, _⟩ => ⟨S4, .i1⟩
  | .hbm, ⟨36, _⟩ => ⟨S4, .i32⟩
  | .hbm, ⟨37, _⟩ => ⟨S4, .i32⟩
  | .hbm, ⟨38, _⟩ => ⟨S_, .i32⟩
  | .hbm, ⟨39, _⟩ => ⟨S4, .i32⟩
  | .hbm, ⟨40, _⟩ => ⟨S4, .i1⟩
  | .hbm, ⟨41, _⟩ => ⟨S4, .i1⟩
  | .hbm, ⟨42, _⟩ => ⟨S_, .i32⟩
  | .hbm, ⟨43, _⟩ => ⟨S4, .i32⟩
  | .hbm, ⟨44, _⟩ => ⟨S4, .i32⟩
  | .hbm, ⟨45, _⟩ => ⟨S4, .i32⟩
  | .hbm, ⟨46, _⟩ => ⟨S_, .i32⟩
  | .hbm, ⟨47, _⟩ => ⟨S_, .i32⟩
  | .hbm, ⟨48, _⟩ => ⟨S4, .i32⟩
  | .hbm, ⟨49, _⟩ => ⟨S4, .i32⟩
  | .hbm, ⟨50, _⟩ => ⟨S_, .i32⟩
  | .hbm, ⟨51, _⟩ => ⟨S4, .i32⟩
  | .hbm, ⟨52, _⟩ => ⟨S4, .i32⟩
  | .hbm, ⟨53, _⟩ => ⟨S1x4, .i32⟩
  | .hbm, ⟨54, _⟩ => ⟨S8192x4, .i32⟩
  | .hbm, ⟨55, _⟩ => ⟨S8192x4, .i32⟩
  | .hbm, ⟨56, _⟩ => ⟨S_, .i32⟩
  | .hbm, ⟨57, _⟩ => ⟨S8192, .i32⟩
  | .hbm, ⟨58, _⟩ => ⟨S20, .i32⟩
  | .hbm, ⟨59, _⟩ => ⟨S20x1, .i32⟩
  | .hbm, ⟨60, _⟩ => ⟨S1x4, .i32⟩
  | .hbm, ⟨61, _⟩ => ⟨S20x4, .i32⟩
  | .hbm, ⟨62, _⟩ => ⟨S20x4, .i32⟩
  | .hbm, ⟨63, _⟩ => ⟨S20x4, .i1⟩
  | .hbm, ⟨64, _⟩ => ⟨S20x4, .i32⟩
  | .hbm, ⟨65, _⟩ => ⟨S_, .i32⟩
  | .hbm, ⟨66, _⟩ => ⟨S20, .i32⟩
  | .hbm, ⟨67, _⟩ => ⟨S_, .i32⟩
  | .hbm, ⟨68, _⟩ => ⟨S20, .i32⟩
  | .hbm, ⟨69, _⟩ => ⟨S20, .i32⟩
  | .hbm, ⟨70, _⟩ => ⟨S1, .i32⟩
  | .hbm, ⟨71, _⟩ => ⟨S_, .f32⟩
  | .hbm, ⟨72, _⟩ => ⟨S10240x8x128, .f32⟩
  | .local _ .smem, ⟨0, _⟩ => ⟨S8192, .i32⟩
  | _, _ => ⟨S8192x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_call0_c : Ref sig .tc := ⟨.hbm, 11, rfl⟩
abbrev main_call0_call0_v0 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v20 : Ref sig .tc := ⟨.hbm, 45, rfl⟩
abbrev main_call2_call0_c : Ref sig .tc := ⟨.hbm, 46, rfl⟩
abbrev main_call2_call0_v0 : Ref sig .tc := ⟨.hbm, 47, rfl⟩
abbrev main_v21 : Ref sig .tc := ⟨.hbm, 48, rfl⟩
abbrev main_v22 : Ref sig .tc := ⟨.hbm, 49, rfl⟩
abbrev main_c_4 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_5 : Ref sig .tc := ⟨.hbm, 56, rfl⟩
abbrev main_v28 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_6 : Ref sig .tc := ⟨.hbm, 65, rfl⟩
abbrev main_v37 : Ref sig .tc := ⟨.hbm, 66, rfl⟩
abbrev main_c_7 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst : Ref sig .tc := ⟨.hbm, 71, rfl⟩
abbrev main_v41 : Ref sig .tc := ⟨.hbm, 72, rfl⟩
abbrev main_v29 : Ref sig .tc := ⟨.smem, 0, rfl⟩

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v29.idx], fun | 0 => main_v29.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c256_i32_0 : BitVec 32 := 256#32
  let v1 : BitVec 32 := Scalar.addi c0_i32 c256_i32_0
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg6 : BitVec 32 := Scf.iv c0_i32 c1_i32 k0_t1
  let v3 : BitVec 32 := Scalar.addi v0 arg6
  let v4 : Index := Scalar.indexCast v3
  ![v4.toNat]
def k0_off2 (v5 : BitVec 32) : Fin 3 → Nat :=
  let c0_i32_5 : BitVec 32 := 0#32
  let c0_i32_6 : BitVec 32 := 0#32
  ![v5.toNat, 0, 0]

def k0_chk1 (v5 : BitVec 32) : Prop :=
  (∀ a, (k0_off2 v5) a + S1x8x128.size a ≤ S10240x8x128.size a)
theorem k0_off2_inb : ∀ (v5 : BitVec 32) (k0_hw1 : k0_chk1 v5), ∀ a, (k0_off2 v5) a + S1x8x128.size a ≤ S10240x8x128.size a := fun v5 k0_hw1 => k0_hw1

def k0_off3 (i : grid0.Coords) (k0_t1 : Fin k0_t1_loop.trips) : Fin 3 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg6 : BitVec 32 := Scf.iv c0_i32 c1_i32 k0_t1
  let v3 : BitVec 32 := Scalar.addi v0 arg6
  let c0_i32_7 : BitVec 32 := 0#32
  let c0_i32_8 : BitVec 32 := 0#32
  ![v3.toNat, 0, 0]
@[reducible] def k0_t2_loop : Scf.Loop 32 :=
  let c0_i32_2 : BitVec 32 := 0#32
  let c256_i32_3 : BitVec 32 := 256#32
  let v2 : BitVec 32 := Scalar.addi c0_i32_2 c256_i32_3
  let c1_i32_4 : BitVec 32 := 1#32
  ⟨c0_i32_2, v2, c1_i32_4⟩
-- ==== Reference.lean ====
abbrev S8192x128 : Shape := ⟨2, ![8192, 128]⟩
abbrev S8192x8x128 : Shape := ⟨3, ![8192, 8, 128]⟩
abbrev S8192x1 : Shape := ⟨2, ![8192, 1]⟩
abbrev S8192 : Shape := ⟨1, ![8192]⟩
abbrev S1x8192 : Shape := ⟨2, ![1, 8192]⟩
abbrev S8192x8192 : Shape := ⟨2, ![8192, 8192]⟩
abbrev S_ : Shape := ⟨0, ![]⟩
abbrev S4 : Shape := ⟨1, ![4]⟩
abbrev S1x4 : Shape := ⟨2, ![1, 4]⟩
abbrev S8192x4 : Shape := ⟨2, ![8192, 4]⟩
abbrev S10240x8x128 : Shape := ⟨3, ![10240, 8, 128]⟩

abbrev nBuf : Space → Nat
  | .hbm => 77
  | .vmem => 0
  | .smem => 0
  | _ => 0

abbrev bufTy : (tb : Table) → Fin (tcTables nBuf tb) → BufTy
  | .hbm, ⟨0, _⟩ => ⟨S8192x128, .i32⟩
  | .hbm, ⟨1, _⟩ => ⟨S8192x8x128, .f32⟩
  | .hbm, ⟨2, _⟩ => ⟨S8192x1, .i32⟩
  | .hbm, ⟨3, _⟩ => ⟨S8192, .i32⟩
  | .hbm, ⟨4, _⟩ => ⟨S8192, .i32⟩
  | .hbm, ⟨5, _⟩ => ⟨S8192x1, .i32⟩
  | .hbm, ⟨6, _⟩ => ⟨S1x8192, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8192x8192, .i1⟩
  | .hbm, ⟨16, _⟩ => ⟨S8192x8192, .i32⟩
  | .hbm, ⟨17, _⟩ => ⟨S_, .i32⟩
  | .hbm, ⟨18, _⟩ => ⟨S8192, .i32⟩
  | .hbm, ⟨19, _⟩ => ⟨S4, .i32⟩
  | .hbm, ⟨20, _⟩ => ⟨S8192x1, .i32⟩
  | .hbm, ⟨21, _⟩ => ⟨S1x4, .i32⟩
  | .hbm, ⟨22, _⟩ => ⟨S8192x4, .i32⟩
  | .hbm, ⟨23, _⟩ => ⟨S8192x4, .i32⟩
  | .hbm, ⟨24, _⟩ => ⟨S8192x4, .i1⟩
  | .hbm, ⟨25, _⟩ => ⟨S8192x4, .i32⟩
  | .hbm, ⟨26, _⟩ => ⟨S_, .i32⟩
  | .hbm, ⟨27, _⟩ => ⟨S4, .i32⟩
  | .hbm, ⟨28, _⟩ => ⟨S_, .i32⟩
  | .hbm, ⟨29, _⟩ => ⟨S4, .i32⟩
  | .hbm, ⟨30, _⟩ => ⟨S4, .i32⟩
  | .hbm, ⟨31, _⟩ => ⟨S_, .i32⟩
  | .hbm, ⟨32, _⟩ => ⟨S_, .i32⟩
  | .hbm, ⟨33, _⟩ => ⟨S4, .i32⟩
  | .hbm, ⟨34, _⟩ => ⟨S4, .i32⟩
  | .hbm, ⟨35, _⟩ => ⟨S4, .i32⟩
  | .hbm, ⟨36, _⟩ => ⟨S_, .i32⟩
  | .hbm, ⟨37, _⟩ => ⟨S4, .i32⟩
  | .hbm, ⟨38, _⟩ => ⟨S4, .i1⟩
  | .hbm, ⟨39, _⟩ => ⟨S4, .i32⟩
  | .hbm, ⟨40, _⟩ => ⟨S4, .i32⟩
  | .hbm, ⟨41, _⟩ => ⟨S_, .i32⟩
  | .hbm, ⟨42, _⟩ => ⟨S4, .i32⟩
  | .hbm, ⟨43, _⟩ => ⟨S4, .i1⟩
  | .hbm, ⟨44, _⟩ => ⟨S4, .i1⟩
  | .hbm, ⟨45, _⟩ => ⟨S_, .i32⟩
  | .hbm, ⟨46, _⟩ => ⟨S4, .i32⟩
  | .hbm, ⟨47, _⟩ => ⟨S4, .i32⟩
  | .hbm, ⟨48, _⟩ => ⟨S4, .i32⟩
  | .hbm, ⟨49, _⟩ => ⟨S_, .i32⟩
  | .hbm, ⟨50, _⟩ => ⟨S4, .i32⟩
  | .hbm, ⟨51, _⟩ => ⟨S4, .i32⟩
  | .hbm, ⟨52, _⟩ => ⟨S1x4, .i32⟩
  | .hbm, ⟨53, _⟩ => ⟨S8192x1, .i32⟩
  | .hbm, ⟨54, _⟩ => ⟨S8192x4, .i32⟩
  | .hbm, ⟨55, _⟩ => ⟨S8192x4, .i32⟩
  | .hbm, ⟨56, _⟩ => ⟨S8192x4, .i1⟩
  | .hbm, ⟨57, _⟩ => ⟨S1x4, .i32⟩
  | .hbm, ⟨58, _⟩ => ⟨S_, .i32⟩
  | .hbm, ⟨59, _⟩ => ⟨S_, .i32⟩
  | .hbm, ⟨60, _⟩ => ⟨S8192x4, .i32⟩
  | .hbm, ⟨61, _⟩ => ⟨S8192x4, .i32⟩
  | .hbm, ⟨62, _⟩ => ⟨S8192x4, .i32⟩
  | .hbm, ⟨63, _⟩ => ⟨S_, .i32⟩
  | .hbm, ⟨64, _⟩ => ⟨S8192, .i32⟩
  | .hbm, ⟨65, _⟩ => ⟨S_, .f32⟩
  | .hbm, ⟨66, _⟩ => ⟨S10240x8x128, .f32⟩
  | .hbm, ⟨67, _⟩ => ⟨S8192, .i32⟩
  | .hbm, ⟨68, _⟩ => ⟨S_, .i32⟩
  | .hbm, ⟨69, _⟩ => ⟨S8192, .i32⟩
  | .hbm, ⟨70, _⟩ => ⟨S8192, .i1⟩
  | .hbm, ⟨71, _⟩ => ⟨S_, .i32⟩
  | .hbm, ⟨72, _⟩ => ⟨S8192, .i32⟩
  | .hbm, ⟨73, _⟩ => ⟨S8192, .i32⟩
  | .hbm, ⟨74, _⟩ => ⟨S8192, .i32⟩
  | .hbm, ⟨75, _⟩ => ⟨S8192x1, .i32⟩
  | .hbm, ⟨76, _⟩ => ⟨S10240x8x128, .f32⟩
  | _, _ => ⟨S8192x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_c_0 : Ref sig .tc := ⟨.hbm, 26, rfl⟩
abbrev main_v23 : Ref sig .tc := ⟨.hbm, 27, rfl⟩
abbrev main_c_1 : Ref sig .tc := ⟨.hbm, 28, rfl⟩
abbrev main_v24 : Ref sig .tc := ⟨.hbm, 29, rfl⟩
abbrev main_v25 : Ref sig .tc := ⟨.hbm, 30, rfl⟩
abbrev main_c_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v26 : Ref sig .tc := ⟨.hbm, 48, rfl⟩
abbrev main_c_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_4 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v35 : Ref sig .tc := ⟨.hbm, 62, rfl⟩
abbrev main_c_5 : Ref sig .tc := ⟨.hbm, 63, rfl⟩
abbrev main_v36 : Ref sig .tc := ⟨.hbm, 64, rfl⟩
abbrev main_cst : Ref sig .tc := ⟨.hbm, 65, rfl⟩
abbrev main_v37 : Ref sig .tc := ⟨.hbm, 66, rfl⟩
abbrev main_v38 : Ref sig .tc := ⟨.hbm, 67, rfl⟩
abbrev main_c_6 : Ref sig .tc := ⟨.hbm, 68, rfl⟩
abbrev main_v39 : Ref sig .tc := ⟨.hbm, 69, rfl⟩
abbrev main_v40 : Ref sig .tc := ⟨.hbm, 70, rfl⟩
abbrev main_c_7 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩

abbrev nD : Nat := 1
abbrev τ : Topo := Topo.v7x

variable {F : FTy → Type} [FloatOps F]
-- ==== NormPrompt.lean ====
abbrev S8192x1024 : Shape := ⟨2, ![8192, 1024]⟩
abbrev S1024 : Shape := ⟨1, ![1024]⟩
abbrev S1x1024 : Shape := ⟨2, ![1, 1024]⟩
abbrev S4096x1024 : Shape := ⟨2, ![4096, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormPromptRefIdeal.lean ====
abbrev S8192x1024 : Shape := ⟨2, ![8192, 1024]⟩
abbrev S1024 : Shape := ⟨1, ![1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormSample.lean ====
abbrev S8192x1024 : Shape := ⟨2, ![8192, 1024]⟩
abbrev S1024 : Shape := ⟨1, ![1024]⟩
abbrev S1x1024 : Shape := ⟨2, ![1, 1024]⟩
abbrev S4096x1024 : Shape := ⟨2, ![4096, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormSampleRefIdeal.lean ====
abbrev S8192x1024 : Shape := ⟨2, ![8192, 1024]⟩
abbrev S1024 : Shape := ⟨1, ![1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Grouped.lean ====
abbrev S8192x128 : Shape := ⟨2, ![8192, 128]⟩
abbrev S10240x8x128 : Shape := ⟨3, ![10240, 8, 128]⟩
abbrev S1024x4 : Shape := ⟨2, ![1024, 4]⟩
abbrev S4 : Shape := ⟨1, ![4]⟩
abbrev S1024x4x4 : Shape := ⟨3, ![1024, 4, 4]⟩
abbrev S4x4 : Shape := ⟨2, ![4, 4]⟩
abbrev S4x4x1024x512 : Shape := ⟨4, ![4, 4, 1024, 512]⟩
abbrev S4x4x512x1024 : Shape := ⟨4, ![4, 4, 512, 1024]⟩
abbrev S8192x1 : Shape := ⟨2, ![8192, 1]⟩
abbrev S8192 : Shape := ⟨1, ![8192]⟩
abbrev S1x4 : Shape := ⟨2, ![1, 4]⟩
abbrev S8192x4 : Shape := ⟨2, ![8192, 4]⟩
abbrev S_ : Shape := ⟨0, ![]⟩
abbrev S20 : Shape := ⟨1, ![20]⟩
abbrev S20x1 : Shape := ⟨2, ![20, 1]⟩
abbrev S20x4 : Shape := ⟨2, ![20, 4]⟩
abbrev S1 : Shape := ⟨1, ![1]⟩
abbrev S1024x128 : Shape := ⟨2, ![1024, 128]⟩
abbrev S1024x16 : Shape := ⟨2, ![1024, 16]⟩
abbrev S1x128 : Shape := ⟨2, ![1, 128]⟩
abbrev S2 : Shape := ⟨1, ![2]⟩
abbrev S16 : Shape := ⟨1, ![16]⟩
abbrev S16x1024x512 : Shape := ⟨3, ![16, 1024, 512]⟩
abbrev S16x512x1024 : Shape := ⟨3, ![16, 512, 1024]⟩
abbrev S512x8x128 : Shape := ⟨3, ![512, 8, 128]⟩
abbrev S1x1024x512 : Shape := ⟨3, ![1, 1024, 512]⟩
abbrev S1x512x1024 : Shape := ⟨3, ![1, 512, 1024]⟩
abbrev S512x1024 : Shape := ⟨2, ![512, 1024]⟩
abbrev S512x128 : Shape := ⟨2, ![512, 128]⟩
abbrev S512x1x128 : Shape := ⟨3, ![512, 1, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 120
  | .vmem => 15
  | .smem => 2
  | _ => 0

abbrev bufTy : (tb : Table) → Fin (tcTables nBuf tb) → BufTy
  | .hbm, ⟨0, _⟩ => ⟨S8192x128, .i32⟩
  | .hbm, ⟨1, _⟩ => ⟨S10240x8x128, .f32⟩
  | .hbm, ⟨2, _⟩ => ⟨S1024x4, .f32⟩
  | .hbm, ⟨3, _⟩ => ⟨S4, .f32⟩
  | .hbm, ⟨4, _⟩ => ⟨S1024x4x4, .f32⟩
  | .hbm, ⟨5, _⟩ => ⟨S4x4, .f32⟩
  | .hbm, ⟨6, _⟩ => ⟨S4x4x1024x512, .f32⟩
  | .hbm, ⟨7, _⟩ => ⟨S4x4x1024x512, .f32⟩
  | .hbm, ⟨8, _⟩ => ⟨S4x4x512x1024, .f32⟩
  | .hbm, ⟨9, _⟩ => ⟨S8192x1, .i32⟩
  | .hbm, ⟨10, _⟩ => ⟨S8192, .i32⟩
  | .hbm, ⟨11, _⟩ => ⟨S8192x1, .i32⟩
  | .hbm, ⟨12, _⟩ => ⟨S4, .i32⟩
  | .hbm, ⟨13, _⟩ => ⟨S1x4, .i32⟩
  | .hbm, ⟨14, _⟩ => ⟨S8192x4, .i32⟩
  | .hbm, ⟨15, _⟩ => ⟨S8192x4, .i32⟩
  | .hbm, ⟨16, _⟩ => ⟨S8192x4, .i1⟩
  | .hbm, ⟨17, _⟩ => ⟨S8192x4, .i32⟩
  | .hbm, ⟨18, _⟩ => ⟨S_, .i32⟩
  | .hbm, ⟨19, _⟩ => ⟨S_, .i32⟩
  | .hbm, ⟨20, _⟩ => ⟨S8192x4, .i32⟩
  | .hbm, ⟨21, _⟩ => ⟨S8192x4, .i32⟩
  | .hbm, ⟨22, _⟩ => ⟨S_, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S1x4, .i32⟩
  | .hbm, ⟨28, _⟩ => ⟨S4, .i32⟩
  | .hbm, ⟨29, _⟩ => ⟨S_, .i32⟩
  | .hbm, ⟨30, _⟩ => ⟨S4, .i32⟩
  | .hbm, ⟨31, _⟩ => ⟨S4, .i32⟩
  | .hbm, ⟨32, _⟩ => ⟨S_, .i32⟩
  | .hbm, ⟨33, _⟩ => ⟨S4, .i32⟩
  | .hbm, ⟨34, _⟩ => ⟨S4, .i32⟩
  | .hbm, ⟨35, _⟩ => ⟨S_, .i32⟩
  | .hbm, ⟨36, _⟩ => ⟨S_, .i32⟩
  | .hbm, ⟨37, _⟩ => ⟨S4, .i32⟩
  | .hbm, ⟨38, _⟩ => ⟨S4, .i32⟩
  | .hbm, ⟨39, _⟩ => ⟨S4, .i32⟩
  | .hbm, ⟨40, _⟩ => ⟨S_, .i32⟩
  | .hbm, ⟨41, _⟩ => ⟨S4, .i32⟩
  | .hbm, ⟨42, _⟩ => ⟨S4, .i1⟩
  | .hbm, ⟨43, _⟩ => ⟨S4, .i32⟩
  | .hbm, ⟨44, _⟩ => ⟨S4, .i32⟩
  | .hbm, ⟨45, _⟩ => ⟨S_, .i32⟩
  | .hbm, ⟨46, _⟩ => ⟨S4, .i32⟩
  | .hbm, ⟨47, _⟩ => ⟨S4, .i1⟩
  | .hbm, ⟨48, _⟩ => ⟨S4, .i1⟩
  | .hbm, ⟨49, _⟩ => ⟨S_, .i32⟩
  | .hbm, ⟨50, _⟩ => ⟨S4, .i32⟩
  | .hbm, ⟨51, _⟩ => ⟨S4, .i32⟩
  | .hbm, ⟨52, _⟩ => ⟨S4, .i32⟩
  | .hbm, ⟨53, _⟩ => ⟨S_, .i32⟩
  | .hbm, ⟨54, _⟩ => ⟨S_, .i32⟩
  | .hbm, ⟨55, _⟩ => ⟨S4, .i32⟩
  | .hbm, ⟨56, _⟩ => ⟨S4, .i32⟩
  | .hbm, ⟨57, _⟩ => ⟨S_, .i32⟩
  | .hbm, ⟨58, _⟩ => ⟨S4, .i32⟩
  | .hbm, ⟨59, _⟩ => ⟨S4, .i32⟩
  | .hbm, ⟨60, _⟩ => ⟨S1x4, .i32⟩
  | .hbm, ⟨61, _⟩ => ⟨S8192x4, .i32⟩
  | .hbm, ⟨62, _⟩ => ⟨S8192x4, .i32⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S20, .i32⟩
  | .hbm, ⟨67, _⟩ => ⟨S20x1, .i32⟩
  | .hbm, ⟨68, _⟩ => ⟨S1x4, .i32⟩
  | .hbm, ⟨69, _⟩ => ⟨S20x4, .i32⟩
  | .hbm, ⟨70, _⟩ => ⟨S20x4, .i32⟩
  | .hbm, ⟨71, _⟩ => ⟨S20x4, .i1⟩
  | .hbm, ⟨72, _⟩ => ⟨S20x4, .i32⟩
  | .hbm, ⟨73, _⟩ => ⟨S_, .i32⟩
  | .hbm, ⟨74, _⟩ => ⟨S20, .i32⟩
  | .hbm, ⟨75, _⟩ => ⟨S_, .i32⟩
  | .hbm, ⟨76, _⟩ => ⟨S20, .i32⟩
  | .hbm, ⟨77, _⟩ => ⟨S20, .i32⟩
  | .hbm, ⟨78, _⟩ => ⟨S_, .f32⟩
  | .hbm, ⟨79, _⟩ => ⟨S1024x128, .f32⟩
  | .hbm, ⟨80, _⟩ => ⟨S_, .i32⟩
  | .hbm, ⟨81, _⟩ => ⟨S1, .i32⟩
  | .hbm, ⟨82, _⟩ => ⟨S1024x128, .f32⟩
  | .hbm, ⟨83, _⟩ => ⟨S1024x16, .f32⟩
  | .hbm, ⟨84, _⟩ => ⟨S_, .i32⟩
  | .hbm, ⟨85, _⟩ => ⟨S1, .i32⟩
  | .hbm, ⟨86, _⟩ => ⟨S1024x128, .f32⟩
  | .hbm, ⟨87, _⟩ => ⟨S_, .f32⟩
  | .hbm, ⟨88, _⟩ => ⟨S1x128, .f32⟩
  | .hbm, ⟨89, _⟩ => ⟨S_, .i32⟩
  | .hbm, ⟨90, _⟩ => ⟨S1, .i32⟩
  | .hbm, ⟨91, _⟩ => ⟨S_, .i32⟩
  | .hbm, ⟨92, _⟩ => ⟨S1, .i32⟩
  | .hbm, ⟨93, _⟩ => ⟨S2, .i32⟩
  | .hbm, ⟨94, _⟩ => ⟨S1x128, .f32⟩
  | .hbm, ⟨95, _⟩ => ⟨S16, .f32⟩
  | .hbm, ⟨96, _⟩ => ⟨S_, .i32⟩
  | .hbm, ⟨97, _⟩ => ⟨S1, .i32⟩
  | .hbm, ⟨98, _⟩ => ⟨S_, .i32⟩
  | .hbm, ⟨99, _⟩ => ⟨S1, .i32⟩
  | .hbm, ⟨100, _⟩ => ⟨S2, .i32⟩
  | .hbm, ⟨101, _⟩ => ⟨S1x128, .f32⟩
  | .hbm, ⟨102, _⟩ => ⟨S16x1024x512, .f32⟩
  | .hbm, ⟨103, _⟩ => ⟨S16x1024x512, .f32⟩
  | .hbm, ⟨104, _⟩ => ⟨S16x512x1024, .f32⟩
  | .hbm, ⟨105, _⟩ => ⟨S20, .i32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S20, .i32⟩
  | .hbm, ⟨110, _⟩ => ⟨S20, .i32⟩
  | .hbm, ⟨111, _⟩ => ⟨S_, .i32⟩
  | .hbm, ⟨112, _⟩ => ⟨S20, .i32⟩
  | .hbm, ⟨113, _⟩ => ⟨S20, .i1⟩
  | .hbm, ⟨114, _⟩ => ⟨S_, .i32⟩
  | .hbm, ⟨115, _⟩ => ⟨S20, .i32⟩
  | .hbm, ⟨116, _⟩ => ⟨S20, .i32⟩
  | .hbm, ⟨117, _⟩ => ⟨S20, .i32⟩
  | .hbm, ⟨118, _⟩ => ⟨S20x1, .i32⟩
  | .hbm, ⟨119, _⟩ => ⟨S10240x8x128, .f32⟩
  | .local _ .vmem, ⟨0, _⟩ => ⟨S512x8x128, .f32⟩
  | .local _ .vmem, ⟨1, _⟩ => ⟨S512x8x128, .f32⟩
  | .local _ .vmem, ⟨2, _⟩ => ⟨S1024x128, .f32⟩
  | .local _ .vmem, ⟨3, _⟩ => ⟨S1x128, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1x512x1024, .f32⟩
  | .local _ .vmem, ⟨9, _⟩ => ⟨S1x512x1024, .f32⟩
  | .local _ .vmem, ⟨10, _⟩ => ⟨S512x8x128, .f32⟩
  | .local _ .vmem, ⟨11, _⟩ => ⟨S512x8x128, .f32⟩
  | .local _ .vmem, ⟨12, _⟩ => ⟨S512x1024, .f32⟩
  | .local _ .vmem, ⟨13, _⟩ => ⟨S512x128, .f32⟩
  | .local _ .vmem, ⟨14, _⟩ => ⟨S512x1024, .bf16⟩
  | .local _ .smem, ⟨0, _⟩ => ⟨S20, .i32⟩
  | .local _ .smem, ⟨1, _⟩ => ⟨S1, .i32⟩
  | _, _ => ⟨S8192x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_call0_c : Ref sig .tc := ⟨.hbm, 18, rfl⟩
abbrev main_call0_call0_v0 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v20 : Ref sig .tc := ⟨.hbm, 52, rfl⟩
abbrev main_call2_call0_c : Ref sig .tc := ⟨.hbm, 53, rfl⟩
abbrev main_call2_call0_v0 : Ref sig .tc := ⟨.hbm, 54, rfl⟩
abbrev main_v21 : Ref sig .tc := ⟨.hbm, 55, rfl⟩
abbrev main_v22 : Ref sig .tc := ⟨.hbm, 56, rfl⟩
abbrev main_c_4 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_c_5 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_c_6 : Ref sig .tc := ⟨.hbm, 73, rfl⟩
abbrev main_v37 : Ref sig .tc := ⟨.hbm, 74, rfl⟩
abbrev main_c_7 : Ref sig .tc := ⟨.hbm, 75, rfl⟩
abbrev main_v38 : Ref sig .tc := ⟨.hbm, 76, rfl⟩
abbrev main_v39 : Ref sig .tc := ⟨.hbm, 77, rfl⟩
abbrev main_cst : Ref sig .tc := ⟨.hbm, 78, rfl⟩
abbrev main_v41 : Ref sig .tc := ⟨.hbm, 79, rfl⟩
abbrev main_c_8 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_c_9 : Ref sig .tc := ⟨.hbm, 84, rfl⟩
abbrev main_v45 : Ref sig .tc := ⟨.hbm, 85, rfl⟩
abbrev main_v46 : Ref sig .tc := ⟨.hbm, 86, rfl⟩
abbrev main_cst_10 : Ref sig .tc := ⟨.hbm, 87, rfl⟩
abbrev main_v47 : Ref sig .tc := ⟨.hbm, 88, rfl⟩
abbrev main_c_11 : Ref sig .tc := ⟨.hbm, 89, rfl⟩
abbrev main_v48 : Ref sig .tc := ⟨.hbm, 90, rfl⟩
abbrev main_c_12 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_c_13 : Ref sig .tc := ⟨.hbm, 96, rfl⟩
abbrev main_v53 : Ref sig .tc := ⟨.hbm, 97, rfl⟩
abbrev main_c_14 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_15 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_c_16 : Ref sig .tc := ⟨.hbm, 111, rfl⟩
abbrev main_v65 : Ref sig .tc := ⟨.hbm, 112, rfl⟩
abbrev main_v66 : Ref sig .tc := ⟨.hbm, 113, rfl⟩
abbrev main_c_17 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v72 : Ref sig .tc := ⟨.hbm, 119, rfl⟩
abbrev main_v71 : Ref sig .tc := ⟨.smem, 0, rfl⟩
abbrev main_v40 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![20, 4], ![false, false]⟩

abbrev pre0 : Pipeline.Prefetch sig := ⟨2, ![main_v71.idx, main_v40.idx], fun | 0 => main_v71.names | 1 => main_v40.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c0_i32_2 : BitVec 32 := 0#32
  let v10 : BitVec 1 := Scalar.cmpi .eq arg1 c0_i32_2
  let v11 : BitVec 32 := Scalar.extui v10
  let c0_i32_3 : BitVec 32 := 0#32
  let v12 : BitVec 1 := Scalar.cmpi .ne v11 c0_i32_3
  v12

def k0_off2 (i : grid0.Coords) : Fin 1 → Nat :=
  let arg0 : BitVec 32 := BitVec.ofNat 32 (i 0).val
  let v93 : Index := Scalar.indexCast arg0
  ![v93.toNat]
def k0_off3 (i : grid0.Coords) : Fin 1 → Nat :=
  let arg0 : BitVec 32 := BitVec.ofNat 32 (i 0).val
  let v16 : Index := Scalar.indexCast arg0
  ![v16.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c3_i32_29 : BitVec 32 := 3#32
  let v56 : BitVec 1 := Scalar.cmpi .eq arg1 c3_i32_29
  let v57 : BitVec 32 := Scalar.extui v56
  let c0_i32_30 : BitVec 32 := 0#32
  let v58 : BitVec 1 := Scalar.cmpi .ne v57 c0_i32_30
  v58

def k0_cond4 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c3_i32 : BitVec 32 := 3#32
  let v6 : BitVec 1 := Scalar.cmpi .eq arg1 c3_i32
  let v7 : BitVec 1 := Scalar.andi v5 v6
  let v8 : BitVec 32 := Scalar.extui v7
  let c0_i32_1 : BitVec 32 := 0#32
  let v9 : BitVec 1 := Scalar.cmpi .ne v8 c0_i32_1
  v9

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S20.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S20) ![v0.toNat] S1.size (k0_off1_inb i)) numel1_S1
  let c4_i32 : BitVec 32 := 4#32
  let v2 : BitVec 32 := Scalar.muli v1 c4_i32
  let c0_i32 : BitVec 32 := 0#32
  let v3 : BitVec 32 := Scalar.addi c0_i32 v2
  let c0 : Index := 0#32
  let v4 : BitVec 32 := pf.at 1 (Rect.unit (s := S1) ![0] S1.size inb_S1_S1_0) numel1_S1
  let v5 : BitVec 1 := Scalar.cmpi .slt arg0 v4
  let c3_i32 : BitVec 32 := 3#32
  let v6 : BitVec 32 := Scalar.select v5 arg1 c3_i32
  let v7 : BitVec 32 := Scalar.addi v3 v6
  let c0_i32_0 : BitVec 32 := 0#32
  let c0_i32_1 : BitVec 32 := 0#32
  let c0_i32_2 : BitVec 32 := 0#32
  ![v7.toNat, c0_i32_0.toNat, c0_i32_1.toNat]

def cc0_transform_4 (k0_off1_inb : ∀ i : grid0.Coords, ∀ a, (k0_off1 i) a + S1.size a ≤ S20.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S20) ![v0.toNat] S1.size (k0_off1_inb i)) numel1_S1
  let c4_i32 : BitVec 32 := 4#32
  let v2 : BitVec 32 := Scalar.muli v1 c4_i32
  let c0_i32 : BitVec 32 := 0#32
  let v3 : BitVec 32 := Scalar.addi c0_i32 v2
  let c0 : Index := 0#32
  let v4 : BitVec 32 := pf.at 1 (Rect.unit (s := S1) ![0] S1.size inb_S1_S1_0) numel1_S1
  let v5 : BitVec 1 := Scalar.cmpi .slt arg0 v4
  let c3_i32 : BitVec 32 := 3#32
  let v6 : BitVec 32 := Scalar.select v5 arg1 c3_i32
  let v7 : BitVec 32 := Scalar.addi v3 v6
  let c0_i32_0 : BitVec 32 := 0#32
  let c0_i32_1 : BitVec 32 := 0#32
  let c0_i32_2 : BitVec 32 := 0#32
  ![v7.toNat, c0_i32_0.toNat, c0_i32_1.toNat]

def cc0_transform_5 (k0_off1_inb : ∀ i : grid0.Coords, ∀ a, (k0_off1 i) a + S1.size a ≤ S20.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S20) ![v0.toNat] S1.size (k0_off1_inb i)) numel1_S1
  let c4_i32 : BitVec 32 := 4#32
  let v2 : BitVec 32 := Scalar.muli v1 c4_i32
  let c0_i32 : BitVec 32 := 0#32
  let v3 : BitVec 32 := Scalar.addi c0_i32 v2
  let c0 : Index := 0#32
  let v4 : BitVec 32 := pf.at 1 (Rect.unit (s := S1) ![0] S1.size inb_S1_S1_0) numel1_S1
  let v5 : BitVec 1 := Scalar.cmpi .slt arg0 v4
  let c3_i32 : BitVec 32 := 3#32
  let v6 : BitVec 32 := Scalar.select v5 arg1 c3_i32
  let v7 : BitVec 32 := Scalar.addi v3 v6
  let c0_i32_0 : BitVec 32 := 0#32
  let c0_i32_1 : BitVec 32 := 0#32
  let c0_i32_2 : BitVec 32 := 0#32
  ![v7.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== GroupedRefIdeal.lean ====
abbrev S8192x128 : Shape := ⟨2, ![8192, 128]⟩
abbrev S10240x8x128 : Shape := ⟨3, ![10240, 8, 128]⟩
abbrev S1024x4 : Shape := ⟨2, ![1024, 4]⟩
abbrev S4 : Shape := ⟨1, ![4]⟩
abbrev S1024x4x4 : Shape := ⟨3, ![1024, 4, 4]⟩
abbrev S4x4 : Shape := ⟨2, ![4, 4]⟩
abbrev S4x4x1024x512 : Shape := ⟨4, ![4, 4, 1024, 512]⟩
abbrev S4x4x512x1024 : Shape := ⟨4, ![4, 4, 512, 1024]⟩
abbrev S10240x1024 : Shape := ⟨2, ![10240, 1024]⟩
abbrev S8192x1 : Shape := ⟨2, ![8192, 1]⟩
abbrev S8192 : Shape := ⟨1, ![8192]⟩
abbrev S1x4 : Shape := ⟨2, ![1, 4]⟩
abbrev S8192x4 : Shape := ⟨2, ![8192, 4]⟩
abbrev S_ : Shape := ⟨0, ![]⟩
abbrev S4x1 : Shape := ⟨2, ![4, 1]⟩
abbrev S10240 : Shape := ⟨1, ![10240]⟩
abbrev S10240x1 : Shape := ⟨2, ![10240, 1]⟩
abbrev S10240x4 : Shape := ⟨2, ![10240, 4]⟩
abbrev S10240x4x4 : Shape := ⟨3, ![10240, 4, 4]⟩
abbrev S1x4x4 : Shape := ⟨3, ![1, 4, 4]⟩
abbrev S10240x4x1 : Shape := ⟨3, ![10240, 4, 1]⟩
abbrev S10240x1x4 : Shape := ⟨3, ![10240, 1, 4]⟩
abbrev S10240x4x4x512 : Shape := ⟨4, ![10240, 4, 4, 512]⟩
abbrev S10240x4x4x1 : Shape := ⟨4, ![10240, 4, 4, 1]⟩

abbrev nBuf : Space → Nat
  | .hbm => 166
  | .vmem => 0
  | .smem => 0
  | _ => 0

abbrev hbmTy0_0 (i : Nat) : BufTy := match i % 128 with
  | 0 => ⟨S8192x128, .i32⟩
  | 1 => ⟨S10240x8x128, .f32⟩
  | 2 => ⟨S1024x4, .f32⟩
  | 3 => ⟨S4, .f32⟩
  | 4 => ⟨S1024x4x4, .f32⟩
  | 5 => ⟨S4x4, .f32⟩
  | 6 => ⟨S4x4x1024x512, .f32⟩
  | 7 => ⟨S4x4x1024x512, .f32⟩
  | 8 => ⟨S4x4x512x1024, .f32⟩
  | 9 => ⟨S10240x1024, .f32⟩
  | 10 => ⟨S4, .i32⟩
  | 11 => ⟨S8192x1, .i32⟩
  | 12 => ⟨S8192, .i32⟩
  | 13 => ⟨S8192x1, .i32⟩
  | 14 => ⟨S1x4, .i32⟩
  | 15 => ⟨S8192x4, .i32⟩
  | 16 => ⟨S8192x4, .i32⟩
  | 17 => ⟨S8192x4, .i1⟩
  | 18 => ⟨S8192x4, .i32⟩
  | 19 => ⟨S_, .i32⟩
  | 20 => ⟨S4, .i32⟩
  | 21 => ⟨S_, .i32⟩
  | 22 => ⟨S4, .i32⟩
  | 23 => ⟨S4, .i32⟩
  | 24 => ⟨S_, .i32⟩
  | 25 => ⟨S_, .i32⟩
  | 26 => ⟨S4, .i32⟩
  | 27 => ⟨S4, .i32⟩
  | 28 => ⟨S4, .i32⟩
  | 29 => ⟨S_, .i32⟩
  | 30 => ⟨S4, .i32⟩
  | 31 => ⟨S4, .i1⟩
  | 32 => ⟨S4, .i32⟩
  | 33 => ⟨S4, .i32⟩
  | 34 => ⟨S_, .i32⟩
  | 35 => ⟨S4, .i32⟩
  | 36 => ⟨S4, .i1⟩
  | 37 => ⟨S4, .i1⟩
  | 38 => ⟨S_, .i32⟩
  | 39 => ⟨S4, .i32⟩
  | 40 => ⟨S4, .i32⟩
  | 41 => ⟨S4, .i32⟩
  | 42 => ⟨S_, .i32⟩
  | 43 => ⟨S4, .i32⟩
  | 44 => ⟨S4, .i32⟩
  | 45 => ⟨S1x4, .i32⟩
  | 46 => ⟨S4x1, .i32⟩
  | 47 => ⟨S4x4, .i32⟩
  | 48 => ⟨S4x4, .i32⟩
  | 49 => ⟨S4x4, .i1⟩
  | 50 => ⟨S1x4, .i32⟩
  | 51 => ⟨S_, .i32⟩
  | 52 => ⟨S_, .i32⟩
  | 53 => ⟨S4x4, .i32⟩
  | 54 => ⟨S4x4, .i32⟩
  | 55 => ⟨S4x4, .i32⟩
  | 56 => ⟨S_, .i32⟩
  | 57 => ⟨S4, .i32⟩
  | 58 => ⟨S10240, .i32⟩
  | 59 => ⟨S1x4, .i32⟩
  | 60 => ⟨S10240x1, .i32⟩
  | 61 => ⟨S10240x4, .i32⟩
  | 62 => ⟨S10240x4, .i32⟩
  | 63 => ⟨S10240x4, .i1⟩
  | 64 => ⟨S10240x4, .i32⟩
  | 65 => ⟨S_, .i32⟩
  | 66 => ⟨S10240, .i32⟩
  | 67 => ⟨S10240x1, .i32⟩
  | 68 => ⟨S1x4, .i32⟩
  | 69 => ⟨S10240x4, .i32⟩
  | 70 => ⟨S10240x4, .i32⟩
  | 71 => ⟨S10240x4, .i1⟩
  | 72 => ⟨S10240x4, .f32⟩
  | 73 => ⟨S10240x4, .f32⟩
  | 74 => ⟨S1x4, .f32⟩
  | 75 => ⟨S10240x4, .f32⟩
  | 76 => ⟨S10240x4, .f32⟩
  | 77 => ⟨S_, .f32⟩
  | 78 => ⟨S10240, .f32⟩
  | 79 => ⟨S_, .f32⟩
  | 80 => ⟨S10240, .f32⟩
  | 81 => ⟨S10240, .f32⟩
  | 82 => ⟨S10240x1, .f32⟩
  | 83 => ⟨S10240x4, .f32⟩
  | 84 => ⟨S10240x4, .f32⟩
  | 85 => ⟨S10240x4, .f32⟩
  | 86 => ⟨S_, .f32⟩
  | 87 => ⟨S10240, .f32⟩
  | 88 => ⟨S10240x1, .f32⟩
  | 89 => ⟨S10240x4, .f32⟩
  | 90 => ⟨S10240x4, .f32⟩
  | 91 => ⟨S10240x4, .f32⟩
  | 92 => ⟨S_, .f32⟩
  | 93 => ⟨S10240, .f32⟩
  | 94 => ⟨S10240x1, .f32⟩
  | 95 => ⟨S10240x4x4, .f32⟩
  | 96 => ⟨S1x4x4, .f32⟩
  | 97 => ⟨S10240x4x4, .f32⟩
  | 98 => ⟨S10240x4x4, .f32⟩
  | 99 => ⟨S10240x4x1, .f32⟩
  | 100 => ⟨S10240x4x4, .f32⟩
  | 101 => ⟨S10240x4x4, .f32⟩
  | 102 => ⟨S_, .f32⟩
  | 103 => ⟨S10240x4, .f32⟩
  | 104 => ⟨S10240x4x1, .f32⟩
  | 105 => ⟨S10240x1x4, .f32⟩
  | 106 => ⟨S10240x4x4, .f32⟩
  | 107 => ⟨S10240x4x4, .f32⟩
  | 108 => ⟨S10240x4x4, .i1⟩
  | 109 => ⟨S10240x4x4, .f32⟩
  | 110 => ⟨S10240x4x4, .f32⟩
  | 111 => ⟨S10240x4x4, .i1⟩
  | 112 => ⟨S1x4, .i32⟩
  | 113 => ⟨S4x1, .i32⟩
  | 114 => ⟨S4x4, .i32⟩
  | 115 => ⟨S4x4, .i32⟩
  | 116 => ⟨S4x4, .i1⟩
  | 117 => ⟨S1x4x4, .i1⟩
  | 118 => ⟨S10240x4x4, .i1⟩
  | 119 => ⟨S10240x4x4, .i1⟩
  | 120 => ⟨S10240x4x4, .i1⟩
  | 121 => ⟨S10240x4x4, .i32⟩
  | 122 => ⟨S_, .i32⟩
  | 123 => ⟨S10240x4, .i32⟩
  | 124 => ⟨S_, .i32⟩
  | 125 => ⟨S10240x4, .i32⟩
  | 126 => ⟨S10240x4, .i1⟩
  | 127 => ⟨S_, .f32⟩
  | _ => ⟨S8192x128, .i32⟩

abbrev hbmTy0_1 (i : Nat) : BufTy := match i % 128 with
  | 0 => ⟨S10240, .f32⟩
  | 1 => ⟨S10240x1, .f32⟩
  | 2 => ⟨S10240x4, .f32⟩
  | 3 => ⟨S10240x4, .f32⟩
  | 4 => ⟨S10240x4, .f32⟩
  | 5 => ⟨S_, .f32⟩
  | 6 => ⟨S_, .f32⟩
  | 7 => ⟨S10240x4, .f32⟩
  | 8 => ⟨S10240x4, .f32⟩
  | 9 => ⟨S_, .f32⟩
  | 10 => ⟨S10240, .f32⟩
  | 11 => ⟨S10240x1, .f32⟩
  | 12 => ⟨S10240x4, .f32⟩
  | 13 => ⟨S10240x4, .f32⟩
  | 14 => ⟨S10240x4, .f32⟩
  | 15 => ⟨S10240x4, .f32⟩
  | 16 => ⟨S10240x4x1, .f32⟩
  | 17 => ⟨S10240x1x4, .f32⟩
  | 18 => ⟨S10240x4x4, .f32⟩
  | 19 => ⟨S10240x4x4, .f32⟩
  | 20 => ⟨S10240x4x4, .f32⟩
  | 21 => ⟨S10240x4x4x512, .f32⟩
  | 22 => ⟨S10240x4x4x512, .f32⟩
  | 23 => ⟨S10240x4x4x512, .f32⟩
  | 24 => ⟨S_, .f32⟩
  | 25 => ⟨S10240x4x4x512, .f32⟩
  | 26 => ⟨S10240x4x4x512, .f32⟩
  | 27 => ⟨S_, .f32⟩
  | 28 => ⟨S10240x4x4x512, .f32⟩
  | 29 => ⟨S10240x4x4x512, .f32⟩
  | 30 => ⟨S10240x4x4x512, .f32⟩
  | 31 => ⟨S10240x4x4x512, .f32⟩
  | 32 => ⟨S10240x4x4x512, .f32⟩
  | 33 => ⟨S10240x4x4x1, .f32⟩
  | 34 => ⟨S10240x4x4x512, .f32⟩
  | 35 => ⟨S10240x4x4x512, .f32⟩
  | 36 => ⟨S10240x1024, .f32⟩
  | 37 => ⟨S10240x8x128, .f32⟩
  | _ => ⟨S8192x128, .i32⟩

abbrev hbmTy (i : Nat) : BufTy := match i / 128 with
  | 0 => hbmTy0_0 i
  | 1 => hbmTy0_1 i
  | _ => ⟨S8192x128, .i32⟩

abbrev bufTy : (tb : Table) → Fin (tcTables nBuf tb) → BufTy
  | .hbm, ⟨i, _⟩ => hbmTy i
  | _, _ => ⟨S8192x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v13 : Ref sig .tc := ⟨.hbm, 41, rfl⟩
abbrev main_c_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_3 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v22 : Ref sig .tc := ⟨.hbm, 55, rfl⟩
abbrev main_c_4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_c_5 : Ref sig .tc := ⟨.hbm, 65, rfl⟩
abbrev main_v31 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst : Ref sig .tc := ⟨.hbm, 77, rfl⟩
abbrev main_v37 : Ref sig .tc := ⟨.hbm, 78, rfl⟩
abbrev main_cst_6 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_7 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_8 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_9 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_c_10 : Ref sig .tc := ⟨.hbm, 122, rfl⟩
abbrev main_v77 : Ref sig .tc := ⟨.hbm, 123, rfl⟩
abbrev main_c_11 : Ref sig .tc := ⟨.hbm, 124, rfl⟩
abbrev main_v78 : Ref sig .tc := ⟨.hbm, 125, rfl⟩
abbrev main_v79 : Ref sig .tc := ⟨.hbm, 126, rfl⟩
abbrev main_cst_12 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_13 : Ref sig .tc := ⟨.hbm, 133, rfl⟩
abbrev main_call3_v0 : Ref sig .tc := ⟨.hbm, 134, rfl⟩
abbrev main_call3_v1 : Ref sig .tc := ⟨.hbm, 135, rfl⟩
abbrev main_v85 : Ref sig .tc := ⟨.hbm, 136, rfl⟩
abbrev main_cst_14 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_call4_v0 : Ref sig .tc := ⟨.hbm, 150, rfl⟩
abbrev main_call4_v1 : Ref sig .tc := ⟨.hbm, 151, rfl⟩
abbrev main_call4_cst : Ref sig .tc := ⟨.hbm, 152, rfl⟩
abbrev main_call4_v2 : Ref sig .tc := ⟨.hbm, 153, rfl⟩
abbrev main_call4_v3 : Ref sig .tc := ⟨.hbm, 154, rfl⟩
abbrev main_call4_cst_0 : Ref sig .tc := ⟨.hbm, 155, rfl⟩
abbrev main_call4_v4 : Ref sig .tc := ⟨.hbm, 156, rfl⟩
abbrev main_call4_v5 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩

abbrev nD : Nat := 1
abbrev τ : Topo := Topo.v7x

variable {F : FTy → Type} [FloatOps F]
-- ==== Proof.DispatchBody.lean ====
/- The dispatch call's body: one grid point sends 256 rows of the source to the rows of the result that the table names, all on one
   DMA semaphore, and then waits for them all. -/
module

public import proofs.«01_k».proof.Proof.Gen.KernelIdeal.Skeleton
public import proofs.«01_k».proof.Proof.Gen.KernelIdeal.Launch
public import Idealize.ShloMosaic.Lib.Batch
public import Idealize.ShloMosaic.Lib.Ring
public import Idealize.ShloMosaic.Lib.Tactic
public import Idealize.ShloMosaic.Lib.ValueIdxCore
public import Idealize.ShloMosaic.Lib.Pipeline.FrameValue

@[expose] public section

noncomputable section

namespace Cert.KernelIdeal.Dispatch

open Cert.KernelIdeal Cert.KernelIdeal.Gen
open Idealize.ShloMosaic TcCoe
open Idealize.SL
open Idealize.SL.BI (sProp bigSep bigSep_insert bigSep_empty)
open scoped Idealize.SL.BI
open Idealize.SL.BI.BIBase Idealize.SL.BI.Laws Idealize.SL.Sem Idealize.SL.ProofMode
open Idealize.SL.RA
open Idealize.ShloMosaic.Tactic
open Idealize.ShloMosaic.Pipeline (UD)
open Idealize.ShloMosaic.ValueIdx

variable {F : FTy → Type} [FloatOps F]

local notation "𝕄" => MT nD τ sig Unit (Elt F) ℕ (UD sig nD τ) ℕ

/-- What a one-to-one family of members holds, and what the others hold. -/
theorem rows_split {I J : Type} [DecidableEq I] [DecidableEq J] {s : Finset I} {t : Finset J} {f : J → I} (inj : Set.InjOn f t)
    (sub : ∀ j ∈ t, f j ∈ s) {Φ : I → sProp 𝕄} :
    bigSep s Φ = iprop(bigSep t (fun j => Φ (f j)) ∗ bigSep (s \ t.image f) Φ) := by
  have e : bigSep (t.image f) Φ = bigSep t (fun j => Φ (f j)) := by
    clear sub
    induction t using Finset.induction_on with
    | empty => rw [Finset.image_empty, bigSep_empty, bigSep_empty]
    | insert j t hj ih =>
      have hnot : f j ∉ t.image f := fun h => by
        obtain ⟨j', hj', e⟩ := Finset.mem_image.mp h
        exact hj (inj (Finset.mem_insert_of_mem hj') (Finset.mem_insert_self j t) e ▸ hj')
      rw [Finset.image_insert, bigSep_insert hnot, bigSep_insert hj, ih (inj.mono (fun x hx => Finset.mem_insert_of_mem hx))]
  rw [← e]
  exact BI.bigSep_sdiff_split fun x mem => by obtain ⟨j, among, rfl⟩ := Finset.mem_image.mp mem; exact sub j among

/-! ## Rows -/

theorem inbS (t : Fin 8192) : ∀ a, (![t.val, 0, 0] : Fin 3 → Nat) a + S1x8x128.size a ≤ S8192x8x128.size a := by
  have := t.isLt; intro a; fin_cases a
  · show t.val + 1 ≤ 8192; omega
  · show 0 + 8 ≤ 8; omega
  · show 0 + 128 ≤ 128; omega

theorem inbD (p : Fin 10240) : ∀ a, (![p.val, 0, 0] : Fin 3 → Nat) a + S1x8x128.size a ≤ S10240x8x128.size a := by
  have := p.isLt; intro a; fin_cases a
  · show p.val + 1 ≤ 10240; omega
  · show 0 + 8 ≤ 8; omega
  · show 0 + 128 ≤ 128; omega

/-- Row `t` of the source, as the body names a transfer's source. -/
def srcBlk (t : Fin 8192) : Memref sig .tc .hbm S8x128 .f32 :=
  ((Memref.whole main_arg1).slice (Rect.unit (s := S8192x8x128) ![t.val, 0, 0] S1x8x128.size (inbS t)) (fun _ => rfl)).squeeze S8x128 squeezes_S1x8x128_S8x128

/-- Row `p` of the result, as the body names a transfer's destination. -/
def dstBlk (p : Fin 10240) : Memref sig .tc .hbm S8x128 .f32 :=
  ((Memref.whole main_v41).slice (Rect.unit (s := S10240x8x128) ![p.val, 0, 0] S1x8x128.size (inbD p)) (fun _ => rfl)).squeeze S8x128 squeezes_S1x8x128_S8x128

/-- Row `t`'s elements of the source; row `p`'s of the result. -/
abbrev rowS (t : Fin 8192) : Finset S8192x8x128.Idx := (Rect.unit (s := S8192x8x128) ![t.val, 0, 0] S1x8x128.size (inbS t)).set
abbrev rowD (p : Fin 10240) : Finset S10240x8x128.Idx := (Rect.unit (s := S10240x8x128) ![p.val, 0, 0] S1x8x128.size (inbD p)).set

theorem mem_rowS (t : Fin 8192) (y : S8192x8x128.Idx) : y ∈ rowS t ↔ (y 0).val = t.val := by
  rw [Rect.mem_set_unit]
  have h1 : (y 1).val < 8 := (y 1).isLt
  have h2 : (y 2).val < 128 := (y 2).isLt
  constructor
  · intro H; have a0 : t.val ≤ (y 0).val ∧ (y 0).val < t.val + 1 := H 0; omega
  · intro H a; fin_cases a
    · show t.val ≤ (y 0).val ∧ (y 0).val < t.val + 1; omega
    · show 0 ≤ (y 1).val ∧ (y 1).val < 0 + 8; omega
    · show 0 ≤ (y 2).val ∧ (y 2).val < 0 + 128; omega

theorem mem_rowD (p : Fin 10240) (y : S10240x8x128.Idx) : y ∈ rowD p ↔ (y 0).val = p.val := by
  rw [Rect.mem_set_unit]
  have h1 : (y 1).val < 8 := (y 1).isLt
  have h2 : (y 2).val < 128 := (y 2).isLt
  constructor
  · intro H; have a0 : p.val ≤ (y 0).val ∧ (y 0).val < p.val + 1 := H 0; omega
  · intro H a; fin_cases a
    · show p.val ≤ (y 0).val ∧ (y 0).val < p.val + 1; omega
    · show 0 ≤ (y 1).val ∧ (y 1).val < 0 + 8; omega
    · show 0 ≤ (y 2).val ∧ (y 2).val < 0 + 128; omega

theorem rowS_disjoint : ∀ b b' : Fin 8192, b ≠ b' → Disjoint (rowS b) (rowS b') := fun b b' hne => by
  rw [Finset.disjoint_left]; intro y hy hy'; rw [mem_rowS] at hy hy'; exact hne (Fin.ext (by omega))
theorem rowS_cover : Finset.univ.biUnion rowS = Finset.univ := by
  ext y; simp only [Finset.mem_biUnion, Finset.mem_univ, true_and, iff_true]; exact ⟨y 0, (mem_rowS _ _).mpr rfl⟩
theorem rowD_disjoint : ∀ b b' : Fin 10240, b ≠ b' → Disjoint (rowD b) (rowD b') := fun b b' hne => by
  rw [Finset.disjoint_left]; intro y hy hy'; rw [mem_rowD] at hy hy'; exact hne (Fin.ext (by omega))
theorem rowD_cover : Finset.univ.biUnion rowD = Finset.univ := by
  ext y; simp only [Finset.mem_biUnion, Finset.mem_univ, true_and, iff_true]; exact ⟨y 0, (mem_rowD _ _).mpr rfl⟩

theorem srcBlk_set (t : Fin 8192) : (srcBlk t).view.set = rowS t := by
  unfold srcBlk; exact (View.set_reshape _ _).trans (View.set_slice_whole _ _)
theorem dstBlk_set (p : Fin 10240) : (dstBlk p).view.set = rowD p := by
  unfold dstBlk; exact (View.set_reshape _ _).trans (View.set_slice_whole _ _)

/-- A row of the source at any spelling of its offsets. -/
theorem srcBlk_of (off : Fin 3 → Nat) (h : ∀ a, off a + S1x8x128.size a ≤ S8192x8x128.size a) (t : Fin 8192) (e : off = ![t.val, 0, 0]) :
    ((Memref.whole main_arg1).slice (Rect.unit (s := S8192x8x128) off S1x8x128.size h) (fun _ => rfl)).squeeze S8x128 squeezes_S1x8x128_S8x128 = srcBlk t := by
  subst e; rfl
theorem dstBlk_of (off : Fin 3 → Nat) (h : ∀ a, off a + S1x8x128.size a ≤ S10240x8x128.size a) (p : Fin 10240) (e : off = ![p.val, 0, 0]) :
    ((Memref.whole main_v41).slice (Rect.unit (s := S10240x8x128) off S1x8x128.size h) (fun _ => rfl)).squeeze S8x128 squeezes_S1x8x128_S8x128 = dstBlk p := by
  subst e; rfl

/-- The row that a transfer of source row `t` leaves in row `p` of the result. -/
theorem write_row (t : Fin 8192) (p : Fin 10240) (src : S8192x8x128.Idx → Elt F .f32) (old : S10240x8x128.Idx → Elt F .f32)
    (y : S10240x8x128.Idx) (hy : y ∈ rowD p) :
    (dstBlk p).view.write (Elt F) old ((srcBlk t).view.read (Elt F) src) Finset.univ y = src (ix3 t (y 1) (y 2)) := by
  rw [← dstBlk_set] at hy
  obtain ⟨x, -, rfl⟩ := Finset.mem_map.mp hy
  refine (View.write_emb_of_mem (v := (dstBlk p).view) old _ (Finset.mem_univ x)).trans ?_
  show src ((srcBlk t).view.emb x) = _
  refine congrArg src (funext fun a => Fin.ext ?_)
  have e0 : ((Shape.reshapeEquiv squeezes_S1x8x128_S8x128.numel_eq x) 0).val = 0 := by
    have h : ((Shape.reshapeEquiv squeezes_S1x8x128_S8x128.numel_eq x) 0).val < 1 := ((Shape.reshapeEquiv squeezes_S1x8x128_S8x128.numel_eq x) 0).isLt
    omega
  match a with
  | ⟨0, _⟩ =>
    show t.val + 1 * ((Shape.reshapeEquiv squeezes_S1x8x128_S8x128.numel_eq x) 0).val = t.val
    omega
  | ⟨1, _⟩ => rfl
  | ⟨2, _⟩ => rfl

/-! ## One grid point -/

section Point

variable (c : Dev nD) (tb : S8192.Idx → BitVec 32) (hσ : ∀ t : Fin 8192, (tb (ix1 t)).toNat < 10240)
variable (src : S8192x8x128.Idx → Elt F .f32) (old new : S10240x8x128.Idx → Elt F .f32) (i : grid0.Coords)

/-- The row of the result that source row `t` goes to. -/
def slot (t : Fin 8192) : Fin 10240 := ⟨(tb (ix1 t)).toNat, hσ t⟩

theorem coord_lt (i : grid0.Coords) : (i 0).val < 32 := (i 0).isLt

/-- The `r`-th source row of the grid point. -/
def tok (r : Fin 256) : Fin 8192 := ⟨256 * (i 0).val + r.val, by have := coord_lt i; have := r.isLt; omega⟩

/-- The credit of one row on the semaphore. -/
abbrev NN : ℕ := 128

/-- A source row held; a row of the result held at `f`. -/
abbrev heldS (t : Fin 8192) : sProp 𝕄 := (srcBlk t).view.loc (c : Thread nD τ) ↦[(srcBlk t).view.set]{fullShare} src
abbrev heldD (f : S10240x8x128.Idx → Elt F .f32) (p : Fin 10240) : sProp 𝕄 :=
  (dstBlk p).view.loc (c : Thread nD τ) ↦[(dstBlk p).view.set]{fullShare} f

/-- What the `r`-th transfer starts from, and what it delivers. -/
abbrev give (r : Fin 256) : sProp 𝕄 := iprop(heldS c src (tok i r) ∗ heldD c old (slot tb hσ (tok i r)))
abbrev dlv (r : Fin 256) : sProp 𝕄 := iprop(heldD c new (slot tb hσ (tok i r)) ∗ heldS c src (tok i r))

/-- The table, held as the region hands it to the body. -/
abbrev table : sProp 𝕄 := (Memref.whole main_v29).view.loc (c : Thread nD τ) ↦{fullShare.right} tb

/-- The kernel's semaphore. -/
abbrev sem0 : DmaSem sig := cc0_scratch0.sem

/-- The 256 transfers on the semaphore, `j` of them issued and `u` units consumed. -/
abbrev batch (j u : ℕ) : sProp 𝕄 :=
  Transfers.Batch (countersEmb (U := UD sig nD τ)) (c : Thread nD τ) (.dma sem0) () NN (dlv c tb hσ src new i) j u

/-- Before trip `k` of the issue loop: the table, `k` transfers issued, the rows of the others in hand. -/
def issueAt (k : ℕ) (_ : PUnit.{1}) : sProp 𝕄 :=
  iprop(table c tb ∗ batch c tb hσ src new i k 0 ∗ bigSep (Ring.rangeSet 256 k 256) (give c tb hσ src old i))

theorem trips1 : k0_t1_loop.trips = 256 := by decide
theorem trips2 : k0_t2_loop.trips = 256 := by decide

/-- A source row held, at any spelling of its offsets; a row of the result; and the credit of one. -/
theorem heldS_of (off : Fin 3 → Nat) (h : ∀ a, off a + S1x8x128.size a ≤ S8192x8x128.size a) (t : Fin 8192) (e : off = ![t.val, 0, 0]) :
    (heldS c src t : sProp 𝕄) = ((((Memref.whole main_arg1).slice (Rect.unit (s := S8192x8x128) off S1x8x128.size h) (fun _ => rfl)).squeeze S8x128 squeezes_S1x8x128_S8x128).view.loc (c : Thread nD τ)
      ↦[(((Memref.whole main_arg1).slice (Rect.unit (s := S8192x8x128) off S1x8x128.size h) (fun _ => rfl)).squeeze S8x128 squeezes_S1x8x128_S8x128).view.set]{fullShare} src) := by
  subst e; rfl
theorem heldD_of (off : Fin 3 → Nat) (h : ∀ a, off a + S1x8x128.size a ≤ S10240x8x128.size a) (p : Fin 10240) (e : off = ![p.val, 0, 0]) :
    (heldD c old p : sProp 𝕄) = ((((Memref.whole main_v41).slice (Rect.unit (s := S10240x8x128) off S1x8x128.size h) (fun _ => rfl)).squeeze S8x128 squeezes_S1x8x128_S8x128).view.loc (c : Thread nD τ)
      ↦[(((Memref.whole main_v41).slice (Rect.unit (s := S10240x8x128) off S1x8x128.size h) (fun _ => rfl)).squeeze S8x128 squeezes_S1x8x128_S8x128).view.set]{fullShare} old) := by
  subst e; rfl
theorem amount_of (off : Fin 3 → Nat) (h : ∀ a, off a + S1x8x128.size a ≤ S10240x8x128.size a) :
    (((Memref.whole main_v41).slice (Rect.unit (s := S10240x8x128) off S1x8x128.size h) (fun _ => rfl)).squeeze S8x128 squeezes_S1x8x128_S8x128).view.amount (.dma sem0) = NN := by
  show RefSig.tileCredit S8x128 .f32 = 128
  decide

/-- A transfer's delivery, at any spelling of its two rows. -/
theorem dlv_of (offS : Fin 3 → Nat) (hS : ∀ a, offS a + S1x8x128.size a ≤ S8192x8x128.size a) (t : Fin 8192) (eS : offS = ![t.val, 0, 0])
    (offD : Fin 3 → Nat) (hD : ∀ a, offD a + S1x8x128.size a ≤ S10240x8x128.size a) (p : Fin 10240) (eD : offD = ![p.val, 0, 0])
    (hnew : ∀ y ∈ rowD p, new y = src (ix3 t (y 1) (y 2))) :
    iprop(((((Memref.whole main_v41).slice (Rect.unit (s := S10240x8x128) offD S1x8x128.size hD) (fun _ => rfl)).squeeze S8x128 squeezes_S1x8x128_S8x128).view.loc (c : Thread nD τ)
      ↦[(((Memref.whole main_v41).slice (Rect.unit (s := S10240x8x128) offD S1x8x128.size hD) (fun _ => rfl)).squeeze S8x128 squeezes_S1x8x128_S8x128).view.set]{fullShare}
      ((((Memref.whole main_v41).slice (Rect.unit (s := S10240x8x128) offD S1x8x128.size hD) (fun _ => rfl)).squeeze S8x128 squeezes_S1x8x128_S8x128).view.write (Elt F) old
        (ReadAs.same.apply ((((Memref.whole main_arg1).slice (Rect.unit (s := S8192x8x128) offS S1x8x128.size hS) (fun _ => rfl)).squeeze S8x128 squeezes_S1x8x128_S8x128).view.read (Elt F) src)) Finset.univ))
      ∗ ((((Memref.whole main_arg1).slice (Rect.unit (s := S8192x8x128) offS S1x8x128.size hS) (fun _ => rfl)).squeeze S8x128 squeezes_S1x8x128_S8x128).view.loc (c : Thread nD τ)
        ↦[(((Memref.whole main_arg1).slice (Rect.unit (s := S8192x8x128) offS S1x8x128.size hS) (fun _ => rfl)).squeeze S8x128 squeezes_S1x8x128_S8x128).view.set]{fullShare} src))
      ⊢ (iprop(heldD c new p ∗ heldS c src t) : sProp 𝕄) := by
  subst eS eD
  refine sep_mono (Entails.of_eq ?_) .rfl
  refine pointsTo_congr fun y hy => ?_
  have hy' : y ∈ rowD p := by rw [← dstBlk_set]; exact hy
  exact (write_row t p src old y hy').trans (hnew y hy').symm

theorem off3_eq (k : Fin k0_t1_loop.trips) (hk : k.val < 256) : k0_off3 i k = ![(tok i ⟨k.val, hk⟩).val, 0, 0] := by
  have h := coord_lt i
  have e : (k0_off3 i k) 0 = 256 * (i 0).val + k.val := by
    simp only [k0_off3, Scalar.addi, Scalar.muli, Scalar.indexCast, Scf.iv]
    show (BitVec.ofNat 32 (i 0).val * 256#32 + (0#32 + BitVec.ofNat 32 k.val * 1#32)).toNat = _
    simp only [BitVec.toNat_add, BitVec.toNat_mul, BitVec.toNat_ofNat]
    omega
  funext a
  match a with
  | ⟨0, _⟩ => exact e
  | ⟨1, _⟩ => rfl
  | ⟨2, _⟩ => rfl

theorem word_eq (k : Fin k0_t1_loop.trips) (hk : k.val < 256) (x : S1.Idx) :
    View.readAt (Elt F) (Memref.whole main_v29).view (Rect.unit (s := S8192) (k0_off1 i k) S1.size (k0_off1_inb i k)).toLoadRect tb x = tb (ix1 (tok i ⟨k.val, hk⟩)) := by
  have h := coord_lt i
  have e : (k0_off1 i k) 0 = 256 * (i 0).val + k.val := by
    simp only [k0_off1, Scalar.addi, Scalar.muli, Scalar.indexCast, Scf.iv]
    show (BitVec.ofNat 32 (i 0).val * 256#32 + (0#32 + BitVec.ofNat 32 k.val * 1#32)).toNat = _
    simp only [BitVec.toNat_add, BitVec.toNat_mul, BitVec.toNat_ofNat]
    omega
  have hx : (x 0).val < 1 := (x 0).isLt
  refine congrArg tb (funext fun a => ?_)
  match a with
  | ⟨0, _⟩ =>
    refine Fin.ext ?_
    show (k0_off1 i k) 0 + 1 * (x 0).val = 256 * (i 0).val + k.val
    omega

theorem issue_step (hnew : ∀ t : Fin 8192, ∀ y ∈ rowD (slot tb hσ t), new y = src (ix3 t (y 1) (y 2)))
    (k : Fin k0_t1_loop.trips) (acc : Unit) :
    issueAt c tb hσ src old new i k acc ⊢ wp frame (wpE (defs₀ (F := F)) Variants.none (c : Thread nD τ) none) Set.univ
      (k0_t1_body i (Memref.whole main_v29) (Memref.isWhole_whole _) (Memref.whole main_arg1) (Memref.isWhole_whole _)
        (Memref.whole main_v41) (Memref.isWhole_whole _) (Memref.whole main_v41) (Memref.isWhole_whole _) cc0_scratch0 k acc)
      (issueAt c tb hσ src old new i (k.val + 1)) := by
  have hk : k.val < 256 := by have := k.isLt; have := trips1; omega
  unfold issueAt
  rw [Ring.bigSep_rangeSet_head (Φ := give c tb hσ src old i) (by omega) (by omega)]
  iintro ⟨HT, HB, ⟨HS, HD⟩, HR⟩
  sl_unfold [k0_t1_body]
  sl_exec
  unfold issue_step.sl.r
  have hw := word_eq (F := F) tb i k hk (Shape.Idx.first (by decide))
  generalize View.readAt (Elt F) (Memref.whole main_v29).view (Rect.unit (s := S8192) (k0_off1 i k) S1.size (k0_off1_inb i k)).toLoadRect tb (Shape.Idx.first _) = w at hw ⊢
  have hp : w.toNat = (slot tb hσ (tok i ⟨k.val, hk⟩)).val := by rw [hw]; rfl
  have hoff : k0_off2 w = ![(slot tb hσ (tok i ⟨k.val, hk⟩)).val, 0, 0] := by unfold k0_off2; rw [hp]
  have hchk : k0_chk1 w := by unfold k0_chk1; rw [hoff]; exact inbD _
  ihave HS := (Entails.of_eq (heldS_of c src _ (k0_off3_inb i k) _ (off3_eq i k hk))) $$ HS
  ihave HD := (Entails.of_eq (heldD_of c old _ (k0_off2_inb w hchk) _ hoff)) $$ HD
  sl_exec
  iapply (Transfers.wp_dmaBatch (D := dlv c tb hσ src new i) (countersEmb (U := UD sig nD τ)) Variants.none (c : Thread nD τ) none () NN (amount_of _ (k0_off2_inb w hchk)) (subset_refl _) hk (Nat.zero_le _)
    (dlv_of c src old new _ (k0_off3_inb i k) _ (off3_eq i k hk) _ (k0_off2_inb w hchk) _ hoff (hnew _))) $$ [HS HD HB]
  · isplitl [HS]; · iexact HS
    isplitl [HD]; · iexact HD
    iexact HB
  iintro HB
  sl_step
  isplitl [HT]; · iexact HT
  isplitl [HB]; · iexact HB
  iexact HR

/-- Before trip `k` of the drain loop: `k` transfers' units consumed, or, after the last, the semaphore at zero and every delivery. -/
def drainAt (k : ℕ) (_ : PUnit.{1}) : sProp 𝕄 :=
  iprop(⌜k ≤ 256⌝ ∗ (∃ W, owes (c : Thread nD τ) 0 W)
    ∗ (if k < 256 then batch c tb hσ src new i 256 (k * NN)
       else iprop(semVal ((c : Thread nD τ), SemLoc.dma sem0) 0 ∗ bigSep Finset.univ (dlv c tb hσ src new i))))

theorem drain_step (k : Fin k0_t2_loop.trips) (acc : Unit) :
    drainAt c tb hσ src new i k acc ⊢ wp frame (wpE (defs₀ (F := F)) Variants.none (c : Thread nD τ) none) Set.univ
      (k0_t2_body i (Memref.whole main_v29) (Memref.isWhole_whole _) (Memref.whole main_arg1) (Memref.isWhole_whole _)
        (Memref.whole main_v41) (Memref.isWhole_whole _) (Memref.whole main_v41) (Memref.isWhole_whole _) cc0_scratch0 k acc)
      (drainAt c tb hσ src new i (k.val + 1)) := by
  have hk : k.val < 256 := by have := k.isLt; have := trips2; omega
  unfold drainAt
  simp only [if_pos hk]
  rcases Nat.lt_or_ge (k.val + 1) 256 with h1 | h1
  · simp only [if_pos h1]
    iintro ⟨-, ⟨%W, HO⟩, HB⟩
    sl_unfold [k0_t2_body]
    sl_exec
    sl_step
    isplitr; · ipureintro; omega
    isplitl [HO]; · iexists _; iexact HO
    rw [show (k.val + 1) * NN = k.val * NN + NN by simp only [NN]; omega]
    iexact HB
  · simp only [if_neg (Nat.not_lt.mpr h1)]
    iintro ⟨-, ⟨%W, HO⟩, HB⟩
    sl_unfold [k0_t2_body]
    sl_exec
    sl_step
    isplitr; · ipureintro; omega
    isplitl [HO]; · iexists _; iexact HO
    isplitl [HB]; · iexact HB
    iexact HB_all

/-! ### The arrays as rows -/

/-- The source whole; the result whole at `f`. -/
abbrev wholeS : sProp 𝕄 := (Memref.whole main_arg1).view.loc (c : Thread nD τ) ↦{fullShare} src
abbrev wholeD (f : S10240x8x128.Idx → Elt F .f32) : sProp 𝕄 := (Memref.whole main_v41).view.loc (c : Thread nD τ) ↦{fullShare} f

theorem wholeS_rows : (wholeS c src : sProp 𝕄) = bigSep Finset.univ (heldS c src) := by
  refine (Ring.pointsTo_blocks (ℓ := (Memref.whole main_arg1 : Memref sig .tc .hbm S8192x8x128 .f32).view.loc (c : Thread nD τ)) (q := fullShare)
    rowS rowS_disjoint rowS_cover src).trans (BI.bigSep_congr fun t _ => ?_)
  show _ = ((Memref.whole main_arg1 : Memref sig .tc .hbm S8192x8x128 .f32).view.loc (c : Thread nD τ) ↦[(srcBlk t).view.set]{fullShare} src : sProp 𝕄)
  rw [srcBlk_set]
theorem wholeD_rows (f : S10240x8x128.Idx → Elt F .f32) : (wholeD c f : sProp 𝕄) = bigSep Finset.univ (heldD c f) := by
  refine (Ring.pointsTo_blocks (ℓ := (Memref.whole main_v41 : Memref sig .tc .hbm S10240x8x128 .f32).view.loc (c : Thread nD τ)) (q := fullShare)
    rowD rowD_disjoint rowD_cover f).trans (BI.bigSep_congr fun t _ => ?_)
  show _ = ((Memref.whole main_v41 : Memref sig .tc .hbm S10240x8x128 .f32).view.loc (c : Thread nD τ) ↦[(dstBlk t).view.set]{fullShare} f : sProp 𝕄)
  rw [dstBlk_set]

/-- A row of the result at contents that agree on the row. -/
theorem heldD_congr (f g : S10240x8x128.Idx → Elt F .f32) (p : Fin 10240) (h : ∀ y : S10240x8x128.Idx, (y 0).val = p.val → f y = g y) :
    (heldD c f p : sProp 𝕄) = heldD c g p := by
  refine pointsTo_congr fun y hy => h y ?_
  have hy' : y ∈ rowD p := by rw [← dstBlk_set]; exact hy
  exact (mem_rowD p y).mp hy'

theorem tok_inj : Function.Injective (tok i) := fun r r' h => by
  have h' : 256 * (i 0).val + r.val = 256 * (i 0).val + r'.val := congrArg Fin.val h
  exact Fin.ext (by omega)

/-- What the result holds once the tokens before `n` are placed over `init`. -/
def outAt (init : S10240x8x128.Idx → Elt F .f32) (n : ℕ) (y : S10240x8x128.Idx) : Elt F .f32 :=
  open Classical in
  if h : ∃ t : Fin 8192, t.val < n ∧ slot tb hσ t = y 0 then src (ix3 h.choose (y 1) (y 2)) else init y

variable (hinj : Function.Injective (slot tb hσ)) (init : S10240x8x128.Idx → Elt F .f32)
include hinj

theorem outAt_of_lt (n : ℕ) (t : Fin 8192) (ht : t.val < n) (y : S10240x8x128.Idx) (hy : slot tb hσ t = y 0) :
    outAt tb hσ src init n y = src (ix3 t (y 1) (y 2)) := by
  have h : ∃ t : Fin 8192, t.val < n ∧ slot tb hσ t = y 0 := ⟨t, ht, hy⟩
  unfold outAt
  rw [dif_pos h]
  rw [hinj (h.choose_spec.2.trans hy.symm)]

omit hinj in
theorem outAt_of_not (n : ℕ) (y : S10240x8x128.Idx) (hy : ∀ t : Fin 8192, t.val < n → slot tb hσ t ≠ y 0) :
    outAt tb hσ src init n y = init y := by
  unfold outAt
  exact dif_neg fun ⟨t, ht, e⟩ => hy t ht e

theorem outAt_succ (p : Fin 10240) (hp : ∀ r, slot tb hσ (tok i r) ≠ p) (y : S10240x8x128.Idx) (hy : (y 0).val = p.val) :
    outAt tb hσ src init (256 * (i 0).val) y = outAt tb hσ src init (256 * (i 0).val + 256) y := by
  have hy0 : y 0 = p := Fin.ext hy
  by_cases h : ∃ t : Fin 8192, t.val < 256 * (i 0).val ∧ slot tb hσ t = y 0
  · obtain ⟨t, ht, e⟩ := h
    rw [outAt_of_lt tb hσ src hinj init _ t ht y e, outAt_of_lt tb hσ src hinj init _ t (by omega) y e]
  · rw [outAt_of_not, outAt_of_not]
    · intro t ht e
      by_cases ht' : t.val < 256 * (i 0).val
      · exact h ⟨t, ht', e⟩
      · refine hp ⟨t.val - 256 * (i 0).val, by omega⟩ ?_
        rw [← hy0, ← e]
        refine congrArg _ (Fin.ext ?_)
        show 256 * (i 0).val + (t.val - 256 * (i 0).val) = t.val
        omega
    · intro t ht e; exact h ⟨t, ht, e⟩

/-- The rows of the source and of the result that the grid point doesn't touch. -/
abbrev restS : sProp 𝕄 := bigSep (Finset.univ \ Finset.univ.image (tok i)) (heldS c src)
abbrev restD (f : S10240x8x128.Idx → Elt F .f32) : sProp 𝕄 :=
  bigSep (Finset.univ \ Finset.univ.image fun r => slot tb hσ (tok i r)) (heldD c f)

theorem split_rows (f : S10240x8x128.Idx → Elt F .f32) :
    iprop(wholeS c src ∗ wholeD c f) ⊢ (iprop(bigSep (Ring.rangeSet 256 0 256) (give c tb hσ src f i) ∗ restS c src i ∗ restD c tb hσ i f) : sProp 𝕄) := by
  rw [wholeS_rows, wholeD_rows, Ring.rangeSet_univ,
    rows_split (t := Finset.univ) (f := tok i) (tok_inj i).injOn (fun _ _ => Finset.mem_univ _),
    rows_split (t := Finset.univ) (f := fun r => slot tb hσ (tok i r)) ((hinj.comp (tok_inj i)).injOn) (fun _ _ => Finset.mem_univ _)]
  rw [show (bigSep Finset.univ (give c tb hσ src f i) : sProp 𝕄)
      = iprop((bigSep Finset.univ fun r => heldS c src (tok i r)) ∗ bigSep Finset.univ fun r => heldD c f (slot tb hσ (tok i r)))
    from BI.bigSep_sep' Finset.univ (fun r => heldS c src (tok i r)) (fun r => heldD c f (slot tb hσ (tok i r)))]
  iintro ⟨⟨H1, H2⟩, H3, H4⟩
  isplitl [H1 H3]
  · isplitl [H1]; · iexact H1
    iexact H3
  isplitl [H2]; · iexact H2
  iexact H4

theorem join_rows :
    iprop(bigSep Finset.univ (dlv c tb hσ src (outAt tb hσ src init 8192) i) ∗ restS c src i ∗ restD c tb hσ i (outAt tb hσ src init (256 * (i 0).val)))
      ⊢ (iprop(wholeS c src ∗ wholeD c (outAt tb hσ src init (256 * (i 0).val + 256))) : sProp 𝕄) := by
  have e1 : (bigSep Finset.univ (dlv c tb hσ src (outAt tb hσ src init 8192) i) : sProp 𝕄)
      = iprop((bigSep Finset.univ fun r => heldD c (outAt tb hσ src init (256 * (i 0).val + 256)) (slot tb hσ (tok i r))) ∗ bigSep Finset.univ fun r => heldS c src (tok i r)) := by
    refine (BI.bigSep_sep' Finset.univ (fun r => heldD c (outAt tb hσ src init 8192) (slot tb hσ (tok i r))) (fun r => heldS c src (tok i r))).trans ?_
    refine congrArg (fun P => iprop(P ∗ bigSep Finset.univ fun r => heldS c src (tok i r))) ?_
    refine BI.bigSep_congr fun r _ => heldD_congr c _ _ _ fun y hy => ?_
    have hy0 : slot tb hσ (tok i r) = y 0 := Fin.ext hy.symm
    have hr : (tok i r).val < 256 * (i 0).val + 256 := by
      show 256 * (i 0).val + r.val < _
      have := r.isLt; omega
    rw [outAt_of_lt tb hσ src hinj init _ (tok i r) (tok i r).isLt y hy0, outAt_of_lt tb hσ src hinj init _ (tok i r) hr y hy0]
  have e2 : (restD c tb hσ i (outAt tb hσ src init (256 * (i 0).val)) : sProp 𝕄) = restD c tb hσ i (outAt tb hσ src init (256 * (i 0).val + 256)) := by
    refine BI.bigSep_congr fun p hp => heldD_congr c _ _ _ fun y hy => outAt_succ tb hσ src i hinj init p (fun r e => ?_) y hy
    exact (Finset.mem_sdiff.mp hp).2 (Finset.mem_image.mpr ⟨r, Finset.mem_univ _, e⟩)
  rw [wholeS_rows, wholeD_rows, e1, e2,
    rows_split (t := Finset.univ) (f := tok i) (tok_inj i).injOn (fun _ _ => Finset.mem_univ _),
    rows_split (t := Finset.univ) (f := fun r => slot tb hσ (tok i r)) ((hinj.comp (tok_inj i)).injOn) (fun _ _ => Finset.mem_univ _)]
  iintro ⟨⟨H1, H2⟩, H3, H4⟩
  isplitl [H2 H3]
  · isplitl [H2]; · iexact H2
    iexact H3
  isplitl [H1]; · iexact H1
  iexact H4

omit hinj in
theorem held_storable (ℓ : Loc nD τ sig) (I : Finset (Idx ℓ)) (q : PosShare TreeShare) (f : Buf (Elt F) ℓ) :
    BI.Storable (upEmb : UEmb _ 𝕄) (ℓ ↦[I]{q} f : sProp 𝕄) := inferInstance

omit hinj in
theorem dlv_storable (r : Fin 256) : BI.Storable (upEmb : UEmb _ 𝕄) (dlv c tb hσ src new i r) := by
  haveI h1 := held_storable (F := F) ((srcBlk (tok i r)).view.loc (c : Thread nD τ)) (srcBlk (tok i r)).view.set fullShare src
  haveI h2 := held_storable (F := F) ((dstBlk (slot tb hσ (tok i r))).view.loc (c : Thread nD τ)) (dstBlk (slot tb hσ (tok i r))).view.set fullShare new
  exact BI.Storable.sep _ _ _

theorem point (W : Waits sig Unit) :
    iprop(table c tb ∗ wholeS c src ∗ wholeD c (outAt tb hσ src init (256 * (i 0).val)) ∗ semVal ((c : Thread nD τ), SemLoc.dma sem0) 0 ∗ owes (c : Thread nD τ) 0 W)
      ⊢ wp frame (wpE (defs₀ (F := F)) Variants.none (c : Thread nD τ) none) Set.univ
        (cc0_moe_dispatch i (Memref.whole main_v29) (Memref.isWhole_whole _) (Memref.whole main_arg1) (Memref.isWhole_whole _)
          (Memref.whole main_v41) (Memref.isWhole_whole _) (Memref.whole main_v41) (Memref.isWhole_whole _) cc0_scratch0)
        fun _ => iprop(table c tb ∗ wholeS c src ∗ wholeD c (outAt tb hσ src init (256 * (i 0).val + 256)) ∗ semVal ((c : Thread nD τ), SemLoc.dma sem0) 0 ∗ ∃ W, owes (c : Thread nD τ) 0 W) := by
  iintro ⟨HT, HS, HD, Hc, HO⟩
  ihave HR := (split_rows c tb hσ src i hinj (outAt tb hσ src init (256 * (i 0).val))) $$ [HS HD]
  · isplitl [HS]; · iexact HS
    iexact HD
  icases HR with ⟨HG, HrS, HrD⟩
  haveI hst : ∀ t, BI.Storable (upEmb : UEmb _ 𝕄) (dlv c tb hσ src (outAt tb hσ src init 8192) i t) := dlv_storable c tb hσ src _ i
  imod (Transfers.batch_alloc' (Lvl := ℕ) (countersEmb (U := UD sig nD τ)) (c : Thread nD τ) () NN (dlv c tb hσ src (outAt tb hσ src init 8192) i) (sm := .dma sem0) (E := Set.univ)) $$ Hc with HB
  sl_unfold [cc0_moe_dispatch]
  sl_exec
  sl_for (issueAt c tb hσ src (outAt tb hσ src init (256 * (i 0).val)) (outAt tb hσ src init 8192) i) $$ [HT HB HG]
  · intro k acc
    refine issue_step c tb hσ src _ _ i (fun t y hy => ?_) k acc
    exact outAt_of_lt tb hσ src hinj init _ t t.isLt y (Fin.ext ((mem_rowD _ y).mp hy).symm)
  · unfold issueAt
    isplitl [HT]; · iexact HT
    isplitl [HB]; · iexact HB
    iexact HG
  iintro %acc HL
  rw [show Scf.trips k0_t1_loop.lb k0_t1_loop.ub k0_t1_loop.st = 256 from trips1]
  unfold issueAt
  icases HL with ⟨HT, HB, -⟩
  sl_exec
  sl_for (drainAt c tb hσ src (outAt tb hσ src init 8192) i) $$ [HB HO]
  · intro k acc; exact drain_step c tb hσ src _ i k acc
  · unfold drainAt
    rw [if_pos (by decide)]
    isplitr; · ipureintro; omega
    isplitl [HO]; · iexists _; iexact HO
    rw [Nat.zero_mul]
    iexact HB
  iintro %acc' HL
  rw [show Scf.trips k0_t2_loop.lb k0_t2_loop.ub k0_t2_loop.st = 256 from trips2]
  unfold drainAt
  rw [if_neg (by decide)]
  icases HL with ⟨-, HO, Hc, HD⟩
  ihave HW := (join_rows c tb hσ src i hinj init) $$ [HD HrS HrD]
  · isplitl [HD]; · iexact HD
    isplitl [HrS]; · iexact HrS
    iexact HrD
  icases HW with ⟨HS, HD⟩
  sl_step
  isplitl [HT]; · iexact HT
  isplitl [HS]; · iexact HS
  isplitl [HD]; · iexact HD
  isplitl [Hc]; · iexact Hc
  iexact HO

end Point

end Cert.KernelIdeal.Dispatch

end
-- ==== Proof.DispatchLaunch.lean ====
/- The dispatch call's launch: the host operations before it, then its 32 grid points, from any memory in which the host's table
   names distinct rows of the result. -/
module

public import proofs.«01_k».proof.Proof.DispatchBody
public import Idealize.ShloMosaic.Lib.Pipeline.TalkSched

@[expose] public section

noncomputable section

namespace Cert.KernelIdeal.Dispatch

open Cert.KernelIdeal Cert.KernelIdeal.Gen
open Idealize.ShloMosaic TcCoe
open Idealize.SL
open Idealize.SL.BI (sProp bigSep bigSep_insert bigSep_empty bigSep_singleton)
open scoped Idealize.SL.BI
open Idealize.SL.BI.BIBase Idealize.SL.BI.Laws Idealize.SL.Sem Idealize.SL.ProofMode
open Idealize.SL.RA
open Idealize.ShloMosaic.Tactic
open Idealize.ShloMosaic.Pipeline (UD Dat BodyObligationLoose)
open Idealize.ShloMosaic.TalkSites (owesAt_intro owesAt_elim)
open Idealize.ShloMosaic.ValueIdx

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- The stretches of host operations before the call. -/
abbrev opss : List (List (HloOp τ sig (Elt F))) := [hostOps0, hostOps0_1, hostOps0_2, hostOps0_3, hostOps0_4, hostOps0_5]

/-- The buffers' contents when the call starts. -/
abbrev V (c : Dev nD) (b : Ref sig .tc) : Buf (Elt F) ((c.tc : Thread nD τ).loc b) :=
  StableHlo.after (opss (F := F)).flatten (fun b => m (c, b)) b

theorem opss_fresh : (opss (F := F)).Forall fun ops => ops.Forall fun op => op.fresh = ∅ := by
  simp only [opss, List.Forall]
  refine ⟨?_, ?_, ?_, ?_, ?_, ?_⟩ <;> (repeat' apply And.intro) <;> rfl

/-- Host operations leave both arguments as they were. -/
theorem V_arg0 (c : Dev nD) : V m c main_arg0 = m (c, Proc.devRef .tc main_arg0) :=
  StableHlo.after_of_forall_not_mem (b := Proc.devRef .tc main_arg0) _ _ (List.forall_iff_forall_mem.mp (by
    simp only [opss, hostOps0, hostOps0_1, hostOps0_2, hostOps0_3, hostOps0_4, hostOps0_5, List.flatten_cons, List.flatten_nil, List.cons_append, List.nil_append, List.append_nil, List.Forall,
      StableHlo.TRef.nullary, StableHlo.TRef.unary, StableHlo.TRef.binary, StableHlo.TRef.ternary,
      StableHlo.nullary_writes, StableHlo.unary_writes, StableHlo.binary_writes, StableHlo.ternary_writes, StableHlo.reshape_writes, Finset.mem_singleton]
    repeat' apply And.intro
    all_goals exact StableHlo.devRef_ne_of_ne (by decide)))

theorem V_arg1 (c : Dev nD) : V m c main_arg1 = m (c, Proc.devRef .tc main_arg1) :=
  StableHlo.after_of_forall_not_mem (b := Proc.devRef .tc main_arg1) _ _ (List.forall_iff_forall_mem.mp (by
    simp only [opss, hostOps0, hostOps0_1, hostOps0_2, hostOps0_3, hostOps0_4, hostOps0_5, List.flatten_cons, List.flatten_nil, List.cons_append, List.nil_append, List.append_nil, List.Forall,
      StableHlo.TRef.nullary, StableHlo.TRef.unary, StableHlo.TRef.binary, StableHlo.TRef.ternary,
      StableHlo.nullary_writes, StableHlo.unary_writes, StableHlo.binary_writes, StableHlo.ternary_writes, StableHlo.reshape_writes, Finset.mem_singleton]
    repeat' apply And.intro
    all_goals exact StableHlo.devRef_ne_of_ne (by decide)))

/-- The table, the source and the result's first contents. -/
abbrev tbl (c : Dev nD) : S8192.Idx → BitVec 32 := V m c main_v29
abbrev srcs (c : Dev nD) : S8192x8x128.Idx → Elt F .f32 := V m c main_arg1
abbrev outs (c : Dev nD) : S10240x8x128.Idx → Elt F .f32 := V m c main_v41

/-- The table's contents, as the call is entered with them. -/
abbrev adm : (p : Fin 1) → (pcfgs (F := F) p).Adm := fun _ => ⟨fun k => V m 0 (pre0.ref k), trivial⟩

variable (hσ : ∀ c, ∀ t : Fin 8192, (tbl m c (ix1 t)).toNat < 10240) (hinj : ∀ c, Function.Injective (slot (tbl m c) (hσ c)))

/-- What holds before grid point `n`. -/
def inv (c : Dev nD) (n : ℕ) : sProp 𝕄 :=
  iprop(table c (tbl m c) ∗ wholeS c (srcs m c) ∗ wholeD c (outAt (tbl m c) (hσ c) (srcs m c) (outs m c) (256 * n))
    ∗ semVal ((c : Thread nD τ), SemLoc.dma sem0) 0 ∗ ∃ r, prngReg c r)

/-- The proof's data: no window, the invariant above, nothing owed. -/
def dats (p : Fin 1) (c : Dev nD) : Dat τ (Elt F) Unit ℕ (UD sig nD τ) ℕ (Pipeline.pin (pcfgs (F := F)) (adm m) p) c where
  A := fun w => w.elim0
  after := fun w => w.elim0
  Φ := fun t => inv m hσ c t.val
  q := fun w => w.elim0
  owed := fun _ => 0

theorem coords_0 (t : Fin grid0.N) : (grid0.coords t 0).val = t.val := by
  have h := Pipeline.Grid.coords_val (G := grid0) t 0 (S := 1) (B := 32) (by decide) (by decide)
  have ht : t.val < 32 := N_0 ▸ t.isLt
  rw [h, Nat.div_one, Nat.mod_eq_of_lt ht]

include hinj in
theorem body_obligation (c : Dev nD) : BodyObligationLoose (dats m hσ 0 c) (defs₀ (F := F)) Variants.none () Set.univ := fun t => by
  rw [show (Finset.univ : Finset (Fin (Pipeline.pin (pcfgs (F := F)) (adm m) 0).W)) = ∅ from rfl, bigSep_empty, bigSep_empty]
  have hrow : defs₀ (F := F) .tc (Pipeline.pin (pcfgs (F := F)) (adm m) 0).body
        ((Pipeline.pin (pcfgs (F := F)) (adm m) 0).bodyArgs t ((Pipeline.pin (pcfgs (F := F)) (adm m) 0).slots t))
      = cc0_moe_dispatch (grid0.coords t) (Memref.whole main_v29) (Memref.isWhole_whole _) (Memref.whole main_arg1) (Memref.isWhole_whole _)
          (Memref.whole main_v41) (Memref.isWhole_whole _) (Memref.whole main_v41) (Memref.isWhole_whole _) cc0_scratch0 := by
    unfold defs₀; rw [Defs.onTc_tc]
  rw [hrow]
  iintro ⟨HΦ, HO, -⟩
  ihave HO := (owesAt_elim (dats m hσ 0 c) () t.castSucc 0 rfl) $$ HO
  icases HO with ⟨%W, HO⟩
  ihave HΦ := (Entails.of_eq (show (dats m hσ 0 c).Φ t.castSucc = inv m hσ c t.val from rfl)) $$ HΦ
  unfold inv
  icases HΦ with ⟨HT, HS, HD, Hc, HP⟩
  have hp := point c (tbl m c) (hσ c) (srcs m c) (grid0.coords t) (hinj c) (outs m c) W
  rw [coords_0 t] at hp
  iapply (wp_wand _ _ _) $$ [HT HS HD Hc HO]
  · iapply hp
    isplitl [HT]; · iexact HT
    isplitl [HS]; · iexact HS
    isplitl [HD]; · iexact HD
    isplitl [Hc]; · iexact Hc
    iexact HO
  iintro %r ⟨HT, HS, HD, Hc, ⟨%W', HO⟩⟩
  isplitl [HT HS HD Hc HP]
  · iapply (Entails.of_eq (show inv m hσ c (t.val + 1) = (dats m hσ 0 c).Φ t.succ from rfl))
    unfold inv
    rw [Nat.mul_add]
    isplitl [HT]; · iexact HT
    isplitl [HS]; · iexact HS
    isplitl [HD]; · iexact HD
    isplitl [Hc]; · iexact Hc
    iexact HP
  isplitl [HO]
  · iapply (owesAt_intro (dats m hσ 0 c) () t.succ 0 rfl rfl W')
    iexact HO
  iempintro

/-- The kernel's one semaphore. -/
abbrev osem : Fin 1 → SemLoc sig := fun _ => .dma sem0

theorem own : Pipeline.OwnSemFacts spec0 osem := by decide

/-- What the buffers hold at the end: the result its rows placed, the others as at the start. -/
def G (c : Dev nD) (b : Ref sig .tc) : Buf (Elt F) ((c.tc : Thread nD τ).loc b) :=
  if h : b = main_v41 then h ▸ (outAt (tbl m c) (hσ c) (srcs m c) (outs m c) 8192) else V m c b

theorem G_out (c : Dev nD) : G m hσ c main_v41 = outAt (tbl m c) (hσ c) (srcs m c) (outs m c) 8192 := dif_pos rfl

theorem enter (c : Dev nD) :
    iprop(Pipeline.ΦDRG osem spec0 {main_arg1} {main_v41} (V m) (V m) c ∗ Pipeline.ΦT pre0 (adm m 0).1 c)
      ⊢ (inv m hσ c 0 : sProp 𝕄) := by
  rw [Pipeline.ΦDRG_eq, scopedRest0_eq]
  unfold inv Pipeline.routed Pipeline.ownSems0 Pipeline.ΦT Pipeline.prefHeld
  rw [bigSep_singleton, bigSep_singleton, show (Finset.univ : Finset (Fin 1)) = {0} from rfl, bigSep_singleton,
    show outAt (tbl m c) (hσ c) (srcs m c) (outs m c) (256 * 0) = outs m c from
      funext fun y => outAt_of_not _ _ _ _ _ y fun t ht => absurd ht (Nat.not_lt_zero _)]
  iintro ⟨⟨-, HP, Hc, HS, HD⟩, HT⟩
  isplitl [HT]
  · iapply (Entails.of_eq (show (bigSep ({0} : Finset (Fin 1)) fun k => ((c.tc : Thread nD τ).loc (pre0.ref k)) ↦{fullShare.right} V m 0 (pre0.ref k) : sProp 𝕄)
        = table c (tbl m c) from by
      rw [Subsingleton.elim c 0, bigSep_singleton]; rfl))
    iexact HT
  isplitl [HS]; · iexact HS
  isplitl [HD]; · iexact HD
  isplitl [Hc]; · iexact Hc
  iexact HP

theorem leave (c : Dev nD) :
    (inv m hσ c 32 : sProp 𝕄) ⊢ Pipeline.ΦDRG osem spec0 {main_arg1} {main_v41} (V m) (G m hσ) c := by
  rw [Pipeline.ΦDRG_eq, scopedRest0_eq]
  unfold inv Pipeline.routed Pipeline.ownSems0
  rw [bigSep_singleton, bigSep_singleton, show (Finset.univ : Finset (Fin 1)) = {0} from rfl, bigSep_singleton, G_out]
  iintro ⟨-, HS, HD, Hc, HP⟩
  isplitr; · iempintro
  isplitl [HP]; · iexact HP
  isplitl [Hc]; · iexact Hc
  isplitl [HS]; · iexact HS
  iexact HD

include hinj in
set_option backward.isDefEq.respectTransparency.types false in
set_option maxHeartbeats 800000 in
/-- The run: it ends, with the result's rows placed, every semaphore at zero and both arguments unchanged. -/
theorem run_main : θ_run (defs (F := F)) (onTc (τ := τ) (main (F := F))) ⟨m, fun _ => 0, ρ⟩ (fun r =>
      (∀ c : Dev nD, r.2.mem ((c.tc : Thread nD τ).loc main_v41) = outAt (tbl m c) (hσ c) (srcs m c) (outs m c) 8192
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  Pipeline.θ_run_frameP_dmaRG (pcfgs (F := F)) (adm m) (dats m hσ) (0 : Fin 1) launch0 osem defs₀ Variants.none own {main_arg1} {main_v41}
    (show _ ⊆ Pipeline.restRefsP sig pre0 spec0 by decide) (show _ ⊆ Pipeline.restRefsP sig pre0 spec0 \ {main_arg1} by decide) m ρ main (body_obligation m hσ hinj) (fun _ w => w.elim0) (fun _ _ => rfl) (V m)
    (Pipeline.hmainP_prefixes (pcfgs (F := F)) 0 defs₀ Variants.none m main opss
      ⟨hostOps0_sub, hostOps0_1_sub, hostOps0_2_sub, hostOps0_3_sub, hostOps0_4_sub, hostOps0_5_sub⟩ opss_fresh main_chain)
    (fun _ w => w.elim0) (fun c k => by rw [Subsingleton.elim c 0]) (G m hσ)
    (enter m hσ) (fun c => by
      rw [show (dats m hσ 0 c).Φ (Fin.last _) = inv m hσ c 32 from congrArg (inv m hσ c) N_0]; exact leave m hσ c)
    (Q' := _) (hQ' := fun r h => ⟨fun c => ⟨(h.1.2 c main_v41 (by decide)).trans (G_out m hσ c),
      ((h.1.1 c).2 main_arg0 (show _ ∈ Pipeline.restRefs sig spec0 \ {main_v41} by decide)).trans (V_arg0 m c), ((h.1.1 c).2 main_arg1 (show _ ∈ Pipeline.restRefs sig spec0 \ {main_v41} by decide)).trans (V_arg1 m c)⟩, h.2⟩)

end Cert.KernelIdeal.Dispatch

end
-- ==== Proof.RouteSums.lean ====
/- Sums of words over the rows or the columns of a rectangle, as the host's reductions and running sums take them, and the place of
   a token among the padded groups as a natural number. -/
module

public import Idealize.ShloMosaic.Lib.Routing.Ops
public import Idealize.ShloMosaic.Lib.Routing.Words

@[expose] public section

namespace Cert.Route

open Idealize.ShloMosaic Idealize.ShloMosaic.ValueIdx
open Idealize.ShloMosaic.Routing

/-! ## Sums of words -/

theorem fold_addi_ofNat {ι : Type} (s : Finset ι) (g : ι → BitVec 32) (f : ι → ℕ) (h : ∀ i ∈ s, g i = BitVec.ofNat 32 (f i)) :
    s.fold IntOp.addi 0#32 g = BitVec.ofNat 32 (∑ i ∈ s, f i) := by
  induction s using Finset.cons_induction with
  | empty => rfl
  | cons a s ha ih =>
    rw [Finset.fold_cons, Finset.sum_cons, ih fun i hi => h i (Finset.mem_cons_of_mem hi), h a (Finset.mem_cons_self a s)]
    exact (BitVec.ofNat_add _ _).symm

/-- The sum over the columns of row `i`. -/
theorem reduce_cols {n m : ℕ} (x : IVec (shape2 n m) 32) (i : Fin n) (f : Fin m → ℕ) (hx : ∀ q, x (ix2 i q) = BitVec.ofNat 32 (f q))
    (h : (shape2 n m).ReducesTo [1] (shape1 n)) (hu : 0 < shape0.numel) :
    Host.reduce IntOp.addi x (constantI shape0 32 0#32) h hu (ix1 i) = BitVec.ofNat 32 (∑ q, f q) := by
  classical
  rw [Host.reduce_eq_fold]
  have hdrop : ∀ y : (shape2 n m).Idx, h.drop y = ix1 i ↔ y 0 = i := by
    intro y
    have hv : (h.drop y 0 : Nat) = y 0 := Shape.ReducesTo.drop_apply_val h y 0
    constructor
    · intro e; rw [e] at hv; exact Fin.ext hv.symm
    · intro e; funext b; have hb : b = 0 := Subsingleton.elim _ _; subst hb; exact Fin.ext (by rw [hv, e]; rfl)
  have hset : (Finset.univ.filter fun y : (shape2 n m).Idx => h.drop y = ix1 i) = Finset.univ.image fun q : Fin m => (ix2 i q : (shape2 n m).Idx) := by
    ext y
    rw [Finset.mem_filter, Finset.mem_image]
    constructor
    · rintro ⟨-, e⟩
      refine ⟨y 1, Finset.mem_univ _, ?_⟩
      have e0 := (hdrop y).mp e
      subst e0
      exact eq_ix2 y |>.symm
    · rintro ⟨q, -, rfl⟩
      exact ⟨Finset.mem_univ _, (hdrop _).mpr rfl⟩
  rw [hset, Finset.fold_image (fun q _ q' _ e => congrFun e 1)]
  exact fold_addi_ofNat _ _ _ fun q _ => hx q

/-- The number of marked rows in column `q`. -/
theorem reduce_rows {n m : ℕ} (hn : n < 2 ^ 32) (msk : IVec (shape2 n m) 1) (hw : 1 < 32) (h : (shape2 n m).ReducesTo [0] (shape1 m))
    (hu : 0 < shape0.numel) (q : Fin m) (Q : ℕ → Prop) [DecidablePred Q] (hQ : ∀ p : Fin n, msk (ix2 p q) = 1#1 ↔ Q p.val) :
    Host.reduce IntOp.addi (extui 32 msk hw) (constantI shape0 32 0#32) h hu (ix1 q) = BitVec.ofNat 32 (Nat.count Q n) := by
  apply BitVec.eq_of_toNat_eq
  rw [StableHlo.Predicate.toNat_reduce_count_rows hn msk hw h hu (ix1 q), BitVec.toNat_ofNat,
    Nat.mod_eq_of_lt (Nat.lt_of_le_of_lt (Nat.count_le _) hn), ← card_filter_fin n Q]
  refine congrArg Finset.card (Finset.filter_congr fun p _ => ?_)
  show msk (StableHlo.Predicate.ij p q) = 1#1 ↔ Q p.val
  rw [ij_eq_ix2]
  exact hQ p

theorem numelCol (N : ℕ) : (shape2 N 1).numel = N := by
  show ∏ a : Fin 2, (![N, 1] : Fin 2 → Nat) a = N
  rw [Fin.prod_univ_two]
  exact Nat.mul_one N

theorem symmCol {N : ℕ} (n : Fin (shape2 N 1).numel) : (shape2 N 1).rowMajor.symm n = ix2 (n.cast (numelCol N)) (0 : Fin 1) :=
  ((shape2 N 1).rowMajor.symm_apply_eq).2 (Fin.ext (by
    rw [Shape.rowMajor_val_two]
    show n.val = n.val * 1 + 0
    omega))

/-- The running sum down each column (a window of the whole column, padded above by one less). -/
theorem running_rows {N Nm1 M : ℕ} (hN : Nm1 + 1 = N) (x : IVec (shape2 N M) 32) (q : Fin M) (f : ℕ → ℕ)
    (hx : ∀ i : Fin N, x (ix2 i q) = BitVec.ofNat 32 (f i.val)) (init : IVec shape0 32) (hinit : init ix0 = 0#32)
    (h : (shape2 N M).ReduceWindows (![N, 1] : Fin 2 → Nat) ![1, 1] ![Nm1, 0] ![0, 0] (shape2 N M)) (hu : 0 < shape0.numel) (j : Fin N) :
    Host.reduceWindow IntOp.addi ![N, 1] ![1, 1] ![Nm1, 0] ![0, 0] x init h hu (ix2 j q)
      = BitVec.ofNat 32 ((List.range (j.val + 1)).map f).sum := by
  subst hN
  have hv : init (Shape.Idx.first hu) = BitVec.ofNat 32 0 := (congrArg init (eq_ix0 _)).trans hinit
  have hj := j.isLt
  have hq := q.isLt
  unfold Host.reduceWindow
  refine (foldl_addi_ofNat _ _ (fun n => if Nm1 ≤ j.val + n.val then f (j.val + n.val - Nm1) else 0) (fun n _ => ?_) _ 0 hv).trans ?_
  · have hw : ((shape2 (Nm1 + 1) 1).rowMajor.symm n 0).val = n.val := by rw [symmCol]; rfl
    have hw1 : ((shape2 (Nm1 + 1) 1).rowMajor.symm n 1).val = 0 := by rw [symmCol]; rfl
    have hn : n.val < Nm1 + 1 := (n.cast (numelCol _)).isLt
    dsimp only
    split
    · next hin =>
      have h0 := hin 0
      change Nm1 ≤ j.val * 1 + ((shape2 (Nm1 + 1) 1).rowMajor.symm n 0).val
        ∧ j.val * 1 + ((shape2 (Nm1 + 1) 1).rowMajor.symm n 0).val - Nm1 < Nm1 + 1 at h0
      rw [hw] at h0
      rw [if_pos (by omega)]
      refine (congrArg x (funext fun a => Fin.ext ?_)).trans (hx ⟨j.val + n.val - Nm1, by omega⟩)
      match a with
      | ⟨0, _⟩ =>
        show j.val * 1 + ((shape2 (Nm1 + 1) 1).rowMajor.symm n 0).val - Nm1 = j.val + n.val - Nm1
        rw [hw, Nat.mul_one]
      | ⟨1, _⟩ =>
        show q.val * 1 + ((shape2 (Nm1 + 1) 1).rowMajor.symm n 1).val - 0 = q.val
        rw [hw1]; omega
    · next hin =>
      rw [if_neg fun hle => hin fun a => by
        match a with
        | ⟨0, _⟩ =>
          show Nm1 ≤ j.val * 1 + ((shape2 (Nm1 + 1) 1).rowMajor.symm n 0).val
            ∧ j.val * 1 + ((shape2 (Nm1 + 1) 1).rowMajor.symm n 0).val - Nm1 < Nm1 + 1
          rw [hw]
          omega
        | ⟨1, _⟩ =>
          show 0 ≤ q.val * 1 + ((shape2 (Nm1 + 1) 1).rowMajor.symm n 1).val
            ∧ q.val * 1 + ((shape2 (Nm1 + 1) 1).rowMajor.symm n 1).val - 0 < M
          rw [hw1]
          omega]
      exact hv
  · rw [Nat.zero_add, map_finRange_val _ (fun w => if Nm1 ≤ j.val + w then f (j.val + w - Nm1) else 0)]
    exact congrArg (BitVec.ofNat 32) ((congrArg (fun M => ((List.range M).map fun w => if Nm1 ≤ j.val + w then f (j.val + w - Nm1) else 0).sum)
      (numelCol (Nm1 + 1))).trans (sum_window f Nm1 j.val (by omega)))

/-! ## Pieces of both routings, read at an index -/

open Idealize.ShloMosaic.WordCmp

/-- The first column of a table, as a vector. -/
theorem col0_at {n b : ℕ} (g : IVec (shape2 n b) 32) (hb : 0 < b) (h : (shape2 n b).Slices ![0, 0] (shape2 n 1)) (h' : (shape2 n 1).ShapeCasts (shape1 n)) (t : Fin n) :
    shapeCast (shape1 n) (extractStridedSlice (shape2 n 1) ![0, 0] g h) h' (ix1 t) = g (ix2 t ⟨0, hb⟩) :=
  (cast21 _ h' t (0 : Fin 1) t (by show t.val = t.val * 1 + 0; omega)).trans (slice_col0 g h t hb)

/-- Which group each token is of, as a rectangle of bits. -/
theorem same_at (k : ℕ → ℕ) (hk : ∀ t, t < 8192 → k t < 4) (g : IVec (shape1 8192) 32) (hg : ∀ t : Fin 8192, g (ix1 t) = BitVec.ofNat 32 (k t.val))
    (h₁ : (shape1 8192).BroadcastsInDim (shape2 8192 1) (![0] : Fin 1 → Fin (shape2 8192 1).rank))
    (h₂ : (shape2 8192 1).BroadcastsInDim (shape2 8192 4) (![0, 1] : Fin 2 → Fin (shape2 8192 4).rank))
    (h₃ : (shape1 4).BroadcastsInDim (shape2 1 4) (![1] : Fin 1 → Fin (shape2 1 4).rank))
    (h₄ : (shape2 1 4).BroadcastsInDim (shape2 8192 4) (![0, 1] : Fin 2 → Fin (shape2 8192 4).rank)) (t : Fin 8192) (q : Fin 4) :
    cmpi .eq (broadcastInDim (shape2 8192 4) ![0, 1] h₂ (broadcastInDim (shape2 8192 1) ![0] h₁ g))
      (broadcastInDim (shape2 8192 4) ![0, 1] h₄ (broadcastInDim (shape2 1 4) ![1] h₃ (iotaInDim (shape1 4) 32 0))) (ix2 t q)
      = BitVec.ofBool (decide (k t.val = q.val)) := by
  have h4 := hk t.val t.isLt
  have hq := q.isLt
  rw [cmpi_at, bcRows, bcCols, hg, iota1_ap, cmpi_eq_ofNat (w := 32) (by omega) (by omega)]

/-! ## A token's place -/

section Place

variable (k : ℕ → ℕ)

/-- Group `q`'s number of tokens, its number of tiles of 512 rows, and its first row. -/
def size (q : ℕ) : ℕ := Nat.count (fun s => k s = q) 8192
def tiles (q : ℕ) : ℕ := (size k q + 511) / 512
def start (q : ℕ) : ℕ := 512 * ((List.range q).map (tiles k)).sum

/-- A token's row: its group's first row and the number of its group's tokens before it. -/
def place (t : ℕ) : ℕ := start k (k t) + Nat.count (fun s => k s = k t) t

theorem start_succ (q : ℕ) : start k (q + 1) = start k q + 512 * tiles k q := by
  unfold start
  rw [List.range_succ, List.map_append, List.sum_append]
  simp [Nat.mul_add]

theorem size_le_tiles (q : ℕ) : size k q ≤ 512 * tiles k q := by unfold tiles; omega

variable (hk : ∀ t, t < 8192 → k t < 4)
include hk

theorem sizes : size k 0 + size k 1 + size k 2 + size k 3 = 8192 := by
  have h := sum_count_eq k 3 8192
  have h' : Nat.count (fun i => k i ≤ 3) 8192 = 8192 := by
    rw [count_congr_of_lt (P := fun i => k i ≤ 3) (Q := fun _ => True) 8192 fun i hi => ⟨fun _ => trivial, fun _ => by have := hk i hi; omega⟩]
    exact Nat.count_true 8192
  rw [h', show List.range (3 + 1) = [0, 1, 2, 3] from rfl] at h
  simp only [List.map_cons, List.map_nil, List.sum_cons, List.sum_nil] at h
  unfold size
  omega

theorem start_four : start k 4 ≤ 10236 := by
  have h := sizes k hk
  rw [start_succ, start_succ, start_succ, start_succ, show start k 0 = 0 from rfl]
  unfold tiles
  omega

omit hk in
theorem start_mono {q r : ℕ} (h : q ≤ r) : start k q ≤ start k r := by
  induction r with
  | zero => rw [Nat.le_zero.mp h]
  | succ r ih =>
    rcases Nat.lt_or_ge q (r + 1) with h' | h'
    · exact (ih (by omega)).trans (by rw [start_succ]; omega)
    · rw [show q = r + 1 by omega]

omit hk in
theorem place_lt_start {t : ℕ} (ht : t < 8192) : place k t < start k (k t + 1) := by
  rw [start_succ]
  have h1 : Nat.count (fun s => k s = k t) (t + 1) ≤ size k (k t) := Nat.count_monotone _ (by omega)
  rw [Nat.count_succ, if_pos rfl] at h1
  have := size_le_tiles k (k t)
  unfold place
  omega

theorem place_lt {t : ℕ} (ht : t < 8192) : place k t < 10240 := by
  have h1 := place_lt_start k ht
  have h2 : start k (k t + 1) ≤ start k 4 := start_mono k (by have := hk t ht; omega)
  have := start_four k hk
  omega

omit hk in
theorem place_inj {t t' : ℕ} (ht : t < 8192) (ht' : t' < 8192) (h : place k t = place k t') : t = t' := by
  have hg : k t = k t' := by
    rcases Nat.lt_trichotomy (k t) (k t') with hl | he | hl
    · have h1 := place_lt_start k ht
      have h2 : start k (k t + 1) ≤ start k (k t') := start_mono k hl
      have h3 : start k (k t') ≤ place k t' := Nat.le_add_right _ _
      omega
    · exact he
    · have h1 := place_lt_start k ht'
      have h2 : start k (k t' + 1) ≤ start k (k t) := start_mono k hl
      have h3 : start k (k t) ≤ place k t := Nat.le_add_right _ _
      omega
  unfold place at h
  rw [hg] at h
  exact Nat.count_injective (p := fun s => k s = k t') hg rfl (Nat.add_left_cancel h)

/-- A sum over the groups of a value at the token's own group. -/
theorem sum_own (f : ℕ → ℕ) {t : ℕ} (ht : t < 8192) : (∑ q : Fin 4, f q.val * if k t = q.val then 1 else 0) = f (k t) := by
  have h := hk t ht
  rw [Finset.sum_eq_single (⟨k t, h⟩ : Fin 4)]
  · rw [if_pos rfl, Nat.mul_one]
  · intro q _ hq
    rw [if_neg fun e => hq (Fin.ext e.symm), Nat.mul_zero]
  · intro hn; exact absurd (Finset.mem_univ _) hn

end Place

end Cert.Route

end
-- ==== Proof.DispatchRoute.lean ====
/- The dispatch call's table: the host's operations give each token its place among the padded groups. -/
module

public import proofs.«01_k».proof.Proof.DispatchLaunch
public import proofs.«01_k».proof.Proof.RouteSums

@[expose] public section

noncomputable section

namespace Cert.KernelIdeal.Dispatch

open Cert.KernelIdeal Cert.KernelIdeal.Gen Cert.Route
open Idealize.ShloMosaic TcCoe
open Idealize.ShloMosaic.ValueIdx Idealize.ShloMosaic.WordCmp
open Idealize.ShloMosaic.Routing

variable {F : FTy → Type} [FloatOps F]

/-! ## The host's values, step by step -/

section Steps

variable (g : IVec S8192x128 32)

/-- Each token's group. -/
def gidV : IVec S8192 32 := shapeCast S8192 (extractStridedSlice S8192x1 ![0, 0] g slices_S8192x128_S8192x1_0_0) shapeCasts_S8192x1_S8192

/-- Which group each token is of. -/
def sameV : IVec S8192x4 1 :=
  cmpi .eq (broadcastInDim S8192x4 ![0, 1] bcast_S8192x1_S8192x4_0_1 (broadcastInDim S8192x1 ![0] bcast_S8192_S8192x1_0 (gidV g)))
    (broadcastInDim S8192x4 ![0, 1] bcast_S1x4_S8192x4_0_1 (broadcastInDim S1x4 ![1] bcast_S4_S1x4_1 (iotaInDim S4 32 0)))

def hotV : IVec S8192x4 32 := extui 32 (sameV g) natLt_1_32

/-- The tokens of each group up to and including each token. -/
def runV : IVec S8192x4 32 :=
  Host.reduceWindow IntOp.addi ![8192, 1] ![1, 1] ![8191, 0] ![0, 0] (hotV g) (broadcastInDim S_ ![] bcast_S_S_ (constantI S_ 32 0#32))
    reduceWindows_S8192x4_S8192x4_w8192s1p8191_0_w1s1p0_0 h_S_

/-- The tokens of the token's own group before it. -/
def rankV : IVec S8192 32 :=
  subi (Host.reduce IntOp.addi (muli (runV g) (hotV g)) (constantI S_ 32 0#32) reducesTo_S8192x4_S8192_d1 h_S_)
    (broadcastInDim S8192 ![] bcast_S_S8192 (constantI S_ 32 1#32))

/-- Each group's tiles. -/
def tilesV : IVec S4 32 :=
  pyDiv bcast_S_S4 (subi (addi (shapeCast S4 (extractStridedSlice S1x4 ![8191, 0] (runV g) slices_S8192x4_S1x4_8191_0) shapeCasts_S1x4_S4)
    (broadcastInDim S4 ![] bcast_S_S4 (constantI S_ 32 512#32))) (broadcastInDim S4 ![] bcast_S_S4 (constantI S_ 32 1#32))) (constantI S_ 32 512#32)

def ends : IVec S4 32 :=
  Host.reduceWindow IntOp.addi ![4] ![1] ![3] ![0] (tilesV g) (broadcastInDim S_ ![] bcast_S_S_ (constantI S_ 32 0#32)) reduceWindows_S4_S4_w4s1p3_0 h_S_

/-- Each group's first row. -/
def startV : IVec S4 32 :=
  muli (subi (ends g) (tilesV g)) (broadcastInDim S4 ![] bcast_S_S4 (constantI S_ 32 512#32))

/-- The table. -/
def placeV : IVec S8192 32 :=
  addi (Host.reduce IntOp.addi (muli (broadcastInDim S8192x4 ![0, 1] bcast_S1x4_S8192x4_0_1 (broadcastInDim S1x4 ![1] bcast_S4_S1x4_1 (startV g))) (hotV g))
    (constantI S_ 32 0#32) reducesTo_S8192x4_S8192_d1 h_S_) (rankV g)

end Steps

set_option maxRecDepth 8192 in
set_option maxHeartbeats 3000000 in
/-- The host's operations leave the table at that value, -/
theorem tbl_eq (m : (ℓ : Loc nD τ sig) → Buf (Elt F) ℓ) (c : Dev nD) : tbl m c = placeV (m ((c.tc : Thread nD τ).loc main_arg0)) := by
  unfold tbl
  simp only [V, opss, hostOps0, hostOps0_1, hostOps0_2, hostOps0_3, hostOps0_4, hostOps0_5, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp
  rfl

set_option maxRecDepth 8192 in
set_option maxHeartbeats 3000000 in
/-- and the result's buffer at zeros. -/
theorem outs_eq (m : (ℓ : Loc nD τ sig) → Buf (Elt F) ℓ) (c : Dev nD) :
    outs m c = broadcastInDim S10240x8x128 ![] bcast_S_S10240x8x128 (constant S_ .f32 0x00000000#32) := by
  unfold outs
  simp only [V, opss, hostOps0, hostOps0_1, hostOps0_2, hostOps0_3, hostOps0_4, hostOps0_5, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp

/-! ## Each step at an index -/

section Values

variable (g : IVec S8192x128 32) (k : ℕ → ℕ) (hg : ∀ t : Fin 8192, g (ix2 t (0 : Fin 128)) = BitVec.ofNat 32 (k t.val)) (hk : ∀ t, t < 8192 → k t < 4)
include hg hk

omit hk in
theorem gidV_at (t : Fin 8192) : gidV g (ix1 t) = BitVec.ofNat 32 (k t.val) :=
  (col0_at g (by decide) _ _ t).trans (hg t)

theorem hotV_at (t : Fin 8192) (q : Fin 4) : hotV g (ix2 t q) = BitVec.ofNat 32 (if k t.val = q.val then 1 else 0) := by
  show (sameV g (ix2 t q)).setWidth 32 = _
  rw [← setWidth_ofBool]
  exact congrArg (BitVec.setWidth 32) (same_at k hk (gidV g) (gidV_at g k hg) _ _ _ _ t q)

theorem runV_at (t : Fin 8192) (q : Fin 4) : runV g (ix2 t q) = BitVec.ofNat 32 (Nat.count (fun s => k s = q.val) (t.val + 1)) := by
  refine (running_rows (by decide) (hotV g) q (fun s => if k s = q.val then 1 else 0) (fun i => hotV_at g k hg hk i q) _ rfl _ _ t).trans ?_
  rw [sum_map_ite]

theorem rankV_at (t : Fin 8192) : rankV g (ix1 t) = BitVec.ofNat 32 (Nat.count (fun s => k s = k t.val) t.val) := by
  unfold rankV
  rw [subi_ap, bc0, reduce_cols (muli (runV g) (hotV g)) t (fun q => Nat.count (fun s => k s = q.val) (t.val + 1) * if k t.val = q.val then 1 else 0) (fun q => by
      rw [muli_ap, runV_at g k hg hk, hotV_at g k hg hk, BitVec.ofNat_mul_ofNat]),
    sum_own k hk (fun q => Nat.count (fun s => k s = q) (t.val + 1)) t.isLt, Nat.count_succ, if_pos rfl]
  show BitVec.ofNat 32 _ - BitVec.ofNat 32 1 = _
  rw [ofNat32_sub (by omega), Nat.add_sub_cancel]

theorem tilesV_at (q : Fin 4) : tilesV g (ix1 q) = BitVec.ofNat 32 (tiles k q.val) := by
  have h8 : size k q.val ≤ 8192 := Nat.count_le _
  refine pyDiv_ap _ _ _ (ix1 q) (a := size k q.val + 512 - 1) (b := 512) ?_ rfl (by omega) (by decide) (by decide)
  rw [subi_ap, addi_ap, bc0, bc0, cast21 _ _ (0 : Fin 1) q q (by show q.val = 0 * 4 + q.val; omega)]
  have e : extractStridedSlice S1x4 ![8191, 0] (runV g) slices_S8192x4_S1x4_8191_0 (ix2 (0 : Fin 1) q) = runV g (ix2 (8191 : Fin 8192) q) := by
    unfold extractStridedSlice
    refine congrArg _ (funext fun a => Fin.ext ?_)
    match a with
    | ⟨0, _⟩ => rfl
    | ⟨1, _⟩ => exact Nat.zero_add _
  rw [e, runV_at g k hg hk]
  show BitVec.ofNat 32 (size k q.val) + BitVec.ofNat 32 512 - BitVec.ofNat 32 1 = _
  rw [BitVec.ofNat_add_ofNat, ofNat32_sub (by omega)]

theorem startV_at (q : Fin 4) : startV g (ix1 q) = BitVec.ofNat 32 (start k q.val) := by
  unfold startV
  rw [muli_ap, subi_ap, bc0, tilesV_at g k hg hk, show ends g (ix1 q) = _ from cumsum1 (by decide) (tilesV g) (tiles k) (tilesV_at g k hg hk) _ rfl _ _ q]
  show (_ - _) * BitVec.ofNat 32 512 = _
  rw [List.range_succ, List.map_append, List.sum_append, ofNat32_sub (by simp), BitVec.ofNat_mul_ofNat]
  unfold start
  simp [Nat.mul_comm]

/-- The table's word for a token is its place. -/
theorem placeV_at (t : Fin 8192) : placeV g (ix1 t) = BitVec.ofNat 32 (place k t.val) := by
  unfold placeV
  rw [addi_ap, rankV_at g k hg hk, reduce_cols _ t (fun q => start k q.val * if k t.val = q.val then 1 else 0) (fun q => by
      rw [muli_ap, bcCols, startV_at g k hg hk, hotV_at g k hg hk, BitVec.ofNat_mul_ofNat]),
    sum_own k hk (start k) t.isLt, BitVec.ofNat_add_ofNat]
  rfl

theorem placeV_toNat (t : Fin 8192) : (placeV g (ix1 t)).toNat = place k t.val := by
  have := place_lt k hk t.isLt
  rw [placeV_at g k hg hk, BitVec.toNat_ofNat, Nat.mod_eq_of_lt (by omega)]

end Values

end Cert.KernelIdeal.Dispatch

end
-- ==== Proof.DispatchRef.lean ====
/- The plain dispatch reads: each token's row at its place among the padded groups, zeros elsewhere. -/
module

public import Idealize.ShloMosaic.Lib.Routing.OpsSet
public import proofs.«01_k».proof.Proof.Gen.ReferenceIdeal.Run
public import proofs.«01_k».proof.Proof.RouteSums

@[expose] public section

noncomputable section

namespace Cert.ReferenceIdeal.Dispatch

open Cert.ReferenceIdeal Cert.ReferenceIdeal.Gen Cert.Route
open Idealize.ShloMosaic TcCoe
open Idealize.ShloMosaic.ValueIdx Idealize.ShloMosaic.WordCmp
open Idealize.ShloMosaic.Routing

variable {F : FTy → Type} [FloatOps F]

/-! ## The values, step by step -/

section Steps

variable (g : IVec S8192x128 32)

/-- Each token's group. -/
def gidV : IVec S8192 32 := shapeCast S8192 (extractStridedSlice S8192x1 ![0, 0] g slices_S8192x128_S8192x1_0_0) shapeCasts_S8192x1_S8192

def gidCol : IVec S8192x1 32 := broadcastInDim S8192x1 ![0] bcast_S8192_S8192x1_0 (gidV g)

def groupRow : IVec S1x4 32 := broadcastInDim S1x4 ![1] bcast_S4_S1x4_1 (iotaInDim S4 32 0)

/-- The tokens of the token's own group before it. -/
def rankV : IVec S8192 32 :=
  Host.reduce IntOp.addi (extui 32 (andi (cmpi .eq (broadcastInDim S8192x8192 ![0, 1] bcast_S8192x1_S8192x8192_0_1 (gidCol g))
      (broadcastInDim S8192x8192 ![0, 1] bcast_S1x8192_S8192x8192_0_1 (broadcastInDim S1x8192 ![1] bcast_S8192_S1x8192_1 (gidV g))))
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))) natLt_1_32)
    (constantI S_ 32 0#32) reducesTo_S8192x8192_S8192_d1 h_S_

/-- Each group's tokens. -/
def sizeV : IVec S4 32 :=
  Host.reduce IntOp.addi (extui 32 (cmpi .eq (broadcastInDim S8192x4 ![0, 1] bcast_S8192x1_S8192x4_0_1 (gidCol g))
    (broadcastInDim S8192x4 ![0, 1] bcast_S1x4_S8192x4_0_1 groupRow)) natLt_1_32) (constantI S_ 32 0#32) reducesTo_S8192x4_S4_d0 h_S_

/-- Each group's padded rows. -/
def rowsV : IVec S4 32 :=
  muli (pyDiv bcast_S_S4 (addi (sizeV g) (broadcastInDim S4 ![] bcast_S_S4 (constantI S_ 32 511#32))) (id (constantI S_ 32 512#32)))
    (broadcastInDim S4 ![] bcast_S_S4 (constantI S_ 32 512#32))

/-- The first row of each token's group. -/
def startV : IVec S8192 32 :=
  Host.reduce IntOp.addi (select (cmpi .slt (broadcastInDim S8192x4 ![0, 1] bcast_S1x4_S8192x4_0_1 groupRow) (broadcastInDim S8192x4 ![0, 1] bcast_S8192x1_S8192x4_0_1 (gidCol g)))
      (broadcastInDim S8192x4 ![0, 1] bcast_S1x4_S8192x4_0_1 (broadcastInDim S1x4 ![1] bcast_S4_S1x4_1 (rowsV g)))
      (broadcastInDim S8192x4 ![] bcast_S_S8192x4 (id (constantI S_ 32 0#32))))
    (constantI S_ 32 0#32) reducesTo_S8192x4_S8192_d1 h_S_

/-- Each token's place, -/
def placeV : IVec S8192 32 := addi (startV g) (rankV g)

/-- as an index counted from the end if negative. -/
def indexV : IVec S8192 32 :=
  select (cmpi .slt (placeV g) (broadcastInDim S8192 ![] bcast_S_S8192 (constantI S_ 32 0#32)))
    (addi (placeV g) (broadcastInDim S8192 ![] bcast_S_S8192 (constantI S_ 32 10240#32))) (placeV g)

/-- The result. -/
def resV (rows : FVec F S8192x8x128 .f32) : FVec F S10240x8x128 .f32 :=
  Host.scatter scatter_S10240x8x128_S8192x1_S8192x8x128_12_0_0_1 (fun _ b => b) (broadcastInDim S10240x8x128 ![] bcast_S_S10240x8x128 (constant S_ .f32 0x00000000#32))
    (broadcastInDim S8192x1 ![0] bcast_S8192_S8192x1_0 (indexV g)) rows

end Steps

theorem res_eq (m : (ℓ : Loc nD τ sig) → Buf (Elt F) ℓ) (c : Dev nD) :
    Value.res_main_v45 m c = resV (m ((c.tc : Thread nD τ).loc main_arg0)) (m ((c.tc : Thread nD τ).loc main_arg1)) := rfl

/-! ## Each step at an index -/

/-- The earlier members among the first `n`. -/
theorem count_before (P : ℕ → Prop) [DecidablePred P] {t n : ℕ} (h : t ≤ n) : Nat.count (fun s => P s ∧ s < t) n = Nat.count P t := by
  obtain ⟨d, rfl⟩ := Nat.exists_eq_add_of_le h
  have e : Nat.count (fun j => P (t + j) ∧ t + j < t) d = 0 := Nat.count_iff_forall_not.2 fun j _ h => Nat.not_lt.2 (Nat.le_add_right t j) h.2
  rw [Nat.count_add, e, Nat.add_zero]
  exact count_congr_of_lt t fun s hs => ⟨And.left, fun h => ⟨h, hs⟩⟩

section Values

variable (g : IVec S8192x128 32) (k : ℕ → ℕ) (hg : ∀ t : Fin 8192, g (ix2 t (0 : Fin 128)) = BitVec.ofNat 32 (k t.val)) (hk : ∀ t, t < 8192 → k t < 4)
include hg hk

omit hk in
theorem gidV_at (t : Fin 8192) : gidV g (ix1 t) = BitVec.ofNat 32 (k t.val) :=
  (col0_at g (by decide) _ _ t).trans (hg t)

theorem rankV_at (t : Fin 8192) : rankV g (ix1 t) = BitVec.ofNat 32 (Nat.count (fun s => k s = k t.val) t.val) := by
  have h4 := hk t.val t.isLt
  refine (reduce_count (by decide) _ _ _ _ t (fun s => k s = k t.val ∧ s < t.val) fun q => ?_).trans ?_
  · have h4' := hk q.val q.isLt
    rw [andi_at, cmpi_at, cmpi_at]
    unfold gidCol
    rw [bcRows, bcCols, bcRows, bcCols, gidV_at g k hg, gidV_at g k hg, iota1_ap, iota1_ap,
      cmpi_eq_ofNat (w := 32) (by omega) (by omega), cmpi_slt_ofNat (w := 32) (by have := q.isLt; omega) (by have := t.isLt; omega)]
    by_cases h1 : k t.val = k q.val
    · by_cases h2 : q.val < t.val
      · simp [h1, h2, IntOp.andi]
      · simp [h1, h2, IntOp.andi]
    · have h1' : ¬ k q.val = k t.val := fun e => h1 e.symm
      by_cases h2 : q.val < t.val
      · simp [h1, h1', h2, IntOp.andi]
      · simp [h1, h1', h2, IntOp.andi]
  · exact congrArg (BitVec.ofNat 32) (count_before _ (Nat.le_of_lt t.isLt))

theorem sizeV_at (q : Fin 4) : sizeV g (ix1 q) = BitVec.ofNat 32 (size k q.val) := by
  refine (reduce_rows (by decide) _ _ _ _ q (fun s => k s = q.val) fun p => ?_)
  unfold gidCol groupRow
  rw [same_at k hk (gidV g) (gidV_at g k hg)]
  by_cases h : k p.val = q.val <;> simp [h]

theorem rowsV_at (q : Fin 4) : rowsV g (ix1 q) = BitVec.ofNat 32 (tiles k q.val * 512) := by
  have h8 : size k q.val ≤ 8192 := Nat.count_le _
  unfold rowsV
  rw [muli_ap, bc0, pyDiv_ap _ _ _ (ix1 q) (a := size k q.val + 511) (b := 512) (by
    rw [addi_ap, bc0, sizeV_at g k hg hk]
    exact BitVec.ofNat_add_ofNat _ _) rfl (by omega) (by decide) (by decide)]
  exact BitVec.ofNat_mul_ofNat _ _

theorem startV_at (t : Fin 8192) : startV g (ix1 t) = BitVec.ofNat 32 (start k (k t.val)) := by
  have h4 := hk t.val t.isLt
  refine (reduce_cols _ t (fun q => if q.val < k t.val then tiles k q.val * 512 else 0) (fun q => ?_) _ _).trans ?_
  · rw [select_at, cmpi_at]
    unfold gidCol groupRow
    rw [bcRows, bcCols, bcCols, gidV_at g k hg, iota1_ap, rowsV_at g k hg hk,
      cmpi_slt_ofNat (w := 32) (by have := q.isLt; omega) (by omega), select_decide]
    by_cases h : q.val < k t.val
    · rw [if_pos h, if_pos h]
    · rw [if_neg h, if_neg h]
      rfl
  · refine congrArg (BitVec.ofNat 32) ?_
    unfold start
    generalize k t.val = a at h4
    rw [Fin.sum_univ_four]
    interval_cases a <;> simp [List.range_succ] <;> omega

theorem placeV_at (t : Fin 8192) : placeV g (ix1 t) = BitVec.ofNat 32 (place k t.val) := by
  unfold placeV
  rw [addi_ap, startV_at g k hg hk, rankV_at g k hg hk, BitVec.ofNat_add_ofNat]
  rfl

theorem indexV_at (t : Fin 8192) : indexV g (ix1 t) = BitVec.ofNat 32 (place k t.val) := by
  have := place_lt k hk t.isLt
  unfold indexV
  rw [select_at, cmpi_at, placeV_at g k hg hk, bc0, show constantI S_ 32 0#32 ix0 = BitVec.ofNat 32 0 from rfl, cmpi_slt_ofNat (w := 32) (by omega) (by decide), select_decide]
  exact if_neg (Nat.not_lt_zero _)

end Values

/-! ## The scatter at an index -/

/-- A row lands whole at the row that its index names. -/
theorem lands (idx : IVec S8192x1 32) (t : Fin 8192) (a : Fin 8) (b : Fin 128) (p : ℕ) (hp : p < 10240) (h : idx (ix2 t (0 : Fin 1)) = BitVec.ofNat 32 p) :
    scatter_S10240x8x128_S8192x1_S8192x8x128_12_0_0_1.resultIdx? (ix3 t a b) idx = some (ix3 (⟨p, hp⟩ : Fin 10240) a b) := by
  have w0 : scatter_S10240x8x128_S8192x1_S8192x8x128_12_0_0_1.window (ix3 t a b) 0 = 0 := rfl
  have w1 : scatter_S10240x8x128_S8192x1_S8192x8x128_12_0_0_1.window (ix3 t a b) 1 = a.val := rfl
  have w2 : scatter_S10240x8x128_S8192x1_S8192x8x128_12_0_0_1.window (ix3 t a b) 2 = b.val := rfl
  have s0 : scatter_S10240x8x128_S8192x1_S8192x8x128_12_0_0_1.start (ix3 t a b) idx 0 = p := by
    refine Eq.trans (b := (idx (ix2 t (0 : Fin 1))).toInt) (congrArg (fun i => (idx i).toInt) (funext fun e => Fin.ext ?_)) ?_
    · match e with
      | ⟨0, _⟩ => rfl
      | ⟨1, _⟩ => rfl
    · rw [h]
      exact toInt_ofNat_of_lt (w := 32) (by omega)
  have s1 : scatter_S10240x8x128_S8192x1_S8192x8x128_12_0_0_1.start (ix3 t a b) idx 1 = 0 := rfl
  have s2 : scatter_S10240x8x128_S8192x1_S8192x8x128_12_0_0_1.start (ix3 t a b) idx 2 = 0 := rfl
  unfold ScatterDims.resultIdx?
  have ha := a.isLt
  have hb := b.isLt
  rw [dif_pos fun e => by
    match e with
    | ⟨0, _⟩ => rw [show (⟨0, _⟩ : Fin 3) = 0 from rfl, s0, w0]; show 0 ≤ (p : ℤ) + (0 : ℕ) ∧ (p : ℤ) + (0 : ℕ) < (10240 : ℕ); omega
    | ⟨1, _⟩ => rw [show (⟨1, _⟩ : Fin 3) = 1 from rfl, s1, w1]; show 0 ≤ (0 : ℤ) + a.val ∧ (0 : ℤ) + a.val < (8 : ℕ); omega
    | ⟨2, _⟩ => rw [show (⟨2, _⟩ : Fin 3) = 2 from rfl, s2, w2]; show 0 ≤ (0 : ℤ) + b.val ∧ (0 : ℤ) + b.val < (128 : ℕ); omega]
  refine congrArg some (funext fun e => Fin.ext ?_)
  match e with
  | ⟨0, _⟩ => show (scatter_S10240x8x128_S8192x1_S8192x8x128_12_0_0_1.start (ix3 t a b) idx 0 + scatter_S10240x8x128_S8192x1_S8192x8x128_12_0_0_1.window (ix3 t a b) 0).toNat = p; rw [s0, w0]; omega
  | ⟨1, _⟩ => show (scatter_S10240x8x128_S8192x1_S8192x8x128_12_0_0_1.start (ix3 t a b) idx 1 + scatter_S10240x8x128_S8192x1_S8192x8x128_12_0_0_1.window (ix3 t a b) 1).toNat = a.val; rw [s1, w1]; omega
  | ⟨2, _⟩ => show (scatter_S10240x8x128_S8192x1_S8192x8x128_12_0_0_1.start (ix3 t a b) idx 2 + scatter_S10240x8x128_S8192x1_S8192x8x128_12_0_0_1.window (ix3 t a b) 2).toNat = b.val; rw [s2, w2]; omega

section Result

variable (g : IVec S8192x128 32) (k : ℕ → ℕ) (hg : ∀ t : Fin 8192, g (ix2 t (0 : Fin 128)) = BitVec.ofNat 32 (k t.val)) (hk : ∀ t, t < 8192 → k t < 4)
include hg hk

theorem lands_place (t : Fin 8192) (a : Fin 8) (b : Fin 128) :
    scatter_S10240x8x128_S8192x1_S8192x8x128_12_0_0_1.resultIdx? (ix3 t a b) (broadcastInDim S8192x1 ![0] bcast_S8192_S8192x1_0 (indexV g))
      = some (ix3 (⟨place k t.val, place_lt k hk t.isLt⟩ : Fin 10240) a b) :=
  lands _ t a b _ _ ((bcCol _ _ _).trans (indexV_at g k hg hk t))

/-- A place holds its token's row, -/
theorem resV_hit (rows : FVec F S8192x8x128 .f32) (t : Fin 8192) (y : S10240x8x128.Idx) (h : place k t.val = (y 0).val) :
    resV g rows y = rows (ix3 t (y 1) (y 2)) := by
  refine scatter_set_hit _ _ _ _ y _ (fun j hj => ?_) (ix3 t (y 1) (y 2)) ?_
  · obtain ⟨t', a, b, rfl⟩ : ∃ (t' : Fin 8192) (a : Fin 8) (b : Fin 128), j = ix3 t' a b := ⟨j 0, j 1, j 2, eq_ix3 j⟩
    have e := Option.some.inj ((lands_place g k hg hk t' a b).symm.trans hj)
    have e0 : place k t'.val = (y 0).val := congrArg Fin.val (congrFun e 0)
    have e1 : a = y 1 := congrFun e 1
    have e2 : b = y 2 := congrFun e 2
    rw [e1, e2, show t' = t from Fin.ext (place_inj k t'.isLt t.isLt (e0.trans h.symm))]
  · refine (lands_place g k hg hk t (y 1) (y 2)).trans ?_
    refine congrArg some (funext fun e => Fin.ext ?_)
    match e with
    | ⟨0, _⟩ => exact h
    | ⟨1, _⟩ => rfl
    | ⟨2, _⟩ => rfl

/-- and any other row is zeros. -/
theorem resV_miss (rows : FVec F S8192x8x128 .f32) (y : S10240x8x128.Idx) (h : ∀ t : Fin 8192, place k t.val ≠ (y 0).val) :
    resV g rows y = broadcastInDim S10240x8x128 ![] bcast_S_S10240x8x128 (constant S_ .f32 0x00000000#32) y := by
  refine scatter_set_miss _ _ _ _ y fun j hj => ?_
  obtain ⟨t', a, b, rfl⟩ : ∃ (t' : Fin 8192) (a : Fin 8) (b : Fin 128), j = ix3 t' a b := ⟨j 0, j 1, j 2, eq_ix3 j⟩
  exact h t' (congrArg Fin.val (congrFun (Option.some.inj ((lands_place g k hg hk t' a b).symm.trans hj)) 0))

end Result

end Cert.ReferenceIdeal.Dispatch

end
-- ==== Proof.DispatchValue.lean ====
/- The dispatch call and the plain dispatch have the same value, on routings into the four groups. -/
module

public import proofs.«01_k».proof.Defs
public import proofs.«01_k».proof.Proof.Gen.Pre_groups_in_range
public import proofs.«01_k».proof.Proof.DispatchRoute
public import proofs.«01_k».proof.Proof.DispatchRef

@[expose] public section

noncomputable section

namespace Cert.Dispatch

open Cert.KernelIdeal Cert.KernelIdeal.Gen Cert.KernelIdeal.Dispatch Cert.Route
open Idealize.ShloMosaic Idealize.SL.Sem TcCoe
open Idealize.ShloMosaic.ValueIdx Idealize.ShloMosaic.WordCmp
open Idealize.ShloMosaic.Routing

variable {F : FTy → Type} [FloatOps F]

/-- The groups that a table names. -/
def groupOf (g : IVec S8192x128 32) (s : ℕ) : ℕ := if h : s < 8192 then (g (ix2 (⟨s, h⟩ : Fin 8192) (0 : Fin 128))).toNat else 0

/-- Every token's group is among the four. -/
def InRange (g : IVec S8192x128 32) : Prop := ∀ t : Fin 8192, (g (ix2 t (0 : Fin 128))).toNat < 4

/-- A word from 0 to 3. -/
theorem word_lt_four {w : BitVec 32} (h : IntOp.andi (IntOp.cmpi .sge w 0#32) (IntOp.cmpi .slt w 4#32) = 1#1) : w.toNat < 4 :=
  (ofBool_decide_eq_one_iff _).1 ((andi_sge_zero_slt_ofNat (w := 32) (k := 4) (by decide) w).symm.trans h)

/-- The precondition says so. -/
theorem inRange_of_pre (g : IVec S8192x128 32) (x : FVec F S8192x8x128 .f32)
    (h : Cert.Pre_groups_in_range.fn (F := F) g x = fun _ => 1#1) : InRange g := fun t => by
  have e := congrFun h (ix1 t)
  refine word_lt_four (Eq.trans ?_ e)
  rw [← show shapeCast (shape1 8192) (extractStridedSlice (shape2 8192 1) ![0, 0] g slices_S8192x128_S8192x1_0_0) shapeCasts_S8192x1_S8192 (ix1 t)
    = g (ix2 t (0 : Fin 128)) from col0_at g (by decide) _ _ t]
  rfl

section Value

variable {g : IVec S8192x128 32} (hr : InRange g)
include hr

theorem groupOf_at (t : Fin 8192) : g (ix2 t (0 : Fin 128)) = BitVec.ofNat 32 (groupOf g t.val) := by
  unfold groupOf
  rw [dif_pos t.isLt]
  exact (BitVec.ofNat_toNat _ _).symm ▸ (BitVec.setWidth_eq _).symm

theorem groupOf_lt (t : ℕ) (ht : t < 8192) : groupOf g t < 4 := by
  unfold groupOf
  rw [dif_pos ht]
  exact hr ⟨t, ht⟩

theorem table_lt (t : Fin 8192) : (placeV g (ix1 t)).toNat < 10240 := by
  rw [placeV_toNat g _ (groupOf_at hr) (groupOf_lt hr)]
  exact place_lt _ (groupOf_lt hr) t.isLt

theorem slot_val (t : Fin 8192) : (slot (placeV g) (table_lt hr) t).val = place (groupOf g) t.val :=
  placeV_toNat g _ (groupOf_at hr) (groupOf_lt hr) t

theorem slot_inj : Function.Injective (slot (placeV g) (table_lt hr)) := fun t t' e =>
  Fin.ext (place_inj _ t.isLt t'.isLt ((slot_val hr t).symm.trans ((congrArg Fin.val e).trans (slot_val hr t'))))

/-- The call's buffer at the end is the plain dispatch. -/
theorem outAt_eq (rows : FVec F S8192x8x128 .f32) :
    outAt (placeV g) (table_lt hr) rows (broadcastInDim S10240x8x128 ![] bcast_S_S10240x8x128 (constant S_ .f32 0x00000000#32)) 8192
      = Cert.ReferenceIdeal.Dispatch.resV g rows := funext fun y => by
  by_cases h : ∃ t : Fin 8192, slot (placeV g) (table_lt hr) t = y 0
  · obtain ⟨t, e⟩ := h
    exact (outAt_of_lt _ _ _ (slot_inj hr) _ _ t t.isLt y e).trans
      (Cert.ReferenceIdeal.Dispatch.resV_hit g _ (groupOf_at hr) (groupOf_lt hr) rows t y ((slot_val hr t).symm.trans (congrArg Fin.val e))).symm
  · exact (outAt_of_not _ _ _ _ _ y fun t _ e => h ⟨t, e⟩).trans
      (Cert.ReferenceIdeal.Dispatch.resV_miss g _ (groupOf_at hr) (groupOf_lt hr) rows y fun t e => h ⟨t, Fin.ext ((slot_val hr t).trans e)⟩).symm

end Value

/-- The whole run of the dispatch call. -/
theorem run (m : (ℓ : Loc nD τ sig) → Buf (Elt F) ℓ) (ρ : Dev nD → PrngReg) (hr : ∀ c : Dev nD, InRange (m ((c.tc : Thread nD τ).loc main_arg0))) :
    θ_run (defs (F := F)) (onTc (τ := τ) (main (F := F))) ⟨m, fun _ => 0, ρ⟩ (fun r =>
      (∀ c : Dev nD, r.2.mem ((c.tc : Thread nD τ).loc main_v41)
          = Cert.ReferenceIdeal.Dispatch.resV (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) := by
  have key : ∀ c : Dev nD, ∃ (hσ : ∀ t : Fin 8192, (tbl m c (ix1 t)).toNat < 10240), Function.Injective (slot (tbl m c) hσ)
      ∧ outAt (tbl m c) hσ (srcs m c) (outs m c) 8192
        = Cert.ReferenceIdeal.Dispatch.resV (m ((c.tc : Thread nD τ).loc main_arg0)) (m ((c.tc : Thread nD τ).loc main_arg1)) := fun c => by
    rw [tbl_eq, outs_eq, show srcs m c = m ((c.tc : Thread nD τ).loc main_arg1) from V_arg1 m c]
    exact ⟨table_lt (hr c), slot_inj (hr c), outAt_eq (hr c) _⟩
  exact (θ_run (defs (F := F)) _ _).mono
    (fun _ h => ⟨fun c => ⟨((h.1 c).1).trans (key c).choose_spec.2, (h.1 c).2⟩, h.2⟩)
    (run_main m ρ (fun c => (key c).choose) (fun c => (key c).choose_spec.1))

end Cert.Dispatch

end
-- ==== Proof.NormRow.lean ====
/- The final norm of one token, at the ideal values: what both the kernel and the reference put at each index. -/
module

public import Idealize.ShloMosaic.PureOps.Ideal.Laws
public import Idealize.ShloMosaic.Lib.ValueIdx

@[expose] public section

noncomputable section

namespace Cert.Norm

open Idealize.ShloMosaic Idealize.ShloMosaic.ValueIdx

/-- Token `r`'s normed channel `k`: its own channel over the root of its mean square, times the channel's weight. -/
def rowV (x : (⟨2, ![8192, 1024]⟩ : Shape).Idx → Ideal .f32) (w : (⟨1, ![1024]⟩ : Shape).Idx → Ideal .f32) (r : Fin 8192) (k : Fin 1024) : Ideal .f32 :=
  FloatOps.mulf (FloatOps.mulf (x (ix2 r k)) (FloatOps.rsqrt (FloatOps.addf (FloatOps.divf (∑ j : Fin 1024, x (ix2 r j) * x (ix2 r j) : EReal)
    (Scalar.ofBits .f32 0x44800000#32)) (Scalar.ofBits .f32 0x358637BD#32)))) (w (ix1 k))

end Cert.Norm

end
-- ==== Proof.NormPrompt.lean ====
/- The value of the final norm's call on rows 0 to 4095, against the reference's. -/
module

public import proofs.«01_k».proof.Proof.NormRow
public import proofs.«01_k».proof.Proof.Gen.NormPromptIdeal.Value
public import proofs.«01_k».proof.Proof.Gen.NormPromptRefIdeal.Run
public import Idealize.ShloMosaic.Lib.Pipeline.Value
public import Idealize.ShloMosaic.Lib.Routing.Ops

@[expose] public section

noncomputable section

namespace Cert.Norm.Prompt

open Idealize.ShloMosaic Idealize.ShloMosaic.TcCoe Idealize.SL.Sem Idealize.ShloMosaic.ValueIdx
open Idealize.ShloMosaic.Pipeline (Dat)

/-- Where row `r` of the result lies among the tokens. -/
def tok (r : Fin 4096) : Fin 8192 := ⟨0 + r.val, by omega⟩

/-- The rows 0 to 4095 normed. -/
def value (x : (⟨2, ![8192, 1024]⟩ : Shape).Idx → Ideal .f32) (w : (⟨1, ![1024]⟩ : Shape).Idx → Ideal .f32) :
    (⟨2, ![4096, 1024]⟩ : Shape).Idx → Ideal .f32 := fun i => rowV x w (tok (i 0)) (i 1)

section Kernel
open Cert.NormPromptIdeal Cert.NormPromptIdeal.Gen

variable (m : (ℓ : Loc nD τ sig) → Buf (Elt Ideal) ℓ) (ρ : Dev nD → PrngReg)

abbrev result (c : Dev nD) : Buf (Elt Ideal) ((c : Thread nD τ).loc main_v1) :=
  value (m ((c : Thread nD τ).loc main_arg0)) (m ((c : Thread nD τ).loc main_arg1))

theorem index_in : ∀ t : Fin grid0.N, win0_0.index t 0 = t.val + 0 ∧ win0_0.index t 1 = 0 := by decide +kernel
theorem index_w : ∀ t : Fin grid0.N, win0_1.index t 0 = 0 ∧ win0_1.index t 1 = 0 := by decide +kernel
theorem index_out : ∀ t : Fin grid0.N, win0_2.index t 0 = t.val ∧ win0_2.index t 1 = 0 := by decide +kernel

/-- A block of the tokens, at an index. -/
theorem block_x (c : Dev nD) (t : Fin cfg0.N) (a : Fin 256) (k : Fin 1024) (r : Fin 8192) (hr : r.val = 0 + (t.val * 256 + a.val)) :
    iblk m c 0 t (ix2 a k) = m ((c : Thread nD τ).loc main_arg0) (ix2 r k) := by
  show V m c main_arg0 ((win0_0.rect t).emb (ix2 a k)) = _
  rw [V_main_arg0]
  refine congrArg _ (funext fun b => Fin.ext ?_)
  match b with
  | ⟨0, _⟩ =>
    refine (Pipeline.Window.rect_emb_val win0_0 t (ix2 a k) 0).trans ?_
    rw [(index_in t).1, hr]; show (t.val + 0) * 256 + a.val = _; omega
  | ⟨1, _⟩ => exact (Pipeline.Window.rect_emb_val_of_index_zero win0_0 t 1 (index_in t).2 (ix2 a k))

/-- The weights as the call finds them. -/
theorem block_w (c : Dev nD) (t : Fin cfg0.N) (k : Fin 1024) :
    iblk m c 1 t (ix2 (0 : Fin 1) k) = m ((c : Thread nD τ).loc main_arg1) (ix1 k) := by
  show V m c main_v0 ((win0_1.rect t).emb (ix2 (0 : Fin 1) k)) = _
  have e : (win0_1.rect t).emb (ix2 (0 : Fin 1) k) = (ix2 (0 : Fin 1) k : S1x1024.Idx) := funext fun b => Fin.ext (by
    match b with
    | ⟨0, _⟩ => exact Pipeline.Window.rect_emb_val_of_index_zero win0_1 t 0 (index_w t).1 _
    | ⟨1, _⟩ => exact Pipeline.Window.rect_emb_val_of_index_zero win0_1 t 1 (index_w t).2 _)
  rw [e]
  have hv : V m c main_v0 = shapeCast S1x1024 (m ((c : Thread nD τ).loc main_arg1) : S1024.Idx → Ideal .f32) shapeCasts_S1024_S1x1024 := by
    unfold V; after_results; rfl
  rw [hv]
  exact shapeCast_apply (s := S1024) (t := S1x1024) _ _ _ _ (by rw [Shape.rowMajor_val_one, Shape.rowMajor_val_two]; show k.val = 0 * 1024 + k.val; omega)

theorem hz : (![0, 0] : Fin 2 → Nat) = fun _ => 0 := funext fun a => by fin_cases a <;> rfl

theorem flushed_eq (c : Dev nD) (t : Fin cfg0.N) :
    (dats m 0 c).flushed 2 t = (win0_2.blk t).view.read (Elt Ideal) (result m c) := by
  rw [Value.flushed2]
  unfold out0_2
  rw [View.ld_unit_zero hz, View.ld_unit_zero hz]
  funext y
  obtain ⟨a, k, rfl⟩ : ∃ (a : Fin 256) (k : Fin 1024), y = ix2 a k := ⟨y 0, y 1, eq_ix2 y⟩
  have ht : t.val < 16 := N_0 ▸ t.isLt
  refine (Value.canon2_eq _ _ (ix2 a k)).trans ?_
  have e : (win0_2.rect t).emb (ix2 a k) = (ix2 (⟨t.val * 256 + a.val, by omega⟩ : Fin 4096) k : S4096x1024.Idx) := funext fun b => Fin.ext (by
    match b with
    | ⟨0, _⟩ =>
      refine (Pipeline.Window.rect_emb_val win0_2 t (ix2 a k) 0).trans ?_
      rw [(index_out t).1]; rfl
    | ⟨1, _⟩ => exact Pipeline.Window.rect_emb_val_of_index_zero win0_2 t 1 (index_out t).2 _)
  show Value.E2 _ _ (ix2 a k) = result m c ((win0_2.rect t).emb (ix2 a k))
  rw [e]
  unfold Value.E2 result value rowV
  have hx : ∀ j : Fin 1024, iblk m c 0 t (ix2 a j) = m ((c : Thread nD τ).loc main_arg0) (ix2 (tok ⟨t.val * 256 + a.val, by omega⟩) j) :=
    fun j => block_x m c t a j _ rfl
  have i0 : Value.ix2_0 (ix2 a k) = ix2 a k := funext fun b => by match b with | ⟨0, _⟩ => rfl | ⟨1, _⟩ => rfl
  have i2 : Value.ix2_2 (ix2 a k) = ix2 (0 : Fin 1) k := funext fun b => by match b with | ⟨0, _⟩ => rfl | ⟨1, _⟩ => rfl
  have i1 (h : S256x1024.Reduces [1] S256) (j : Fin 1024) : h.lift (Value.ix2_1 (ix2 a k)) j = ix2 a j := funext fun b => by
    match b with | ⟨0, _⟩ => rfl | ⟨1, _⟩ => rfl
  rw [i0, i2, block_w m c t k, hx k]
  refine congrArg (fun s : Ideal .f32 => FloatOps.mulf (FloatOps.mulf _ (FloatOps.rsqrt (FloatOps.addf (FloatOps.divf s _) _))) _) ((Ideal.multiReduction_add_single _ _ _ _ _ _).trans ?_)
  refine Finset.sum_congr rfl fun j _ => ?_
  refine (congrArg _ (i1 _ j)).trans ?_
  exact congrArg₂ (fun p q : EReal => p * q) (hx j) (hx j)

theorem cover (i : S4096x1024.Idx) : ∃ t : Fin cfg0.N, (cfg0.win 2).flush t = true ∧ i ∈ ((cfg0.win 2).blk t).view.set := by
  have h0 : (i 0 : Nat) < 4096 := (i 0).isLt
  have h1 : (i 1 : Nat) < 1024 := (i 1).isLt
  have hN : cfg0.N = 16 := N_0
  let t : Fin cfg0.N := ⟨(i 0 : Nat) / 256, by omega⟩
  have ht : t.val = (i 0 : Nat) / 256 := rfl
  refine ⟨t, flush0_2 _, ?_⟩
  show i ∈ ((View.whole main_v1).slice (win0_2.rect t)).set
  rw [View.set_slice_whole, Rect.mem_set_unit]
  intro b
  match b with
  | ⟨0, _⟩ =>
    show win0_2.index t 0 * 256 ≤ (i 0 : Nat) ∧ (i 0 : Nat) < win0_2.index t 0 * 256 + 256
    rw [(index_out t).1]; omega
  | ⟨1, _⟩ =>
    show win0_2.index t 1 * 1024 ≤ (i 1 : Nat) ∧ (i 1 : Nat) < win0_2.index t 1 * 1024 + 1024
    rw [(index_out t).2]; omega

theorem run_kernel : θ_run (defs (F := Ideal)) (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 (result m c) (fun t _ => flushed_eq m c t) cover), (h c).2⟩)
    (Value.run_blocks m ρ)

end Kernel

section Reference
open Cert.NormPromptRefIdeal Cert.NormPromptRefIdeal.Gen

variable (m : (ℓ : Loc nD τ sig) → Buf (Elt Ideal) ℓ) (ρ : Dev nD → PrngReg)

theorem run_reference : θ_run (defs (F := Ideal)) (onTc (τ := τ) (main (F := Ideal))) ⟨m, fun _ => 0, ρ⟩ fun r => ∀ c : Dev nD,
      r.2.mem ((c : Thread nD τ).loc main_v13) = value (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨(h c).1.trans ?_, (h c).2⟩) (Value.run (F := Ideal) m ρ)
  funext i
  obtain ⟨a, k, rfl⟩ : ∃ (a : Fin 4096) (k : Fin 1024), i = ix2 a k := ⟨i 0, i 1, eq_ix2 i⟩
  have hs : ∀ j : Fin 1024, extractStridedSlice S4096x1024 ![0, 0] (m ((c.tc : Thread nD τ).loc main_arg0) : S8192x1024.Idx → Ideal .f32)
      slices_S8192x1024_S4096x1024_0_0 (ix2 a j) = m ((c.tc : Thread nD τ).loc main_arg0) (ix2 (tok a) j) := fun j =>
    extractStridedSlice_apply _ _ _ _ _ fun b => by
      match b with
      | ⟨0, _⟩ => rfl
      | ⟨1, _⟩ => exact (Nat.zero_add _).symm
  have hl (j : Fin 1024) : Shape.Reduces.lift (s := S4096x1024) (t := S4096) (a := 1) (by decide) (ix1 a) j = ix2 a j := funext fun b => by
    match b with | ⟨0, _⟩ => rfl | ⟨1, _⟩ => rfl
  refine congrArg₂ FloatOps.mulf (congrArg₂ FloatOps.mulf (hs k) ?_) (Routing.bcCols _ _ _ a k)
  refine (broadcastInDim_apply (s := S4096x1) (t := S4096x1024) _ _ _ (ix2 a k) (ix2 a (0 : Fin 1)) fun b => by
    match b with | ⟨0, _⟩ => rfl | ⟨1, _⟩ => rfl).trans ?_
  refine congrArg Ideal.rsqrt (congrArg₂ FloatOps.addf (congrArg₂ Ideal.div ((Routing.bcCol _ _ a).trans ?_) (Routing.bc0 _ _ _)) (Routing.bc0 _ _ _))
  refine (Ideal.hostReduceAdd_single _ (by decide) _ _ _).trans ?_
  rw [show (constant (F := Ideal) S_ .f32 0x00000000#32 (Shape.Idx.first h_S_) : EReal) = 0 from Ideal.ofBits_zero_f32, zero_add]
  refine Finset.sum_congr rfl fun j _ => ?_
  refine (congrArg _ (hl j)).trans ?_
  exact congrArg₂ (fun p q : EReal => p * q) (hs j) (hs j)

end Reference

end Cert.Norm.Prompt

end
-- ==== Proof.NormSample.lean ====
/- The value of the final norm's call on rows 4096 to 8191, against the reference's. -/
module

public import proofs.«01_k».proof.Proof.NormRow
public import proofs.«01_k».proof.Proof.Gen.NormSampleIdeal.Value
public import proofs.«01_k».proof.Proof.Gen.NormSampleRefIdeal.Run
public import Idealize.ShloMosaic.Lib.Pipeline.Value
public import Idealize.ShloMosaic.Lib.Routing.Ops

@[expose] public section

noncomputable section

namespace Cert.Norm.Sample

open Idealize.ShloMosaic Idealize.ShloMosaic.TcCoe Idealize.SL.Sem Idealize.ShloMosaic.ValueIdx
open Idealize.ShloMosaic.Pipeline (Dat)

/-- Where row `r` of the result lies among the tokens. -/
def tok (r : Fin 4096) : Fin 8192 := ⟨4096 + r.val, by omega⟩

/-- The rows 4096 to 8191 normed. -/
def value (x : (⟨2, ![8192, 1024]⟩ : Shape).Idx → Ideal .f32) (w : (⟨1, ![1024]⟩ : Shape).Idx → Ideal .f32) :
    (⟨2, ![4096, 1024]⟩ : Shape).Idx → Ideal .f32 := fun i => rowV x w (tok (i 0)) (i 1)

section Kernel
open Cert.NormSampleIdeal Cert.NormSampleIdeal.Gen

variable (m : (ℓ : Loc nD τ sig) → Buf (Elt Ideal) ℓ) (ρ : Dev nD → PrngReg)

abbrev result (c : Dev nD) : Buf (Elt Ideal) ((c : Thread nD τ).loc main_v1) :=
  value (m ((c : Thread nD τ).loc main_arg0)) (m ((c : Thread nD τ).loc main_arg1))

theorem index_in : ∀ t : Fin grid0.N, win0_0.index t 0 = t.val + 16 ∧ win0_0.index t 1 = 0 := by decide +kernel
theorem index_w : ∀ t : Fin grid0.N, win0_1.index t 0 = 0 ∧ win0_1.index t 1 = 0 := by decide +kernel
theorem index_out : ∀ t : Fin grid0.N, win0_2.index t 0 = t.val ∧ win0_2.index t 1 = 0 := by decide +kernel

/-- A block of the tokens, at an index. -/
theorem block_x (c : Dev nD) (t : Fin cfg0.N) (a : Fin 256) (k : Fin 1024) (r : Fin 8192) (hr : r.val = 4096 + (t.val * 256 + a.val)) :
    iblk m c 0 t (ix2 a k) = m ((c : Thread nD τ).loc main_arg0) (ix2 r k) := by
  show V m c main_arg0 ((win0_0.rect t).emb (ix2 a k)) = _
  rw [V_main_arg0]
  refine congrArg _ (funext fun b => Fin.ext ?_)
  match b with
  | ⟨0, _⟩ =>
    refine (Pipeline.Window.rect_emb_val win0_0 t (ix2 a k) 0).trans ?_
    rw [(index_in t).1, hr]; show (t.val + 16) * 256 + a.val = _; omega
  | ⟨1, _⟩ => exact (Pipeline.Window.rect_emb_val_of_index_zero win0_0 t 1 (index_in t).2 (ix2 a k))

/-- The weights as the call finds them. -/
theorem block_w (c : Dev nD) (t : Fin cfg0.N) (k : Fin 1024) :
    iblk m c 1 t (ix2 (0 : Fin 1) k) = m ((c : Thread nD τ).loc main_arg1) (ix1 k) := by
  show V m c main_v0 ((win0_1.rect t).emb (ix2 (0 : Fin 1) k)) = _
  have e : (win0_1.rect t).emb (ix2 (0 : Fin 1) k) = (ix2 (0 : Fin 1) k : S1x1024.Idx) := funext fun b => Fin.ext (by
    match b with
    | ⟨0, _⟩ => exact Pipeline.Window.rect_emb_val_of_index_zero win0_1 t 0 (index_w t).1 _
    | ⟨1, _⟩ => exact Pipeline.Window.rect_emb_val_of_index_zero win0_1 t 1 (index_w t).2 _)
  rw [e]
  have hv : V m c main_v0 = shapeCast S1x1024 (m ((c : Thread nD τ).loc main_arg1) : S1024.Idx → Ideal .f32) shapeCasts_S1024_S1x1024 := by
    unfold V; after_results; rfl
  rw [hv]
  exact shapeCast_apply (s := S1024) (t := S1x1024) _ _ _ _ (by rw [Shape.rowMajor_val_one, Shape.rowMajor_val_two]; show k.val = 0 * 1024 + k.val; omega)

theorem hz : (![0, 0] : Fin 2 → Nat) = fun _ => 0 := funext fun a => by fin_cases a <;> rfl

theorem flushed_eq (c : Dev nD) (t : Fin cfg0.N) :
    (dats m 0 c).flushed 2 t = (win0_2.blk t).view.read (Elt Ideal) (result m c) := by
  rw [Value.flushed2]
  unfold out0_2
  rw [View.ld_unit_zero hz, View.ld_unit_zero hz]
  funext y
  obtain ⟨a, k, rfl⟩ : ∃ (a : Fin 256) (k : Fin 1024), y = ix2 a k := ⟨y 0, y 1, eq_ix2 y⟩
  have ht : t.val < 16 := N_0 ▸ t.isLt
  refine (Value.canon2_eq _ _ (ix2 a k)).trans ?_
  have e : (win0_2.rect t).emb (ix2 a k) = (ix2 (⟨t.val * 256 + a.val, by omega⟩ : Fin 4096) k : S4096x1024.Idx) := funext fun b => Fin.ext (by
    match b with
    | ⟨0, _⟩ =>
      refine (Pipeline.Window.rect_emb_val win0_2 t (ix2 a k) 0).trans ?_
      rw [(index_out t).1]; rfl
    | ⟨1, _⟩ => exact Pipeline.Window.rect_emb_val_of_index_zero win0_2 t 1 (index_out t).2 _)
  show Value.E2 _ _ (ix2 a k) = result m c ((win0_2.rect t).emb (ix2 a k))
  rw [e]
  unfold Value.E2 result value rowV
  have hx : ∀ j : Fin 1024, iblk m c 0 t (ix2 a j) = m ((c : Thread nD τ).loc main_arg0) (ix2 (tok ⟨t.val * 256 + a.val, by omega⟩) j) :=
    fun j => block_x m c t a j _ rfl
  have i0 : Value.ix2_0 (ix2 a k) = ix2 a k := funext fun b => by match b with | ⟨0, _⟩ => rfl | ⟨1, _⟩ => rfl
  have i2 : Value.ix2_2 (ix2 a k) = ix2 (0 : Fin 1) k := funext fun b => by match b with | ⟨0, _⟩ => rfl | ⟨1, _⟩ => rfl
  have i1 (h : S256x1024.Reduces [1] S256) (j : Fin 1024) : h.lift (Value.ix2_1 (ix2 a k)) j = ix2 a j := funext fun b => by
    match b with | ⟨0, _⟩ => rfl | ⟨1, _⟩ => rfl
  rw [i0, i2, block_w m c t k, hx k]
  refine congrArg (fun s : Ideal .f32 => FloatOps.mulf (FloatOps.mulf _ (FloatOps.rsqrt (FloatOps.addf (FloatOps.divf s _) _))) _) ((Ideal.multiReduction_add_single _ _ _ _ _ _).trans ?_)
  refine Finset.sum_congr rfl fun j _ => ?_
  refine (congrArg _ (i1 _ j)).trans ?_
  exact congrArg₂ (fun p q : EReal => p * q) (hx j) (hx j)

theorem cover (i : S4096x1024.Idx) : ∃ t : Fin cfg0.N, (cfg0.win 2).flush t = true ∧ i ∈ ((cfg0.win 2).blk t).view.set := by
  have h0 : (i 0 : Nat) < 4096 := (i 0).isLt
  have h1 : (i 1 : Nat) < 1024 := (i 1).isLt
  have hN : cfg0.N = 16 := N_0
  let t : Fin cfg0.N := ⟨(i 0 : Nat) / 256, by omega⟩
  have ht : t.val = (i 0 : Nat) / 256 := rfl
  refine ⟨t, flush0_2 _, ?_⟩
  show i ∈ ((View.whole main_v1).slice (win0_2.rect t)).set
  rw [View.set_slice_whole, Rect.mem_set_unit]
  intro b
  match b with
  | ⟨0, _⟩ =>
    show win0_2.index t 0 * 256 ≤ (i 0 : Nat) ∧ (i 0 : Nat) < win0_2.index t 0 * 256 + 256
    rw [(index_out t).1]; omega
  | ⟨1, _⟩ =>
    show win0_2.index t 1 * 1024 ≤ (i 1 : Nat) ∧ (i 1 : Nat) < win0_2.index t 1 * 1024 + 1024
    rw [(index_out t).2]; omega

theorem run_kernel : θ_run (defs (F := Ideal)) (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 (result m c) (fun t _ => flushed_eq m c t) cover), (h c).2⟩)
    (Value.run_blocks m ρ)

end Kernel

section Reference
open Cert.NormSampleRefIdeal Cert.NormSampleRefIdeal.Gen

variable (m : (ℓ : Loc nD τ sig) → Buf (Elt Ideal) ℓ) (ρ : Dev nD → PrngReg)

theorem run_reference : θ_run (defs (F := Ideal)) (onTc (τ := τ) (main (F := Ideal))) ⟨m, fun _ => 0, ρ⟩ fun r => ∀ c : Dev nD,
      r.2.mem ((c : Thread nD τ).loc main_v13) = value (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨(h c).1.trans ?_, (h c).2⟩) (Value.run (F := Ideal) m ρ)
  funext i
  obtain ⟨a, k, rfl⟩ : ∃ (a : Fin 4096) (k : Fin 1024), i = ix2 a k := ⟨i 0, i 1, eq_ix2 i⟩
  have hs : ∀ j : Fin 1024, extractStridedSlice S4096x1024 ![4096, 0] (m ((c.tc : Thread nD τ).loc main_arg0) : S8192x1024.Idx → Ideal .f32)
      slices_S8192x1024_S4096x1024_4096_0 (ix2 a j) = m ((c.tc : Thread nD τ).loc main_arg0) (ix2 (tok a) j) := fun j =>
    extractStridedSlice_apply _ _ _ _ _ fun b => by
      match b with
      | ⟨0, _⟩ => rfl
      | ⟨1, _⟩ => exact (Nat.zero_add _).symm
  have hl (j : Fin 1024) : Shape.Reduces.lift (s := S4096x1024) (t := S4096) (a := 1) (by decide) (ix1 a) j = ix2 a j := funext fun b => by
    match b with | ⟨0, _⟩ => rfl | ⟨1, _⟩ => rfl
  refine congrArg₂ FloatOps.mulf (congrArg₂ FloatOps.mulf (hs k) ?_) (Routing.bcCols _ _ _ a k)
  refine (broadcastInDim_apply (s := S4096x1) (t := S4096x1024) _ _ _ (ix2 a k) (ix2 a (0 : Fin 1)) fun b => by
    match b with | ⟨0, _⟩ => rfl | ⟨1, _⟩ => rfl).trans ?_
  refine congrArg Ideal.rsqrt (congrArg₂ FloatOps.addf (congrArg₂ Ideal.div ((Routing.bcCol _ _ a).trans ?_) (Routing.bc0 _ _ _)) (Routing.bc0 _ _ _))
  refine (Ideal.hostReduceAdd_single _ (by decide) _ _ _).trans ?_
  rw [show (constant (F := Ideal) S_ .f32 0x00000000#32 (Shape.Idx.first h_S_) : EReal) = 0 from Ideal.ofBits_zero_f32, zero_add]
  refine Finset.sum_congr rfl fun j _ => ?_
  refine (congrArg _ (hl j)).trans ?_
  exact congrArg₂ (fun p q : EReal => p * q) (hs j) (hs j)

end Reference

end Cert.Norm.Sample

end
-- ==== Proof.GroupedBody.lean ====
/- The expert call's body at one grid point: what it leaves in its accumulator, its gates, its rounded rows and its output block. -/
module

public import proofs.«01_k».proof.Proof.Gen.GroupedIdeal.Skeleton
public import proofs.«01_k».proof.Proof.Gen.GroupedIdeal.Launch
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.ValueIdxCore

@[expose] public section

set_option maxRecDepth 16384

noncomputable section

namespace Cert.GroupedIdeal.Grouped

open Cert.GroupedIdeal Cert.GroupedIdeal.Gen
open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.ValueIdx (ix1)

local notation "𝕄" => MT nD τ sig Unit (Elt F) ℕ (UR sig nD τ) ℕ

/-! ## What one grid point computes -/

abbrev slab0 (x : Vec F S512x8x128 .f32) : Vec F S512x1x128 .f32 := View.ld x (Rect.unit (s := S512x8x128) ![0, 0, 0] S512x1x128.size inb_S512x8x128_S512x1x128_0_0_0)
abbrev slab1 (x : Vec F S512x8x128 .f32) : Vec F S512x1x128 .f32 := View.ld x (Rect.unit (s := S512x8x128) ![0, 1, 0] S512x1x128.size inb_S512x8x128_S512x1x128_0_1_0)
abbrev slab2 (x : Vec F S512x8x128 .f32) : Vec F S512x1x128 .f32 := View.ld x (Rect.unit (s := S512x8x128) ![0, 2, 0] S512x1x128.size inb_S512x8x128_S512x1x128_0_2_0)
abbrev slab3 (x : Vec F S512x8x128 .f32) : Vec F S512x1x128 .f32 := View.ld x (Rect.unit (s := S512x8x128) ![0, 3, 0] S512x1x128.size inb_S512x8x128_S512x1x128_0_3_0)
abbrev slab4 (x : Vec F S512x8x128 .f32) : Vec F S512x1x128 .f32 := View.ld x (Rect.unit (s := S512x8x128) ![0, 4, 0] S512x1x128.size inb_S512x8x128_S512x1x128_0_4_0)
abbrev slab5 (x : Vec F S512x8x128 .f32) : Vec F S512x1x128 .f32 := View.ld x (Rect.unit (s := S512x8x128) ![0, 5, 0] S512x1x128.size inb_S512x8x128_S512x1x128_0_5_0)
abbrev slab6 (x : Vec F S512x8x128 .f32) : Vec F S512x1x128 .f32 := View.ld x (Rect.unit (s := S512x8x128) ![0, 6, 0] S512x1x128.size inb_S512x8x128_S512x1x128_0_6_0)
abbrev slab7 (x : Vec F S512x8x128 .f32) : Vec F S512x1x128 .f32 := View.ld x (Rect.unit (s := S512x8x128) ![0, 7, 0] S512x1x128.size inb_S512x8x128_S512x1x128_0_7_0)

/-- The number of tiles that hold rows, -/
abbrev tiles (nt : IVec S1 32) : BitVec 32 := nt (ix1 0)
/-- the group of a tile, -/
abbrev group (tg : IVec S20 32) (i : grid0.Coords) : BitVec 32 := tg (ix1 (i 0))
/-- a tile's rows, one row of 1024 a token, -/
def wide (x : Vec F S512x8x128 .f32) : FVec F S512x1024 .f32 := k0_pay5 (slab0 x) (slab1 x) (slab2 x) (slab3 x) (slab4 x) (slab5 x) (slab6 x) (slab7 x)
/-- the same, rounded, -/
def rows (x : Vec F S512x8x128 .f32) : FVec F S512x1024 .bf16 := k0_pay6 (slab0 x) (slab1 x) (slab2 x) (slab3 x) (slab4 x) (slab5 x) (slab6 x) (slab7 x)
/-- and the gates of the experts of the tile's group. -/
def gates (x : Vec F S512x8x128 .f32) (wr : Vec F S1024x128 .f32) (br : Vec F S1x128 .f32) (g : BitVec 32) : FVec F S512x128 .f32 :=
  k0_pay22 k0_pay9 (k0_pay10 (wide x) (k0_pay7 wr) br g) (k0_pay11 (wide x) (k0_pay7 wr) br g)
    (k0_pay12 (wide x) (k0_pay7 wr) br g) (k0_pay13 (wide x) (k0_pay7 wr) br g)
/-- The accumulator with one expert's share of the tile. -/
def plus (i : grid0.Coords) (g : BitVec 32) (wg wu : Vec F S1x1024x512 .f32) (wd : Vec F S1x512x1024 .f32)
    (A : Vec F S512x1024 .f32) (G : Vec F S512x128 .f32) (X : Vec F S512x1024 .bf16) : FVec F S512x1024 .f32 :=
  k0_pay1 (k0_pay23 (BitVec.ofNat 32 (i 1).val) X G g wg wu) A wd
/-- The output block of an accumulator. -/
def block (A : Vec F S512x1024 .f32) : Vec F S512x8x128 .f32 :=
  View.canon [⟨Rect.unit (s := S512x8x128) ![0, 7, 0] S512x1x128.size inb_S512x8x128_S512x1x128_0_7_0, k0_pay2 (k0_pay21 A)⟩,
    ⟨Rect.unit (s := S512x8x128) ![0, 6, 0] S512x1x128.size inb_S512x8x128_S512x1x128_0_6_0, k0_pay20 A⟩,
    ⟨Rect.unit (s := S512x8x128) ![0, 5, 0] S512x1x128.size inb_S512x8x128_S512x1x128_0_5_0, k0_pay19 A⟩,
    ⟨Rect.unit (s := S512x8x128) ![0, 4, 0] S512x1x128.size inb_S512x8x128_S512x1x128_0_4_0, k0_pay18 A⟩,
    ⟨Rect.unit (s := S512x8x128) ![0, 3, 0] S512x1x128.size inb_S512x8x128_S512x1x128_0_3_0, k0_pay17 A⟩,
    ⟨Rect.unit (s := S512x8x128) ![0, 2, 0] S512x1x128.size inb_S512x8x128_S512x1x128_0_2_0, k0_pay16 A⟩,
    ⟨Rect.unit (s := S512x8x128) ![0, 1, 0] S512x1x128.size inb_S512x8x128_S512x1x128_0_1_0, k0_pay15 A⟩,
    ⟨Rect.unit (s := S512x8x128) ![0, 0, 0] S512x1x128.size inb_S512x8x128_S512x1x128_0_0_0, k0_pay14 A⟩]

/-- The scratch buffers and the output block as the body finds them, or leaves them. -/
def Holds (c : Dev nD) (arg2 : Memref sig .tc .smem S20 .i32) (arg3 : Memref sig .tc .smem S1 .i32) (arg4 : Memref sig .tc .vmem S512x8x128 .f32) (arg5 : Memref sig .tc .vmem S1024x128 .f32) (arg6 : Memref sig .tc .vmem S1x128 .f32) (arg7 : Memref sig .tc .vmem S1x1024x512 .f32) (arg8 : Memref sig .tc .vmem S1x1024x512 .f32) (arg9 : Memref sig .tc .vmem S1x512x1024 .f32) (arg10 : Memref sig .tc .vmem S512x8x128 .f32) (arg11 : Memref sig .tc .vmem S512x1024 .f32) (arg12 : Memref sig .tc .vmem S512x128 .f32) (arg13 : Memref sig .tc .vmem S512x1024 .bf16)
    (tg : IVec S20 32) (nt : IVec S1 32) (x : Vec F S512x8x128 .f32) (wr : Vec F S1024x128 .f32) (br : Vec F S1x128 .f32) (wg : Vec F S1x1024x512 .f32) (wu : Vec F S1x1024x512 .f32) (wd : Vec F S1x512x1024 .f32) (o : Vec F S512x8x128 .f32) (A : Vec F S512x1024 .f32) (G : Vec F S512x128 .f32) (X : Vec F S512x1024 .bf16) : sProp 𝕄 :=
  iprop(owns (c : Thread nD τ) arg2 fullShare.right tg ∗ owns (c : Thread nD τ) arg3 fullShare.right nt ∗ owns (c : Thread nD τ) arg4 fullShare x ∗ owns (c : Thread nD τ) arg5 fullShare wr ∗ owns (c : Thread nD τ) arg6 fullShare br ∗ owns (c : Thread nD τ) arg7 fullShare wg ∗ owns (c : Thread nD τ) arg8 fullShare wu ∗ owns (c : Thread nD τ) arg9 fullShare wd ∗ owns (c : Thread nD τ) arg10 fullShare o ∗ owns (c : Thread nD τ) arg11 fullShare A ∗ owns (c : Thread nD τ) arg12 fullShare G ∗ owns (c : Thread nD τ) arg13 fullShare X)

theorem hz2 : (![0, 0] : Fin 2 → Nat) = fun _ => 0 := funext fun a => by fin_cases a <;> rfl
theorem hz3 : (![0, 0, 0] : Fin 3 → Nat) = fun _ => 0 := funext fun a => by fin_cases a <;> rfl

theorem tiles_at (nt : IVec S1 32) (j : S1.Idx) : nt j = tiles nt := by
  refine congrArg nt (funext fun a => ?_)
  fin_cases a
  exact Subsingleton.elim (α := Fin 1) _ _

theorem group_at (tg : IVec S20 32) (i : grid0.Coords) (j : S20.Idx) (h : (j 0).val = (BitVec.ofNat 32 (i 0).val).toNat) : tg j = group tg i := by
  refine congrArg tg (funext fun a => ?_)
  fin_cases a
  refine Fin.ext (h.trans ?_)
  have := (i 0).isLt
  show (i 0).val % 2 ^ 32 = (i 0).val
  exact Nat.mod_eq_of_lt (lt_trans this (by decide))

theorem read_writes_zero {S : Shape} {e : EltTy} {sp : Space} (v : View sig .tc sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans
    (View.canon_cons_unit_zero h inb w L)

theorem readAt_zero {S : Shape} {e : EltTy} {sp : Space} (v : View sig .tc sp S e) (f : v.ty.Contents (Elt F)) {off : Fin S.rank → Nat}
    (h : off = fun _ => 0) (inb : ∀ a, off a + S.size a ≤ S.size a) :
    v.readAt (Elt F) (Rect.unit off S.size inb).toLoadRect f = v.read (Elt F) f :=
  View.ld_unit_zero h inb _

theorem block_cover (p0 p1 p2 p3 p4 p5 p6 p7 : Vec F S512x1x128 .f32) (y : S512x8x128.Idx) :
    ∃ pc ∈ ([⟨Rect.unit (s := S512x8x128) ![0, 7, 0] S512x1x128.size inb_S512x8x128_S512x1x128_0_7_0, p7⟩,
      ⟨Rect.unit (s := S512x8x128) ![0, 6, 0] S512x1x128.size inb_S512x8x128_S512x1x128_0_6_0, p6⟩,
      ⟨Rect.unit (s := S512x8x128) ![0, 5, 0] S512x1x128.size inb_S512x8x128_S512x1x128_0_5_0, p5⟩,
      ⟨Rect.unit (s := S512x8x128) ![0, 4, 0] S512x1x128.size inb_S512x8x128_S512x1x128_0_4_0, p4⟩,
      ⟨Rect.unit (s := S512x8x128) ![0, 3, 0] S512x1x128.size inb_S512x8x128_S512x1x128_0_3_0, p3⟩,
      ⟨Rect.unit (s := S512x8x128) ![0, 2, 0] S512x1x128.size inb_S512x8x128_S512x1x128_0_2_0, p2⟩,
      ⟨Rect.unit (s := S512x8x128) ![0, 1, 0] S512x1x128.size inb_S512x8x128_S512x1x128_0_1_0, p1⟩,
      ⟨Rect.unit (s := S512x8x128) ![0, 0, 0] S512x1x128.size inb_S512x8x128_S512x1x128_0_0_0, p0⟩] : List (View.Piece (Elt F) S512x8x128 .f32)), y ∈ pc.1.set :=
  View.cover_of_tiled ([⟨Rect.unit (s := S512x8x128) ![0, 7, 0] S512x1x128.size inb_S512x8x128_S512x1x128_0_7_0, p7⟩,
      ⟨Rect.unit (s := S512x8x128) ![0, 6, 0] S512x1x128.size inb_S512x8x128_S512x1x128_0_6_0, p6⟩,
      ⟨Rect.unit (s := S512x8x128) ![0, 5, 0] S512x1x128.size inb_S512x8x128_S512x1x128_0_5_0, p5⟩,
      ⟨Rect.unit (s := S512x8x128) ![0, 4, 0] S512x1x128.size inb_S512x8x128_S512x1x128_0_4_0, p4⟩,
      ⟨Rect.unit (s := S512x8x128) ![0, 3, 0] S512x1x128.size inb_S512x8x128_S512x1x128_0_3_0, p3⟩,
      ⟨Rect.unit (s := S512x8x128) ![0, 2, 0] S512x1x128.size inb_S512x8x128_S512x1x128_0_2_0, p2⟩,
      ⟨Rect.unit (s := S512x8x128) ![0, 1, 0] S512x1x128.size inb_S512x8x128_S512x1x128_0_1_0, p1⟩,
      ⟨Rect.unit (s := S512x8x128) ![0, 0, 0] S512x1x128.size inb_S512x8x128_S512x1x128_0_0_0, p0⟩] : List (View.Piece (Elt F) S512x8x128 .f32)) S512x1x128.size (by rfl) y

variable (c : Dev nD) (E : Set ℕ) (i : grid0.Coords) (arg2 : Memref sig .tc .smem S20 .i32) (arg3 : Memref sig .tc .smem S1 .i32) (arg4 : Memref sig .tc .vmem S512x8x128 .f32) (arg5 : Memref sig .tc .vmem S1024x128 .f32) (arg6 : Memref sig .tc .vmem S1x128 .f32) (arg7 : Memref sig .tc .vmem S1x1024x512 .f32) (arg8 : Memref sig .tc .vmem S1x1024x512 .f32) (arg9 : Memref sig .tc .vmem S1x512x1024 .f32) (arg10 : Memref sig .tc .vmem S512x8x128 .f32) (arg11 : Memref sig .tc .vmem S512x1024 .f32) (arg12 : Memref sig .tc .vmem S512x128 .f32) (arg13 : Memref sig .tc .vmem S512x1024 .bf16)
  (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole)
  (tg : IVec S20 32) (nt : IVec S1 32) (x : Vec F S512x8x128 .f32) (wr : Vec F S1024x128 .f32) (br : Vec F S1x128 .f32) (wg : Vec F S1x1024x512 .f32) (wu : Vec F S1x1024x512 .f32) (wd : Vec F S1x512x1024 .f32) (o : Vec F S512x8x128 .f32) (A : Vec F S512x1024 .f32) (G : Vec F S512x128 .f32) (X : Vec F S512x1024 .bf16)

set_option maxHeartbeats 4000000 in
theorem first (h2 : k0_cond2 i = 1#1) (h3 : ¬ k0_cond3 i = 1#1) (K : PUnit → sProp 𝕄) :
    iprop(Holds c arg2 arg3 arg4 arg5 arg6 arg7 arg8 arg9 arg10 arg11 arg12 arg13 tg nt x wr br wg wu wd o A G X
        ∗ (Holds c arg2 arg3 arg4 arg5 arg6 arg7 arg8 arg9 arg10 arg11 arg12 arg13 tg nt x wr br wg wu wd
            (if k0_cond4 i (tiles nt) = 1#1 then k0_pay3 else o)
            (if k0_cond1 i (tiles nt) = 1#1 then (plus i (group tg i) wg wu wd k0_pay4 (gates x wr br (group tg i)) (rows x)) else A)
            (if k0_cond1 i (tiles nt) = 1#1 then (gates x wr br (group tg i)) else G) (if k0_cond1 i (tiles nt) = 1#1 then (rows x) else X) -∗ K ⟨⟩))
      ⊢ wp frame (wpE (defs₀ (F := F)) Variants.none c none) E (cc0_moe_grouped i arg2 harg2 arg3 harg3 arg4 harg4 arg5 harg5 arg6 harg6 arg7 harg7 arg8 harg8 arg9 harg9 arg10 harg10 arg11 harg11 arg12 harg12 arg13 harg13) K := by
  simp only [cc0_moe_grouped_eq_skeleton, k0_part1_eq_skeleton, k0_part2_eq_skeleton, k0_part3_eq_skeleton, k0_part4_eq_skeleton]
  unfold cc0_moe_grouped_skel Holds owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩⟩, Hk⟩
  subst e2 e3 e4 e5 e6 e7 e8 e9 e10 e11 e12 e13
  sl_exec
  have hr : first.sl.r c arg3 f3 = tiles (View.read (Elt F) arg3.view f3) := by
    unfold first.sl.r; exact tiles_at (View.read (Elt F) arg3.view f3) _
  have hg : ∀ h' (j : S1.Idx), View.readAt (Elt F) arg2.view (Rect.unit (s := S20) (k0_off3 i) S1.size h').toLoadRect f2 j = group (View.read (Elt F) arg2.view f2) i :=
    fun h' j => group_at (View.read (Elt F) arg2.view f2) _ _ (by show (BitVec.ofNat 32 (i 0).val).toNat + 1 * (j 0).val = _; have : (j 0).val < 1 := (j 0).isLt; omega)
  have hg' : ∀ h' (j : S1.Idx), View.readAt (Elt F) arg2.view (Rect.unit (s := S20) (k0_off2 i) S1.size h').toLoadRect f2 j = group (View.read (Elt F) arg2.view f2) i :=
    fun h' j => group_at (View.read (Elt F) arg2.view f2) _ _ (by show (BitVec.ofNat 32 (i 0).val).toNat + 1 * (j 0).val = _; have : (j 0).val < 1 := (j 0).isLt; omega)
  sl_step
  iapply Hk
  isplitl [H2]
  · iexists _; isplitr
    swap; · iexact H2
    ipureintro
    rfl
  isplitl [H3]
  · iexists _; isplitr
    swap; · iexact H3
    ipureintro
    rfl
  isplitl [H4]
  · iexists _; isplitr
    swap; · iexact H4
    ipureintro
    rfl
  isplitl [H5]
  · iexists _; isplitr
    swap; · iexact H5
    ipureintro
    rfl
  isplitl [H6]
  · iexists _; isplitr
    swap; · iexact H6
    ipureintro
    rfl
  isplitl [H7]
  · iexists _; isplitr
    swap; · iexact H7
    ipureintro
    rfl
  isplitl [H8]
  · iexists _; isplitr
    swap; · iexact H8
    ipureintro
    rfl
  isplitl [H9]
  · iexists _; isplitr
    swap; · iexact H9
    ipureintro
    rfl
  isplitl [H10]
  · iexists _; isplitr
    swap; · iexact H10
    ipureintro
    by_cases h4 : k0_cond4 i (tiles (View.read (Elt F) arg3.view f3)) = 1#1
    · rw [dif_pos (by rw [hr]; exact h4), if_pos h4]
      exact read_writes_zero _ _ hz3 _ _ _
    · rw [dif_neg (by rw [hr]; exact h4), if_neg h4]
  isplitl [H11]
  · iexists _; isplitr
    swap; · iexact H11
    ipureintro
    by_cases h1 : k0_cond1 i (tiles (View.read (Elt F) arg3.view f3)) = 1#1
    · rw [dif_pos (by rw [hr]; exact h1), if_pos h1]
      refine (read_writes_zero _ _ hz2 _ _ _).trans ?_
      repeat delta first.sl.r first.sl.r_1 first.sl.r_2 first.sl.r_3 first.sl.r_4 first.sl.r_5 first.sl.r_6 first.sl.r_7 first.sl.r_8 first.sl.r_9 first.sl.v46 first.sl.v13 first.sl.v14 first.sl.H11_1 first.sl.H12_1 first.sl.H13_1
      simp only [gates, wide, rows, plus, readAt_zero (S := S512x1024) _ _ hz2, readAt_zero (S := S1024x128) _ _ hz2, readAt_zero (S := S1x128) _ _ hz2, readAt_zero (S := S512x128) _ _ hz2, readAt_zero (S := S1x1024x512) _ _ hz3, readAt_zero (S := S1x512x1024) _ _ hz3, View.readCov_unit_zero (S := S512x1024) _ hz2, View.readCov_unit_zero (S := S512x128) _ hz2, hg, hg']
      try rfl
    · rw [dif_neg (by rw [hr]; exact h1), if_neg h1]
  isplitl [H12]
  · iexists _; isplitr
    swap; · iexact H12
    ipureintro
    by_cases h1 : k0_cond1 i (tiles (View.read (Elt F) arg3.view f3)) = 1#1
    · rw [dif_pos (by rw [hr]; exact h1), if_pos h1]
      refine (read_writes_zero _ _ hz2 _ _ _).trans ?_
      repeat delta first.sl.r first.sl.r_1 first.sl.r_2 first.sl.r_3 first.sl.r_4 first.sl.r_5 first.sl.r_6 first.sl.r_7 first.sl.r_8 first.sl.r_9 first.sl.v46 first.sl.v13 first.sl.v14 first.sl.H11_1 first.sl.H12_1 first.sl.H13_1
      simp only [gates, wide, rows, plus, readAt_zero (S := S512x1024) _ _ hz2, readAt_zero (S := S1024x128) _ _ hz2, readAt_zero (S := S1x128) _ _ hz2, readAt_zero (S := S512x128) _ _ hz2, readAt_zero (S := S1x1024x512) _ _ hz3, readAt_zero (S := S1x512x1024) _ _ hz3, View.readCov_unit_zero (S := S512x1024) _ hz2, View.readCov_unit_zero (S := S512x128) _ hz2, hg, hg']
      try rfl
    · rw [dif_neg (by rw [hr]; exact h1), if_neg h1]
  iexists _; isplitr
  swap; · iexact H13
  ipureintro
  by_cases h1 : k0_cond1 i (tiles (View.read (Elt F) arg3.view f3)) = 1#1
  · rw [dif_pos (by rw [hr]; exact h1), if_pos h1]
    refine (read_writes_zero _ _ hz2 _ _ _).trans ?_
    repeat delta first.sl.r first.sl.r_1 first.sl.r_2 first.sl.r_3 first.sl.r_4 first.sl.r_5 first.sl.r_6 first.sl.r_7 first.sl.r_8 first.sl.r_9 first.sl.v46 first.sl.v13 first.sl.v14 first.sl.H11_1 first.sl.H12_1 first.sl.H13_1
    simp only [gates, wide, rows, plus, readAt_zero (S := S512x1024) _ _ hz2, readAt_zero (S := S1024x128) _ _ hz2, readAt_zero (S := S1x128) _ _ hz2, readAt_zero (S := S512x128) _ _ hz2, readAt_zero (S := S1x1024x512) _ _ hz3, readAt_zero (S := S1x512x1024) _ _ hz3, View.readCov_unit_zero (S := S512x1024) _ hz2, View.readCov_unit_zero (S := S512x128) _ hz2, hg, hg']
    try rfl
  · rw [dif_neg (by rw [hr]; exact h1), if_neg h1]

set_option maxHeartbeats 4000000 in
theorem middle (h2 : ¬ k0_cond2 i = 1#1) (h3 : ¬ k0_cond3 i = 1#1) (K : PUnit → sProp 𝕄) :
    iprop(Holds c arg2 arg3 arg4 arg5 arg6 arg7 arg8 arg9 arg10 arg11 arg12 arg13 tg nt x wr br wg wu wd o A G X
        ∗ (Holds c arg2 arg3 arg4 arg5 arg6 arg7 arg8 arg9 arg10 arg11 arg12 arg13 tg nt x wr br wg wu wd
            (if k0_cond4 i (tiles nt) = 1#1 then k0_pay3 else o)
            (if k0_cond1 i (tiles nt) = 1#1 then (plus i (group tg i) wg wu wd A G X) else A)
            G X -∗ K ⟨⟩))
      ⊢ wp frame (wpE (defs₀ (F := F)) Variants.none c none) E (cc0_moe_grouped i arg2 harg2 arg3 harg3 arg4 harg4 arg5 harg5 arg6 harg6 arg7 harg7 arg8 harg8 arg9 harg9 arg10 harg10 arg11 harg11 arg12 harg12 arg13 harg13) K := by
  simp only [cc0_moe_grouped_eq_skeleton, k0_part1_eq_skeleton, k0_part2_eq_skeleton, k0_part3_eq_skeleton, k0_part4_eq_skeleton]
  unfold cc0_moe_grouped_skel Holds owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩⟩, Hk⟩
  subst e2 e3 e4 e5 e6 e7 e8 e9 e10 e11 e12 e13
  sl_exec
  have hr : middle.sl.r c arg3 f3 = tiles (View.read (Elt F) arg3.view f3) := by
    unfold middle.sl.r; exact tiles_at (View.read (Elt F) arg3.view f3) _
  have hg : ∀ h' (j : S1.Idx), View.readAt (Elt F) arg2.view (Rect.unit (s := S20) (k0_off3 i) S1.size h').toLoadRect f2 j = group (View.read (Elt F) arg2.view f2) i :=
    fun h' j => group_at (View.read (Elt F) arg2.view f2) _ _ (by show (BitVec.ofNat 32 (i 0).val).toNat + 1 * (j 0).val = _; have : (j 0).val < 1 := (j 0).isLt; omega)
  have hg' : ∀ h' (j : S1.Idx), View.readAt (Elt F) arg2.view (Rect.unit (s := S20) (k0_off2 i) S1.size h').toLoadRect f2 j = group (View.read (Elt F) arg2.view f2) i :=
    fun h' j => group_at (View.read (Elt F) arg2.view f2) _ _ (by show (BitVec.ofNat 32 (i 0).val).toNat + 1 * (j 0).val = _; have : (j 0).val < 1 := (j 0).isLt; omega)
  sl_step
  iapply Hk
  isplitl [H2]
  · iexists _; isplitr
    swap; · iexact H2
    ipureintro
    rfl
  isplitl [H3]
  · iexists _; isplitr
    swap; · iexact H3
    ipureintro
    rfl
  isplitl [H4]
  · iexists _; isplitr
    swap; · iexact H4
    ipureintro
    rfl
  isplitl [H5]
  · iexists _; isplitr
    swap; · iexact H5
    ipureintro
    rfl
  isplitl [H6]
  · iexists _; isplitr
    swap; · iexact H6
    ipureintro
    rfl
  isplitl [H7]
  · iexists _; isplitr
    swap; · iexact H7
    ipureintro
    rfl
  isplitl [H8]
  · iexists _; isplitr
    swap; · iexact H8
    ipureintro
    rfl
  isplitl [H9]
  · iexists _; isplitr
    swap; · iexact H9
    ipureintro
    rfl
  isplitl [H10]
  · iexists _; isplitr
    swap; · iexact H10
    ipureintro
    by_cases h4 : k0_cond4 i (tiles (View.read (Elt F) arg3.view f3)) = 1#1
    · rw [dif_pos (by rw [hr]; exact h4), if_pos h4]
      exact read_writes_zero _ _ hz3 _ _ _
    · rw [dif_neg (by rw [hr]; exact h4), if_neg h4]
  isplitl [H11]
  · iexists _; isplitr
    swap; · iexact H11
    ipureintro
    by_cases h1 : k0_cond1 i (tiles (View.read (Elt F) arg3.view f3)) = 1#1
    · rw [dif_pos (by rw [hr]; exact h1), if_pos h1]
      refine (read_writes_zero _ _ hz2 _ _ _).trans ?_
      repeat delta middle.sl.r middle.sl.r_1 middle.sl.r_2
      simp only [gates, wide, rows, plus, readAt_zero (S := S512x1024) _ _ hz2, readAt_zero (S := S1024x128) _ _ hz2, readAt_zero (S := S1x128) _ _ hz2, readAt_zero (S := S512x128) _ _ hz2, readAt_zero (S := S1x1024x512) _ _ hz3, readAt_zero (S := S1x512x1024) _ _ hz3, View.readCov_unit_zero (S := S512x1024) _ hz2, View.readCov_unit_zero (S := S512x128) _ hz2, hg, hg']
    · rw [dif_neg (by rw [hr]; exact h1), if_neg h1]
  isplitl [H12]
  · iexists _; isplitr
    swap; · iexact H12
    ipureintro
    rfl
  iexists _; isplitr
  swap; · iexact H13
  ipureintro
  rfl

set_option maxHeartbeats 4000000 in
theorem last (h2 : ¬ k0_cond2 i = 1#1) (h3 : k0_cond3 i = 1#1) (K : PUnit → sProp 𝕄) :
    iprop(Holds c arg2 arg3 arg4 arg5 arg6 arg7 arg8 arg9 arg10 arg11 arg12 arg13 tg nt x wr br wg wu wd o A G X
        ∗ (Holds c arg2 arg3 arg4 arg5 arg6 arg7 arg8 arg9 arg10 arg11 arg12 arg13 tg nt x wr br wg wu wd
            (if k0_cond4 i (tiles nt) = 1#1 then k0_pay3 else if k0_cond1 i (tiles nt) = 1#1 then block (plus i (group tg i) wg wu wd A G X) else o)
            (if k0_cond1 i (tiles nt) = 1#1 then (plus i (group tg i) wg wu wd A G X) else A)
            G X -∗ K ⟨⟩))
      ⊢ wp frame (wpE (defs₀ (F := F)) Variants.none c none) E (cc0_moe_grouped i arg2 harg2 arg3 harg3 arg4 harg4 arg5 harg5 arg6 harg6 arg7 harg7 arg8 harg8 arg9 harg9 arg10 harg10 arg11 harg11 arg12 harg12 arg13 harg13) K := by
  simp only [cc0_moe_grouped_eq_skeleton, k0_part1_eq_skeleton, k0_part2_eq_skeleton, k0_part3_eq_skeleton, k0_part4_eq_skeleton]
  unfold cc0_moe_grouped_skel Holds owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩⟩, Hk⟩
  subst e2 e3 e4 e5 e6 e7 e8 e9 e10 e11 e12 e13
  sl_exec
  have hr : last.sl.r c arg3 f3 = tiles (View.read (Elt F) arg3.view f3) := by
    unfold last.sl.r; exact tiles_at (View.read (Elt F) arg3.view f3) _
  have hg : ∀ h' (j : S1.Idx), View.readAt (Elt F) arg2.view (Rect.unit (s := S20) (k0_off3 i) S1.size h').toLoadRect f2 j = group (View.read (Elt F) arg2.view f2) i :=
    fun h' j => group_at (View.read (Elt F) arg2.view f2) _ _ (by show (BitVec.ofNat 32 (i 0).val).toNat + 1 * (j 0).val = _; have : (j 0).val < 1 := (j 0).isLt; omega)
  have hg' : ∀ h' (j : S1.Idx), View.readAt (Elt F) arg2.view (Rect.unit (s := S20) (k0_off2 i) S1.size h').toLoadRect f2 j = group (View.read (Elt F) arg2.view f2) i :=
    fun h' j => group_at (View.read (Elt F) arg2.view f2) _ _ (by show (BitVec.ofNat 32 (i 0).val).toNat + 1 * (j 0).val = _; have : (j 0).val < 1 := (j 0).isLt; omega)
  have hv : last.sl.v59 c i arg2 arg7 arg8 arg9 arg11 arg12 arg13 f2 f7 f8 f9 f11 f12 f13 = plus i (group (View.read (Elt F) arg2.view f2) i) (View.read (Elt F) arg7.view f7) (View.read (Elt F) arg8.view f8) (View.read (Elt F) arg9.view f9) (View.read (Elt F) arg11.view f11) (View.read (Elt F) arg12.view f12) (View.read (Elt F) arg13.view f13) := by
    repeat delta last.sl.v59 last.sl.H11_1 last.sl.r_1 last.sl.r_2
    simp only [gates, wide, rows, plus, readAt_zero (S := S512x1024) _ _ hz2, readAt_zero (S := S1024x128) _ _ hz2, readAt_zero (S := S1x128) _ _ hz2, readAt_zero (S := S512x128) _ _ hz2, readAt_zero (S := S1x1024x512) _ _ hz3, readAt_zero (S := S1x512x1024) _ _ hz3, View.readCov_unit_zero (S := S512x1024) _ hz2, View.readCov_unit_zero (S := S512x128) _ hz2, hg, hg']
  sl_step
  iapply Hk
  isplitl [H2]
  · iexists _; isplitr
    swap; · iexact H2
    ipureintro
    rfl
  isplitl [H3]
  · iexists _; isplitr
    swap; · iexact H3
    ipureintro
    rfl
  isplitl [H4]
  · iexists _; isplitr
    swap; · iexact H4
    ipureintro
    rfl
  isplitl [H5]
  · iexists _; isplitr
    swap; · iexact H5
    ipureintro
    rfl
  isplitl [H6]
  · iexists _; isplitr
    swap; · iexact H6
    ipureintro
    rfl
  isplitl [H7]
  · iexists _; isplitr
    swap; · iexact H7
    ipureintro
    rfl
  isplitl [H8]
  · iexists _; isplitr
    swap; · iexact H8
    ipureintro
    rfl
  isplitl [H9]
  · iexists _; isplitr
    swap; · iexact H9
    ipureintro
    rfl
  isplitl [H10]
  · iexists _; isplitr
    swap; · iexact H10
    ipureintro
    by_cases h4 : k0_cond4 i (tiles (View.read (Elt F) arg3.view f3)) = 1#1
    · rw [dif_pos (by rw [hr]; exact h4), if_pos h4]
      exact read_writes_zero _ _ hz3 _ _ _
    · rw [dif_neg (by rw [hr]; exact h4), if_neg h4]
      by_cases h1 : k0_cond1 i (tiles (View.read (Elt F) arg3.view f3)) = 1#1
      · rw [dif_pos (by rw [hr]; exact h1), if_pos h1]
        refine (View.read_writes_eq_canon _ _ _ (block_cover _ _ _ _ _ _ _ _)).trans ?_
        show block (last.sl.v59 c i arg2 arg7 arg8 arg9 arg11 arg12 arg13 f2 f7 f8 f9 f11 f12 f13) = _
        rw [hv]
      · rw [dif_neg (by rw [hr]; exact h1), if_neg h1]
  isplitl [H11]
  · iexists _; isplitr
    swap; · iexact H11
    ipureintro
    by_cases h1 : k0_cond1 i (tiles (View.read (Elt F) arg3.view f3)) = 1#1
    · rw [dif_pos (by rw [hr]; exact h1), if_pos h1]
      refine (read_writes_zero _ _ hz2 _ _ _).trans ?_
      repeat delta last.sl.v59 last.sl.H11_1 last.sl.r_1 last.sl.r_2
      simp only [gates, wide, rows, plus, readAt_zero (S := S512x1024) _ _ hz2, readAt_zero (S := S1024x128) _ _ hz2, readAt_zero (S := S1x128) _ _ hz2, readAt_zero (S := S512x128) _ _ hz2, readAt_zero (S := S1x1024x512) _ _ hz3, readAt_zero (S := S1x512x1024) _ _ hz3, View.readCov_unit_zero (S := S512x1024) _ hz2, View.readCov_unit_zero (S := S512x128) _ hz2, hg, hg']
    · rw [dif_neg (by rw [hr]; exact h1), if_neg h1]
  isplitl [H12]
  · iexists _; isplitr
    swap; · iexact H12
    ipureintro
    rfl
  iexists _; isplitr
  swap; · iexact H13
  ipureintro
  rfl

/-! ## The conditions, and one statement for all points -/

theorem cond2_iff (i : grid0.Coords) : k0_cond2 i = 1#1 ↔ (i 1).val = 0 := by
  show (Scalar.cmpi .ne (Scalar.extui (Scalar.cmpi .eq (BitVec.ofNat 32 (i 1).val) 0#32)) 0#32 : BitVec 1) = 1#1 ↔ _
  generalize (i 1) = e; revert e; decide

theorem cond3_iff (i : grid0.Coords) : k0_cond3 i = 1#1 ↔ (i 1).val = 3 := by
  show (Scalar.cmpi .ne (Scalar.extui (Scalar.cmpi .eq (BitVec.ofNat 32 (i 1).val) 3#32)) 0#32 : BitVec 1) = 1#1 ↔ _
  generalize (i 1) = e; revert e; decide

theorem cond1_iff (i : grid0.Coords) (w : BitVec 32) : k0_cond1 i w = 1#1 ↔ (BitVec.ofNat 32 (i 0).val).slt w = true := by
  show (Scalar.cmpi .ne (Scalar.extui (BitVec.ofBool ((BitVec.ofNat 32 (i 0).val).slt w))) 0#32 : BitVec 1) = 1#1 ↔ _
  generalize (BitVec.ofNat 32 (i 0).val).slt w = b; revert b; decide

theorem cond4_iff (i : grid0.Coords) (w : BitVec 32) : k0_cond4 i w = 1#1 ↔ k0_cond3 i = 1#1 ∧ ¬ k0_cond1 i w = 1#1 := by
  rw [cond1_iff]
  show (Scalar.cmpi .ne (Scalar.extui (Scalar.andi (BitVec.ofBool (w.sle (BitVec.ofNat 32 (i 0).val))) (Scalar.cmpi .eq (BitVec.ofNat 32 (i 1).val) 3#32))) 0#32 : BitVec 1) = 1#1
    ↔ (Scalar.cmpi .ne (Scalar.extui (Scalar.cmpi .eq (BitVec.ofNat 32 (i 1).val) 3#32)) 0#32 : BitVec 1) = 1#1 ∧ _
  rw [BitVec.sle_eq_not_slt]
  generalize (BitVec.ofNat 32 (i 0).val).slt w = b
  generalize (i 1) = e; revert b e; decide

/-- The gates, the rounded rows, the accumulator and the output block after a point. -/
def nextG (i : grid0.Coords) (tg : IVec S20 32) (nt : IVec S1 32) (x : Vec F S512x8x128 .f32) (wr : Vec F S1024x128 .f32) (br : Vec F S1x128 .f32)
    (G : Vec F S512x128 .f32) : Vec F S512x128 .f32 :=
  if (i 1).val = 0 then if k0_cond1 i (tiles nt) = 1#1 then gates x wr br (group tg i) else G else G

def nextX (i : grid0.Coords) (nt : IVec S1 32) (x : Vec F S512x8x128 .f32) (X : Vec F S512x1024 .bf16) : Vec F S512x1024 .bf16 :=
  if (i 1).val = 0 then if k0_cond1 i (tiles nt) = 1#1 then rows x else X else X

def nextA (i : grid0.Coords) (tg : IVec S20 32) (nt : IVec S1 32) (x : Vec F S512x8x128 .f32) (wr : Vec F S1024x128 .f32) (br : Vec F S1x128 .f32)
    (wg wu : Vec F S1x1024x512 .f32) (wd : Vec F S1x512x1024 .f32) (A : Vec F S512x1024 .f32) (G : Vec F S512x128 .f32) (X : Vec F S512x1024 .bf16) :
    Vec F S512x1024 .f32 :=
  if (i 1).val = 0 then if k0_cond1 i (tiles nt) = 1#1 then plus i (group tg i) wg wu wd k0_pay4 (gates x wr br (group tg i)) (rows x) else A
  else if k0_cond1 i (tiles nt) = 1#1 then plus i (group tg i) wg wu wd A G X else A

def nextO (i : grid0.Coords) (tg : IVec S20 32) (nt : IVec S1 32) (wg wu : Vec F S1x1024x512 .f32) (wd : Vec F S1x512x1024 .f32)
    (o : Vec F S512x8x128 .f32) (A : Vec F S512x1024 .f32) (G : Vec F S512x128 .f32) (X : Vec F S512x1024 .bf16) : Vec F S512x8x128 .f32 :=
  if (i 1).val = 3 then if k0_cond1 i (tiles nt) = 1#1 then block (plus i (group tg i) wg wu wd A G X) else k0_pay3 else o

theorem point (K : PUnit → sProp 𝕄) :
    iprop(Holds c arg2 arg3 arg4 arg5 arg6 arg7 arg8 arg9 arg10 arg11 arg12 arg13 tg nt x wr br wg wu wd o A G X
        ∗ (Holds c arg2 arg3 arg4 arg5 arg6 arg7 arg8 arg9 arg10 arg11 arg12 arg13 tg nt x wr br wg wu wd (nextO i tg nt wg wu wd o A G X) (nextA i tg nt x wr br wg wu wd A G X)
            (nextG i tg nt x wr br G) (nextX i nt x X) -∗ K ⟨⟩))
      ⊢ wp frame (wpE (defs₀ (F := F)) Variants.none c none) E (cc0_moe_grouped i arg2 harg2 arg3 harg3 arg4 harg4 arg5 harg5 arg6 harg6 arg7 harg7 arg8 harg8 arg9 harg9 arg10 harg10 arg11 harg11 arg12 harg12 arg13 harg13) K := by
  by_cases e0 : (i 1).val = 0
  · have h3 : ¬ k0_cond3 i = 1#1 := by rw [cond3_iff]; omega
    have h4 : ¬ k0_cond4 i (tiles nt) = 1#1 := by rw [cond4_iff]; exact fun h => h3 h.1
    have h := first c E i arg2 arg3 arg4 arg5 arg6 arg7 arg8 arg9 arg10 arg11 arg12 arg13 (harg2 := harg2) (harg3 := harg3) (harg4 := harg4) (harg5 := harg5) (harg6 := harg6)
      (harg7 := harg7) (harg8 := harg8) (harg9 := harg9) (harg10 := harg10) (harg11 := harg11) (harg12 := harg12) (harg13 := harg13)
      tg nt x wr br wg wu wd o A G X ((cond2_iff i).2 e0) h3 K
    rw [if_neg h4] at h
    rw [nextO, nextA, nextG, nextX, if_neg (by omega), if_pos e0, if_pos e0, if_pos e0]
    exact h
  by_cases e3 : (i 1).val = 3
  · have h3 : k0_cond3 i = 1#1 := (cond3_iff i).2 e3
    have h := last c E i arg2 arg3 arg4 arg5 arg6 arg7 arg8 arg9 arg10 arg11 arg12 arg13 (harg2 := harg2) (harg3 := harg3) (harg4 := harg4) (harg5 := harg5) (harg6 := harg6)
      (harg7 := harg7) (harg8 := harg8) (harg9 := harg9) (harg10 := harg10) (harg11 := harg11) (harg12 := harg12) (harg13 := harg13)
      tg nt x wr br wg wu wd o A G X (by rw [cond2_iff]; exact e0) h3 K
    rw [nextO, nextA, nextG, nextX, if_pos e3, if_neg e0, if_neg e0, if_neg e0]
    by_cases h1 : k0_cond1 i (tiles nt) = 1#1
    · have h4 : ¬ k0_cond4 i (tiles nt) = 1#1 := by rw [cond4_iff]; exact fun h => h.2 h1
      rw [if_neg h4] at h; simp only [if_pos h1] at h ⊢; exact h
    · have h4 : k0_cond4 i (tiles nt) = 1#1 := by rw [cond4_iff]; exact ⟨h3, h1⟩
      rw [if_pos h4] at h; simp only [if_neg h1] at h ⊢; exact h
  · have h3 : ¬ k0_cond3 i = 1#1 := by rw [cond3_iff]; exact e3
    have h4 : ¬ k0_cond4 i (tiles nt) = 1#1 := by rw [cond4_iff]; exact fun h => h3 h.1
    have h := middle c E i arg2 arg3 arg4 arg5 arg6 arg7 arg8 arg9 arg10 arg11 arg12 arg13 (harg2 := harg2) (harg3 := harg3) (harg4 := harg4) (harg5 := harg5) (harg6 := harg6)
      (harg7 := harg7) (harg8 := harg8) (harg9 := harg9) (harg10 := harg10) (harg11 := harg11) (harg12 := harg12) (harg13 := harg13)
      tg nt x wr br wg wu wd o A G X (by rw [cond2_iff]; exact e0) h3 K
    rw [if_neg h4] at h
    rw [nextO, nextA, nextG, nextX, if_neg e3, if_neg e0, if_neg e0, if_neg e0]
    exact h

end Cert.GroupedIdeal.Grouped
-- ==== Proof.GroupedGate.lean ====
/- The two best of four experts, found by two passes of a maximum over the router's lanes and by counting who comes before. -/
module

public import Idealize.ShloMosaic.PureOps.Ideal.Laws
public import Idealize.ShloMosaic.Lib.IdealHost

@[expose] public section

noncomputable section

namespace Cert.Gate

open Idealize.ShloMosaic

/-- The largest and the smallest of finitely many values, -/
def top {n : ℕ} (f : Fin n → EReal) : EReal := (Finset.univ : Finset (Fin n)).fold max ⊥ f
def bot {n : ℕ} (f : Fin n → EReal) : EReal := (Finset.univ : Finset (Fin n)).fold min ⊤ f
/-- a lane's number, -/
def lane (j : Fin 128) : EReal := ((j.val : ℝ) : EReal)
/-- a value past every lane, -/
def far : EReal := Ideal.ofBits .f32 0x4E6E6B28#32
/-- and the number of the first lane that holds the largest value. -/
def first (f : Fin 128 → EReal) : EReal := bot fun j => if f j = top f then lane j else far

theorem le_top {n : ℕ} (f : Fin n → EReal) (j : Fin n) : f j ≤ top f :=
  (Finset.le_fold_max _).2 (.inr ⟨j, Finset.mem_univ j, le_refl _⟩)

theorem top_eq {n : ℕ} (f : Fin n → EReal) (a : Fin n) (h : ∀ j, f j ≤ f a) : top f = f a :=
  le_antisymm ((Finset.fold_max_le _).2 ⟨bot_le, fun j _ => h j⟩) (le_top f a)

theorem bot_eq {n : ℕ} (f : Fin n → EReal) (a : Fin n) (h : ∀ j, f a ≤ f j) : bot f = f a :=
  le_antisymm ((Finset.fold_min_le _).2 (.inr ⟨a, Finset.mem_univ a, le_refl _⟩)) ((Finset.le_fold_min _).2 ⟨_root_.le_top, fun j _ => h j⟩)

theorem far_eq : far = ((1000000000 : ℝ) : EReal) := by
  simp [far, Ideal.ofBits, Ideal.ieee, -EReal.coe_mul]
  norm_num

theorem lane_le_far (j : Fin 128) : lane j ≤ far := by
  rw [far_eq, lane, EReal.coe_le_coe_iff]
  have : ((j.val : ℕ) : ℝ) ≤ ((128 : ℕ) : ℝ) := Nat.cast_le.mpr j.isLt.le
  refine this.trans ?_
  norm_num

theorem lane_le {i j : Fin 128} (h : i ≤ j) : lane i ≤ lane j := by
  rw [lane, lane, EReal.coe_le_coe_iff]
  exact Nat.cast_le.mpr h

theorem lane_inj {i j : Fin 128} : lane i = lane j ↔ i = j := by
  rw [lane, lane, EReal.coe_eq_coe_iff, Nat.cast_inj, Fin.val_inj]

theorem first_eq (f : Fin 128 → EReal) : ∃ a, first f = lane a ∧ f a = top f ∧ ∀ j, j < a → f j ≠ top f := by
  classical
  have hne : (Finset.univ.filter fun j => f j = top f).Nonempty := by
    obtain ⟨a, -, ha⟩ := Finset.exists_max_image (Finset.univ : Finset (Fin 128)) f ⟨0, Finset.mem_univ _⟩
    exact ⟨a, Finset.mem_filter.2 ⟨Finset.mem_univ _, (top_eq f a fun j => ha j (Finset.mem_univ _)).symm⟩⟩
  obtain ⟨a, ha, hmin⟩ := Finset.exists_min_image _ id hne
  have hfa := (Finset.mem_filter.1 ha).2
  have hbefore : ∀ j, j < a → f j ≠ top f := fun j hj h => absurd (hmin j (Finset.mem_filter.2 ⟨Finset.mem_univ _, h⟩)) (not_le.2 hj)
  refine ⟨a, ?_, hfa, hbefore⟩
  refine (bot_eq _ a fun j => ?_).trans (if_pos hfa)
  rw [if_pos hfa]
  split_ifs with h
  · exact lane_le (not_lt.1 fun hj => hbefore j hj h)
  · exact lane_le_far a

/-- The lanes without the first best one. -/
def rest (f : Fin 128 → EReal) (j : Fin 128) : EReal := if lane j = first f then ⊥ else f j

/-- A lane's gate: a share of `p` for each of the two best lanes. -/
def laneGate (p : EReal) (f : Fin 128 → EReal) (j : Fin 128) : EReal :=
  if lane j = first f then Ideal.div p (1 + Ideal.exp (top (rest f) - top f))
  else if lane j = first (rest f) then Ideal.div (p * Ideal.exp (top (rest f) - top f)) (1 + Ideal.exp (top (rest f) - top f)) else 0

/-- Whether an expert comes before another, how many do, an expert's weight if fewer than two do, and its gate. -/
def before (l : Fin 4 → EReal) (e' e : Fin 4) : Prop := l e < l e' ∨ (l e' = l e ∧ e' < e)
open Classical in
def rank (l : Fin 4 → EReal) (e : Fin 4) : ℕ := ∑ e', if before l e' e then 1 else 0
def weight (l : Fin 4 → EReal) (e : Fin 4) : EReal := if rank l e < 2 then Ideal.exp (l e - top l) else 0
def gate (p : EReal) (l : Fin 4 → EReal) (e : Fin 4) : EReal := Ideal.div (weight l e) (∑ e', weight l e') * p

theorem exp_nonneg (x : EReal) : 0 ≤ Ideal.exp x := by
  induction x using EReal.rec with
  | bot => exact le_refl _
  | top => exact _root_.le_top
  | coe r =>
    rw [Ideal.exp_coe]
    exact EReal.coe_nonneg.2 (Real.exp_pos r).le

/-- If four lanes hold four numbers and the others nothing, the lanes' gates are the experts'. -/
theorem laneGate_eq (p : EReal) (f : Fin 128 → EReal) (l : Fin 4 → EReal) (pos : Fin 4 → Fin 128) (hpos : ∀ {e e'}, pos e < pos e' ↔ e < e')
    (hl : ∀ e, f (pos e) = l e) (hbot : ∀ e, l e ≠ ⊥) (htop : ∀ e, l e ≠ ⊤) (hf : ∀ j, (∀ e, j ≠ pos e) → f j = ⊥) (e : Fin 4) :
    laneGate p f (pos e) = gate p l e := by
  classical
  have hinj : ∀ {e e'}, pos e = pos e' ↔ e = e' := fun {e e'} => ⟨fun h => by
    rcases lt_trichotomy e e' with h' | h' | h'
    · exact absurd (hpos.2 h') (by rw [h]; exact lt_irrefl _)
    · exact h'
    · exact absurd (hpos.2 h') (by rw [h]; exact lt_irrefl _), fun h => h ▸ rfl⟩
  obtain ⟨a1, h1, hm1, hb1⟩ := first_eq f
  obtain ⟨e1, rfl⟩ : ∃ e1, a1 = pos e1 := by
    by_contra hn
    have := hf a1 fun e h => hn ⟨e, h⟩
    have h0 := le_top f (pos 0)
    rw [← hm1, this, hl, le_bot_iff] at h0
    exact hbot 0 h0
  have hr : ∀ j, rest f j = if j = pos e1 then ⊥ else f j := fun j => by
    unfold rest
    rw [h1]
    simp only [lane_inj]
  obtain ⟨a2, h2, hm2, hb2⟩ := first_eq (rest f)
  obtain ⟨e3, h3⟩ : ∃ e3 : Fin 4, e3 ≠ e1 := ⟨e1 + 1, by
    have : ∀ e : Fin 4, e + 1 ≠ e := by decide
    exact this e1⟩
  have hr3 : rest f (pos e3) = l e3 := by rw [hr, if_neg (fun h => h3 (hinj.1 h)), hl]
  have hne2 : rest f a2 ≠ ⊥ := fun h => by
    have h0 := le_top (rest f) (pos e3)
    rw [← hm2, h, hr3, le_bot_iff] at h0
    exact hbot _ h0
  have ha21 : a2 ≠ pos e1 := fun h => hne2 (by rw [hr, if_pos h])
  obtain ⟨e2, rfl⟩ : ∃ e2, a2 = pos e2 := by
    by_contra hn
    exact hne2 (by rw [hr, if_neg ha21]; exact hf a2 fun e h => hn ⟨e, h⟩)
  have h21 : e2 ≠ e1 := fun h => ha21 (h ▸ rfl)
  have hr' : ∀ e, e ≠ e1 → rest f (pos e) = l e := fun e h => by rw [hr, if_neg (fun h' => h (hinj.1 h')), hl]
  have t1 : top f = l e1 := by rw [← hm1, hl]
  have t2 : top (rest f) = l e2 := by rw [← hm2, hr' e2 h21]
  have m1 : ∀ e, l e ≤ l e1 := fun e => by rw [← t1, ← hl]; exact le_top f _
  have m2 : ∀ e, e ≠ e1 → l e ≤ l e2 := fun e h => by rw [← t2, ← hr' e h]; exact le_top _ _
  have s1 : ∀ e, e < e1 → l e ≠ l e1 := fun e h => by rw [← t1, ← hl]; exact hb1 _ (hpos.2 h)
  have s2 : ∀ e, e ≠ e1 → e < e2 → l e ≠ l e2 := fun e h h' => by rw [← t2, ← hr' e h]; exact hb2 _ (hpos.2 h')
  have tl : top l = l e1 := top_eq l e1 m1
  have b1 : ∀ e, e ≠ e1 → before l e1 e := fun e h => by
    rcases lt_or_eq_of_le (m1 e) with h' | h'
    · exact .inl h'
    · exact .inr ⟨h'.symm, lt_of_le_of_ne (not_lt.1 fun hlt => s1 e hlt h') (Ne.symm h)⟩
  have n1 : ∀ e, ¬ before l e e1 := fun e h => by
    rcases h with h | ⟨h, h'⟩
    · exact absurd (m1 e) (not_le.2 h)
    · exact s1 e h' h
  have b2 : ∀ e, e ≠ e1 → e ≠ e2 → before l e2 e := fun e h h2' => by
    rcases lt_or_eq_of_le (m2 e h) with h' | h'
    · exact .inl h'
    · exact .inr ⟨h'.symm, lt_of_le_of_ne (not_lt.1 fun hlt => s2 e h hlt h') (Ne.symm h2')⟩
  have n2 : ∀ e, before l e e2 → e = e1 := fun e h => by
    by_contra hne
    rcases h with h | ⟨h, h'⟩
    · exact absurd (m2 e hne) (not_le.2 h)
    · exact s2 e hne h' h
  have r1 : rank l e1 < 2 := by
    unfold rank
    rw [Finset.sum_eq_zero fun e _ => if_neg (n1 e)]
    decide
  have r2 : rank l e2 < 2 := by
    have : rank l e2 ≤ ∑ e' : Fin 4, if e' = e1 then 1 else 0 := Finset.sum_le_sum fun e' _ => by
      by_cases h : before l e' e2
      · rw [if_pos h, if_pos (n2 e' h)]
      · rw [if_neg h]; exact Nat.zero_le _
    rw [Finset.sum_ite_eq' Finset.univ e1, if_pos (Finset.mem_univ _)] at this
    omega
  have r3 : ∀ e, e ≠ e1 → e ≠ e2 → ¬ rank l e < 2 := fun e h h' => by
    have : (∑ e' : Fin 4, ((if e' = e1 then 1 else 0) + (if e' = e2 then 1 else 0))) ≤ rank l e := Finset.sum_le_sum fun e' _ => by
      by_cases he1 : e' = e1
      · rw [if_pos he1, if_neg (fun h'' : e' = e2 => h21 (h''.symm.trans he1)), if_pos (he1 ▸ b1 e h)]
      · rw [if_neg he1]
        by_cases he2 : e' = e2
        · rw [if_pos he2, if_pos (he2 ▸ b2 e h h')]
        · rw [if_neg he2]; exact Nat.zero_le _
    rw [Finset.sum_add_distrib, Finset.sum_ite_eq' Finset.univ e1, Finset.sum_ite_eq' Finset.univ e2, if_pos (Finset.mem_univ _), if_pos (Finset.mem_univ _)] at this
    omega
  have w1 : weight l e1 = 1 := by
    unfold weight
    rw [if_pos r1, tl, EReal.sub_self (htop e1) (hbot e1)]
    exact (Ideal.exp_coe (r := 0)).trans (by rw [Real.exp_zero]; rfl)
  have w2 : weight l e2 = Ideal.exp (l e2 - l e1) := by
    unfold weight
    rw [if_pos r2, tl]
  have w3 : ∀ e, e ≠ e1 → e ≠ e2 → weight l e = 0 := fun e h h' => if_neg (r3 e h h')
  have hsum : ∑ e', weight l e' = 1 + Ideal.exp (l e2 - l e1) := by
    have : ∀ e', weight l e' = (if e' = e1 then weight l e1 else 0) + (if e' = e2 then weight l e2 else 0) := fun e' => by
      by_cases he1 : e' = e1
      · rw [if_pos he1, if_neg (fun h'' : e' = e2 => h21 (h''.symm.trans he1)), add_zero, he1]
      · rw [if_neg he1, zero_add]
        by_cases he2 : e' = e2
        · rw [if_pos he2, he2]
        · rw [if_neg he2, w3 e' he1 he2]
    rw [Finset.sum_congr rfl fun e' _ => this e', Finset.sum_add_distrib, Finset.sum_ite_eq' Finset.univ e1, Finset.sum_ite_eq' Finset.univ e2,
      if_pos (Finset.mem_univ _), if_pos (Finset.mem_univ _), w1, w2]
  have hy : (1 + Ideal.exp (l e2 - l e1) : EReal) ≠ 0 := fun h => by
    have h0 : (0 : EReal) ≤ Ideal.exp (l e2 - l e1) := exp_nonneg _
    have : (1 : EReal) ≤ 0 := h ▸ le_add_of_nonneg_right h0
    exact absurd this (by norm_num)
  unfold laneGate gate
  rw [h1, h2, t1, t2, hsum]
  simp only [lane_inj, hinj, Ideal.div, if_neg hy]
  by_cases he1 : e = e1
  · rw [if_pos he1, he1, w1, one_mul, mul_comm]
  · rw [if_neg he1]
    by_cases he2 : e = e2
    · rw [if_pos he2, he2, w2, mul_assoc, mul_comm]
    · rw [if_neg he2, w3 e he1 he2, zero_mul, zero_mul]

/-- The group's probability over the lanes and over the four groups. -/
theorem top_lanes (f : Fin 128 → EReal) (l : Fin 4 → EReal) (hl : ∀ e : Fin 4, f (e.castLE (by decide)) = l e) (hf : ∀ j : Fin 128, 4 ≤ j.val → f j = ⊥) :
    top f = top l := by
  refine le_antisymm ((Finset.fold_max_le _).2 ⟨bot_le, fun j _ => ?_⟩) ((Finset.fold_max_le _).2 ⟨bot_le, fun e _ => hl e ▸ le_top f _⟩)
  by_cases h : j.val < 4
  · exact (hl ⟨j.val, h⟩) ▸ le_top l ⟨j.val, h⟩
  · rw [hf j (by omega)]
    exact bot_le

theorem sum_lanes (f : Fin 128 → EReal) (l : Fin 4 → EReal) (hl : ∀ e : Fin 4, f (e.castLE (by decide)) = l e) (hf : ∀ j : Fin 128, 4 ≤ j.val → f j = 0) :
    ∑ j, f j = ∑ e, l e := by
  rw [Fin.sum_univ_add (a := 4) (b := 124) f, Finset.sum_eq_zero (s := Finset.univ (α := Fin 124)) (fun j _ => hf _ (by simp)), add_zero]
  exact Finset.sum_congr rfl fun e _ => hl e

end Cert.Gate

end
-- ==== Proof.GroupedTile.lean ====
/- What the grouped call computes for a tile, index by index, on exact values. -/
module

public import proofs.«01_k».proof.Proof.GroupedBody
public import proofs.«01_k».proof.Proof.GroupedGate
public import Idealize.ShloMosaic.Lib.MatmulPlain
public import Idealize.ShloMosaic.Lib.WordCmp

@[expose] public section

noncomputable section

namespace Cert.GroupedIdeal.Grouped

open Cert.GroupedIdeal Cert.GroupedIdeal.Gen
open Idealize.ShloMosaic TcCoe
open Idealize.ShloMosaic.ValueIdx Idealize.ShloMosaic.WordCmp

/-! ## Operations on a tile, at a row -/

theorem neg_inf : (Scalar.ofBits .f32 0xFF800000#32 : Ideal .f32) = (⊥ : EReal) := by
  show Ideal.ofBits .f32 0xFF800000#32 = ⊥
  simp [Ideal.ofBits, Ideal.ieee]
theorem pos_inf : (FloatOps.ofBits .f32 0x7F800000#32 : Ideal .f32) = (⊤ : EReal) := by
  show Ideal.ofBits .f32 0x7F800000#32 = ⊤
  simp [Ideal.ofBits, Ideal.ieee]
theorem bits_zero : (Scalar.ofBits .f32 0x00000000#32 : Ideal .f32) = (0 : EReal) := Ideal.ofBits_zero_f32
theorem bits_one : (Scalar.ofBits .f32 0x3F800000#32 : Ideal .f32) = (1 : EReal) := Ideal.ofBits_one_f32

theorem lift_row (r : Fin 512) (k : Fin 128) : reduces_S512x128_S512.lift (ix1 r) k = ix2 r k :=
  funext fun b => by match b with | ⟨0, _⟩ => rfl | ⟨1, _⟩ => rfl

theorem col_at {α : Type} (v : S512.Idx → α) (r : Fin 512) : shapeCast S512x1 v shapeCasts_S512_S512x1 (ix2 r (0 : Fin 1)) = v (ix1 r) :=
  shapeCast_apply _ _ _ _ (by rw [Shape.rowMajor_val_two, Shape.rowMajor_val_one]; show r.val = r.val * 1 + 0; omega)

theorem over_at {α : Type} (v : S512x1.Idx → α) (r : Fin 512) (j : Fin 128) : broadcastTo S512x128 v broadcasts_S512x1_S512x128 (ix2 r j) = v (ix2 r (0 : Fin 1)) :=
  broadcastTo_apply _ _ _ _ fun a => by match a with | ⟨0, _⟩ => rfl | ⟨1, _⟩ => rfl

theorem max_at (v : FVec Ideal S512x128 .f32) (r : Fin 512) :
    multiReduction .maximumf [1] S512 v 0xFF800000#32 reduces_S512x128_S512 (.inl rfl) rfl (ix1 r) = Gate.top fun j => v (ix2 r j) := by
  refine (Ideal.multiReduction_maximumf_single _ _ _ _ _ _).trans ?_
  rw [show (FloatOps.ofBits .f32 0xFF800000#32 : Ideal .f32) = (⊥ : EReal) from neg_inf]
  exact Finset.fold_congr fun j _ => congrArg v (lift_row r j)

theorem min_at (v : FVec Ideal S512x128 .f32) (r : Fin 512) :
    multiReduction .minimumf [1] S512 v 0x7F800000#32 reduces_S512x128_S512 (.inl rfl) rfl (ix1 r) = Gate.bot fun j => v (ix2 r j) := by
  refine (multiReduction_minimumf_eq_fold _ _ _ _ _ _).trans ?_
  refine (reduces_S512x128_S512.fold_filter_drop_single _ _ v (ix1 r)).trans ?_
  rw [pos_inf]
  exact Finset.fold_congr fun j _ => congrArg v (lift_row r j)

theorem sum_at (v : FVec Ideal S512x128 .f32) (r : Fin 512) :
    multiReduction .add [1] S512 v 0x00000000#32 reduces_S512x128_S512 (.inl rfl) rfl (ix1 r) = ∑ j : Fin 128, v (ix2 r j) :=
  (Ideal.multiReduction_add_single _ _ _ _ _ _).trans (Finset.sum_congr rfl fun j _ => congrArg v (lift_row r j))

theorem lanes_at (r : Fin 512) (j : Fin 128) : iota .tc S512x128 32 [1] iota_S512x128_d1_w32 (ix2 r j) = BitVec.ofNat 32 j.val :=
  iota_single_apply _ _ _ _ _ _

/-- A selection by a test on the lane's number. -/
theorem pick (c : Bool) (P : Prop) [Decidable P] (h : c = decide P) (a b : EReal) : Scalar.select (BitVec.ofBool c) a b = if P then a else b := by
  rw [select_ofBool, h]
  by_cases hP : P <;> simp [hP]

theorem pick_eq (a b x y : EReal) : Scalar.select (Ideal.cmp .oeq a b) x y = if a = b then x else y := by
  unfold Ideal.cmp
  exact pick _ (a = b) rfl x y

theorem share (p e : FVec Ideal S512x1 .f32) (i : S512x1.Idx) (a c : EReal) (hp : p i = a) (he : e i = c) :
    divf p (addf (broadcast S512x1 (Scalar.ofBits .f32 0x3F800000#32 : Ideal .f32)) e) i = Ideal.div a (1 + c) := by
  show Ideal.div (p i) ((Scalar.ofBits .f32 0x3F800000#32 : Ideal .f32) + e i) = _
  rw [hp, he, bits_one]

theorem times (p e : FVec Ideal S512x1 .f32) (i : S512x1.Idx) (a c : EReal) (hp : p i = a) (he : e i = c) : mulf p e i = a * c := by
  show p i * e i = _
  rw [hp, he]

/-! ## The router -/

variable (X : FVec Ideal S512x1024 .f32) (W : FVec Ideal S1024x128 .f32) (b : Vec Ideal S1x128 .f32)

theorem pay7_eq (W : Vec Ideal S1024x128 .f32) : k0_pay7 W = W := by
  unfold k0_pay7
  exact funext fun i => shapeCast_apply _ _ _ _ rfl

/-- A row's logits. -/
theorem pay8_at (r : Fin 512) (j : Fin 128) : k0_pay8 X W b (ix2 r j) = (∑ c : Fin 1024, X (ix2 r c) * W (ix2 c j)) + b (ix2 (0 : Fin 1) j) := by
  unfold k0_pay8
  refine congrArg₂ (fun p q : EReal => p + q) ?_ ?_
  · refine (Ideal.matmul_plain_apply (M := 512) (K := 1024) (N := 128) _ X W _ r j).trans ?_
    refine (congrArg (fun z : EReal => z + _) Ideal.ofBits_zero_f32).trans (zero_add _)
  · refine (broadcastTo_apply _ _ _ (ix2 (0 : Fin 1) j) fun a => by match a with | ⟨0, _⟩ => rfl | ⟨1, _⟩ => rfl).trans ?_
    exact shapeCast_apply _ _ _ _ rfl

theorem pay9_at (r : Fin 512) (j : Fin 128) : k0_pay9 (F := Ideal) (ix2 r j) = Gate.lane j := by
  unfold k0_pay9
  show Scalar.sitofp (F := Ideal) .f32 (iota .tc S512x128 32 [1] iota_S512x128_d1_w32 (ix2 r j)) = _
  rw [lanes_at, Ideal.scalar_sitofp_def, Gate.lane]
  have hj := j.isLt
  have : (BitVec.ofNat 32 j.val).toInt = (j.val : ℤ) := by
    rw [BitVec.toInt_eq_toNat_cond, BitVec.toNat_ofNat, Nat.mod_eq_of_lt (by omega), if_pos (by omega)]
  rw [this]
  norm_cast

variable (o : ℕ) (ho : o ≤ 3)

/-- The logits of the experts of group `o`. -/
def own (o : ℕ) (L : Fin 128 → EReal) (j : Fin 128) : EReal := if 4 + 4 * o ≤ j.val ∧ j.val < 8 + 4 * o then L j else ⊥

include ho

theorem pay11_at (r : Fin 512) (j : Fin 128) :
    k0_pay11 X W b (BitVec.ofNat 32 o) (ix2 r j) = own o (fun j => k0_pay8 X W b (ix2 r j)) j := by
  have hj := j.isLt
  unfold k0_pay11
  show Scalar.select (IntOp.andi (IntOp.cmpi .sge (iota .tc S512x128 32 [1] iota_S512x128_d1_w32 (ix2 r j)) (BitVec.ofNat 32 4 + BitVec.ofNat 32 o * BitVec.ofNat 32 4))
    (IntOp.cmpi .slt (iota .tc S512x128 32 [1] iota_S512x128_d1_w32 (ix2 r j)) (BitVec.ofNat 32 4 + BitVec.ofNat 32 o * BitVec.ofNat 32 4 + BitVec.ofNat 32 4)))
    (k0_pay8 X W b (ix2 r j)) (Scalar.ofBits .f32 0xFF800000#32 : Ideal .f32) = _
  rw [lanes_at, BitVec.ofNat_mul_ofNat, BitVec.ofNat_add_ofNat, BitVec.ofNat_add_ofNat, cmpi_sge_ofNat (w := 32) (by omega) (by omega),
    cmpi_slt_ofNat (w := 32) (by omega) (by omega), neg_inf]
  unfold own
  by_cases h1 : 4 + 4 * o ≤ j.val <;> by_cases h2 : j.val < 8 + 4 * o
  all_goals
    have e1 : (4 + o * 4 ≤ j.val) ↔ (4 + 4 * o ≤ j.val) := by omega
    have e2 : (j.val < 4 + o * 4 + 4) ↔ (j.val < 8 + 4 * o) := by omega
    simp only [e1, e2, h1, h2]
    rfl

theorem pay12_at (r : Fin 512) : k0_pay12 X W b (BitVec.ofNat 32 o) (ix2 r (0 : Fin 1)) = Gate.top (own o fun j => k0_pay8 X W b (ix2 r j)) := by
  unfold k0_pay12
  refine (col_at _ r).trans ((max_at _ r).trans ?_)
  exact congrArg Gate.top (funext fun j => pay11_at X W b o ho r j)

theorem pay13_at (r : Fin 512) (j : Fin 128) : k0_pay13 X W b (BitVec.ofNat 32 o) (ix2 r j)
    = if own o (fun j => k0_pay8 X W b (ix2 r j)) j = Gate.top (own o fun j => k0_pay8 X W b (ix2 r j)) then Gate.lane j else Gate.far := by
  unfold k0_pay13
  show Scalar.select (Ideal.cmp .oeq (k0_pay11 X W b (BitVec.ofNat 32 o) (ix2 r j)) (broadcastTo S512x128 (k0_pay12 X W b (BitVec.ofNat 32 o)) broadcasts_S512x1_S512x128 (ix2 r j)))
    (k0_pay9 (F := Ideal) (ix2 r j)) Gate.far = _
  rw [over_at, pay12_at X W b o ho, pay11_at X W b o ho, pay9_at, pick_eq]

/-- The logits of the four groups. -/
def four (L : Fin 128 → EReal) (j : Fin 128) : EReal := if j.val < 4 then L j else ⊥

/-- A group's probability. -/
def prob (o : ℕ) (L : Fin 128 → EReal) : EReal :=
  Ideal.div (Ideal.exp ((∑ j : Fin 128, if j.val = o then L j else 0) - Gate.top (four L))) (∑ j, Ideal.exp (four L j - Gate.top (four L)))

theorem pay10_at (r : Fin 512) : k0_pay10 X W b (BitVec.ofNat 32 o) (ix2 r (0 : Fin 1)) = prob o fun j => k0_pay8 X W b (ix2 r j) := by
  have hfour : ∀ j : Fin 128, select (cmpi .slt (iota .tc S512x128 32 [1] iota_S512x128_d1_w32) (broadcast S512x128 4#32)) (k0_pay8 X W b)
      (broadcast S512x128 (Scalar.ofBits .f32 0xFF800000#32 : Ideal .f32)) (ix2 r j) = four (fun j => k0_pay8 X W b (ix2 r j)) j := fun j => by
    have hj := j.isLt
    show Scalar.select (IntOp.cmpi .slt (iota .tc S512x128 32 [1] iota_S512x128_d1_w32 (ix2 r j)) (BitVec.ofNat 32 4)) (k0_pay8 X W b (ix2 r j)) (Scalar.ofBits .f32 0xFF800000#32 : Ideal .f32) = _
    rw [lanes_at, cmpi_slt_ofNat (w := 32) (by omega) (by decide), neg_inf]
    exact pick _ (j.val < 4) rfl _ _
  have hsel : ∀ j : Fin 128, select (cmpi .eq (iota .tc S512x128 32 [1] iota_S512x128_d1_w32) (broadcast S512x128 (BitVec.ofNat 32 o))) (k0_pay8 X W b)
      (broadcast S512x128 (Scalar.ofBits .f32 0x00000000#32 : Ideal .f32)) (ix2 r j) = if j.val = o then k0_pay8 X W b (ix2 r j) else 0 := fun j => by
    have hj := j.isLt
    show Scalar.select (IntOp.cmpi .eq (iota .tc S512x128 32 [1] iota_S512x128_d1_w32 (ix2 r j)) (BitVec.ofNat 32 o)) (k0_pay8 X W b (ix2 r j)) (Scalar.ofBits .f32 0x00000000#32 : Ideal .f32) = _
    rw [lanes_at, cmpi_eq_ofNat (w := 32) (by omega) (by omega), bits_zero]
    exact pick _ (j.val = o) rfl _ _
  have hmax : ∀ v : FVec Ideal S512x128 .f32, (∀ j, v (ix2 r j) = four (fun j => k0_pay8 X W b (ix2 r j)) j) →
      shapeCast S512x1 (multiReduction .maximumf [1] S512 v 0xFF800000#32 reduces_S512x128_S512 (.inl rfl) rfl) shapeCasts_S512_S512x1 (ix2 r (0 : Fin 1))
        = Gate.top (four fun j => k0_pay8 X W b (ix2 r j)) := fun v hv =>
    (col_at _ r).trans ((max_at _ r).trans (congrArg Gate.top (funext hv)))
  unfold k0_pay10 prob
  refine congrArg₂ Ideal.div (congrArg Ideal.exp (congrArg₂ (fun p q : EReal => p - q) ?_ ?_)) ?_
  · exact (col_at _ r).trans ((sum_at _ r).trans (Finset.sum_congr rfl fun j _ => hsel j))
  · exact hmax _ hfour
  · refine (col_at _ r).trans ((sum_at _ r).trans (Finset.sum_congr rfl fun j _ => congrArg Ideal.exp (congrArg₂ (fun p q : EReal => p - q) (hfour j) ?_)))
    exact (over_at _ r j).trans (hmax _ hfour)

omit ho in
/-- The gates from the router's values. -/
theorem pay22_at (v92 : FVec Ideal S512x128 .f32) (v114 : FVec Ideal S512x1 .f32) (v124 : FVec Ideal S512x128 .f32) (v126 : FVec Ideal S512x1 .f32) (v130 : FVec Ideal S512x128 .f32)
    (r : Fin 512) (f : Fin 128 → EReal) (h92 : ∀ j, v92 (ix2 r j) = Gate.lane j) (h124 : ∀ j, v124 (ix2 r j) = f j) (h126 : v126 (ix2 r (0 : Fin 1)) = Gate.top f)
    (h130 : ∀ j, v130 (ix2 r j) = if f j = Gate.top f then Gate.lane j else Gate.far) (j : Fin 128) :
    k0_pay22 v92 v114 v124 v126 v130 (ix2 r j) = Gate.laneGate (v114 (ix2 r (0 : Fin 1))) f j := by
  have hcast : ∀ (v : FVec Ideal S512x1 .f32), shapeCast S512x1 v shapeCasts_S512x1_S512x1 (ix2 r (0 : Fin 1)) = v (ix2 r (0 : Fin 1)) := fun v => shapeCast_apply _ _ _ _ rfl
  have hfirst : shapeCast S512x1 (multiReduction .minimumf [1] S512 v130 0x7F800000#32 reduces_S512x128_S512 (.inl rfl) rfl) shapeCasts_S512_S512x1 (ix2 r (0 : Fin 1)) = Gate.first f :=
    (col_at _ r).trans ((min_at _ r).trans (congrArg Gate.bot (funext h130)))
  have hrest : ∀ (w : FVec Ideal S512x1 .f32), w (ix2 r (0 : Fin 1)) = Gate.first f → ∀ j, select (cmpf .oeq v92 (broadcastTo S512x128 w broadcasts_S512x1_S512x128))
      (broadcast S512x128 (Scalar.ofBits .f32 0xFF800000#32 : Ideal .f32)) v124 (ix2 r j) = Gate.rest f j := fun w hw j => by
    show Scalar.select (Ideal.cmp .oeq (v92 (ix2 r j)) (broadcastTo S512x128 w broadcasts_S512x1_S512x128 (ix2 r j))) (Scalar.ofBits .f32 0xFF800000#32 : Ideal .f32) (v124 (ix2 r j)) = _
    rw [over_at, hw, h92, h124, neg_inf, pick_eq]
    rfl
  have htop : ∀ (v : FVec Ideal S512x128 .f32), (∀ j, v (ix2 r j) = Gate.rest f j) →
      shapeCast S512x1 (multiReduction .maximumf [1] S512 v 0xFF800000#32 reduces_S512x128_S512 (.inl rfl) rfl) shapeCasts_S512_S512x1 (ix2 r (0 : Fin 1)) = Gate.top (Gate.rest f) := fun v hv =>
    (col_at _ r).trans ((max_at _ r).trans (congrArg Gate.top (funext hv)))
  have hsecond : ∀ (v : FVec Ideal S512x128 .f32) (w : FVec Ideal S512x1 .f32), (∀ j, v (ix2 r j) = Gate.rest f j) → w (ix2 r (0 : Fin 1)) = Gate.top (Gate.rest f) →
      shapeCast S512x1 (multiReduction .minimumf [1] S512 (select (cmpf .oeq v (broadcastTo S512x128 w broadcasts_S512x1_S512x128)) v92
        (broadcast S512x128 (Scalar.ofBits .f32 0x4E6E6B28#32 : Ideal .f32))) 0x7F800000#32 reduces_S512x128_S512 (.inl rfl) rfl) shapeCasts_S512_S512x1 (ix2 r (0 : Fin 1)) = Gate.first (Gate.rest f) := fun v w hv hw => by
    refine (col_at _ r).trans ((min_at _ r).trans (congrArg Gate.bot (funext fun j => ?_)))
    show Scalar.select (Ideal.cmp .oeq (v (ix2 r j)) (broadcastTo S512x128 w broadcasts_S512x1_S512x128 (ix2 r j))) (v92 (ix2 r j)) Gate.far = _
    rw [over_at, hw, hv, h92, pick_eq]
  have hpick : ∀ (w : FVec Ideal S512x1 .f32) (z : EReal) (a c : EReal), w (ix2 r (0 : Fin 1)) = z →
      Scalar.select (Ideal.cmp .oeq (v92 (ix2 r j)) (broadcastTo S512x128 w broadcasts_S512x1_S512x128 (ix2 r j))) a c = if Gate.lane j = z then a else c := fun w z a c hw => by
    rw [over_at, hw, h92, pick_eq]
  have he : ∀ w : FVec Ideal S512x1 .f32, w (ix2 r (0 : Fin 1)) = Gate.top (Gate.rest f) → exp (subf w v126) (ix2 r (0 : Fin 1)) = Ideal.exp (Gate.top (Gate.rest f) - Gate.top f) := fun w hw =>
    congrArg Ideal.exp (congrArg₂ (fun p q : EReal => p - q) hw h126)
  unfold k0_pay22
  refine (shapeCast_apply _ _ _ (ix2 r j) rfl).trans ?_
  refine (hpick _ _ _ _ hfirst).trans ?_
  unfold Gate.laneGate
  refine if_congr Iff.rfl ?_ ?_
  · refine (over_at _ r j).trans ((hcast _).trans ?_)
    exact share _ _ _ _ _ rfl (he _ (htop _ (hrest _ hfirst)))
  · refine (hpick _ _ _ _ (hsecond _ _ (hrest _ hfirst) (htop _ (hrest _ hfirst)))).trans ?_
    refine if_congr Iff.rfl ?_ bits_zero
    refine (over_at _ r j).trans ((hcast _).trans ?_)
    refine share _ _ _ _ _ ?_ (he _ (htop _ (hrest _ hfirst)))
    exact times _ _ _ _ _ rfl (he _ (htop _ (hrest _ hfirst)))

/-- A tile's gates. -/
theorem gates_at (x : Vec Ideal S512x8x128 .f32) (wr : Vec Ideal S1024x128 .f32) (br : Vec Ideal S1x128 .f32) (r : Fin 512) (j : Fin 128) :
    gates x wr br (BitVec.ofNat 32 o) (ix2 r j)
      = Gate.laneGate (prob o fun j => (∑ c : Fin 1024, wide x (ix2 r c) * wr (ix2 c j)) + br (ix2 (0 : Fin 1) j))
          (own o fun j => (∑ c : Fin 1024, wide x (ix2 r c) * wr (ix2 c j)) + br (ix2 (0 : Fin 1) j)) j := by
  have e : (fun j => k0_pay8 (wide x) wr br (ix2 r j)) = fun j => (∑ c : Fin 1024, wide x (ix2 r c) * wr (ix2 c j)) + br (ix2 (0 : Fin 1) j) :=
    funext fun j => pay8_at _ _ _ r j
  unfold gates
  rw [pay7_eq]
  refine (pay22_at _ _ _ _ _ r (own o fun j => k0_pay8 (wide x) wr br (ix2 r j)) (fun j => pay9_at r j) (fun j => pay11_at _ _ _ o ho r j) (pay12_at _ _ _ o ho r)
    (fun j => pay13_at _ _ _ o ho r j) j).trans ?_
  rw [pay10_at _ _ _ o ho, e]

end Cert.GroupedIdeal.Grouped

end
-- ==== Proof.GroupedShare.lean ====
/- One expert's share of a tile, and the layouts a tile passes through, index by index, on exact values. -/
module

public import proofs.«01_k».proof.Proof.GroupedTile

@[expose] public section

noncomputable section

namespace Cert.GroupedIdeal.Grouped

open Cert.GroupedIdeal Cert.GroupedIdeal.Gen
open Idealize.ShloMosaic TcCoe
open Idealize.ShloMosaic.ValueIdx Idealize.ShloMosaic.WordCmp

/-! ## The layouts -/

/-- The slab of a column of a row of 1024, and its lane. -/
abbrev slabOf (c : Fin 1024) : Fin 8 := ⟨c.val / 128, by have := c.isLt; omega⟩
abbrev laneOf (c : Fin 1024) : Fin 128 := ⟨c.val % 128, by omega⟩
abbrev colOf (s : Fin 8) (l : Fin 128) : Fin 1024 := ⟨128 * s.val + l.val, by have := s.isLt; have := l.isLt; omega⟩

theorem slab_at (x : Vec Ideal S512x8x128 .f32) (s : Fin 8) (inb : ∀ a, ![0, s.val, 0] a + S512x1x128.size a ≤ S512x8x128.size a) (r : Fin 512) (l : Fin 128) :
    shapeCast S512x128 (View.ld x (Rect.unit (s := S512x8x128) ![0, s.val, 0] S512x1x128.size inb)) shapeCasts_S512x1x128_S512x128 (ix2 r l) = x (ix3 r s l) := by
  refine (shapeCast_apply _ _ _ (ix3 r (0 : Fin 1) l) ?_).trans ?_
  · rw [Shape.rowMajor_val_three, Shape.rowMajor_val_two]
    show (r.val * 1 + 0) * 128 + l.val = r.val * 128 + l.val
    omega
  · refine congrArg x (funext fun a => Fin.ext ?_)
    match a with
    | ⟨0, _⟩ => show 0 + 1 * r.val = r.val; omega
    | ⟨1, _⟩ => show s.val + 1 * 0 = s.val; omega
    | ⟨2, _⟩ => show 0 + 1 * l.val = l.val; omega

theorem wide_piece (x : Vec Ideal S512x8x128 .f32) (s : Fin 8) (r : Fin 512) (l : Fin 128) : wide x (ix2 r (colOf s l)) = x (ix3 r s l) := by
  have hi : ∀ b : Fin 2, b ≠ 1 → ((ix2 r l : S512x128.Idx) b).val = ((ix2 r (colOf s l) : S512x1024.Idx) b).val := fun b hb => by
    match b with
    | ⟨0, _⟩ => rfl
    | ⟨1, _⟩ => exact absurd rfl hb
  unfold wide k0_pay5
  match s with
  | ⟨0, _⟩ => exact Eq.trans (concatenate_apply_piece (t := S512x1024) 1 _ _ (ix2 r _) 0 (by show 0 < 8; decide) S512x128 _ rfl rfl 0 rfl (ix2 r l) hi rfl) (slab_at x 0 inb_S512x8x128_S512x1x128_0_0_0 r l)
  | ⟨1, _⟩ => exact Eq.trans (concatenate_apply_piece (t := S512x1024) 1 _ _ (ix2 r _) 1 (by show 1 < 8; decide) S512x128 _ rfl rfl 128 rfl (ix2 r l) hi rfl) (slab_at x 1 inb_S512x8x128_S512x1x128_0_1_0 r l)
  | ⟨2, _⟩ => exact Eq.trans (concatenate_apply_piece (t := S512x1024) 1 _ _ (ix2 r _) 2 (by show 2 < 8; decide) S512x128 _ rfl rfl 256 rfl (ix2 r l) hi rfl) (slab_at x 2 inb_S512x8x128_S512x1x128_0_2_0 r l)
  | ⟨3, _⟩ => exact Eq.trans (concatenate_apply_piece (t := S512x1024) 1 _ _ (ix2 r _) 3 (by show 3 < 8; decide) S512x128 _ rfl rfl 384 rfl (ix2 r l) hi rfl) (slab_at x 3 inb_S512x8x128_S512x1x128_0_3_0 r l)
  | ⟨4, _⟩ => exact Eq.trans (concatenate_apply_piece (t := S512x1024) 1 _ _ (ix2 r _) 4 (by show 4 < 8; decide) S512x128 _ rfl rfl 512 rfl (ix2 r l) hi rfl) (slab_at x 4 inb_S512x8x128_S512x1x128_0_4_0 r l)
  | ⟨5, _⟩ => exact Eq.trans (concatenate_apply_piece (t := S512x1024) 1 _ _ (ix2 r _) 5 (by show 5 < 8; decide) S512x128 _ rfl rfl 640 rfl (ix2 r l) hi rfl) (slab_at x 5 inb_S512x8x128_S512x1x128_0_5_0 r l)
  | ⟨6, _⟩ => exact Eq.trans (concatenate_apply_piece (t := S512x1024) 1 _ _ (ix2 r _) 6 (by show 6 < 8; decide) S512x128 _ rfl rfl 768 rfl (ix2 r l) hi rfl) (slab_at x 6 inb_S512x8x128_S512x1x128_0_6_0 r l)
  | ⟨7, _⟩ => exact Eq.trans (concatenate_apply_piece (t := S512x1024) 1 _ _ (ix2 r _) 7 (by show 7 < 8; decide) S512x128 _ rfl rfl 896 rfl (ix2 r l) hi rfl) (slab_at x 7 inb_S512x8x128_S512x1x128_0_7_0 r l)

/-- A tile's rows, one row of 1024 a token. -/
theorem wide_at (x : Vec Ideal S512x8x128 .f32) (r : Fin 512) (c : Fin 1024) : wide x (ix2 r c) = x (ix3 r (slabOf c) (laneOf c)) := by
  have e : c = colOf (slabOf c) (laneOf c) := Fin.ext (by show c.val = 128 * (c.val / 128) + c.val % 128; omega)
  exact (congrArg (fun c => wide x (ix2 r c)) e).trans (wide_piece x _ r _)

theorem rows_at (x : Vec Ideal S512x8x128 .f32) (r : Fin 512) (c : Fin 1024) : rows x (ix2 r c) = x (ix3 r (slabOf c) (laneOf c)) := by
  unfold rows k0_pay6
  exact (shapeCast_apply _ _ _ (ix2 r c) rfl).trans (wide_at x r c)

theorem piece_at (A : Vec Ideal S512x1024 .f32) (s : Fin 8) (h : S512x1024.Slices ![0, 128 * s.val] S512x128) (inb : ∀ a, ![0, s.val, 0] a + S512x1x128.size a ≤ S512x8x128.size a) (y : S512x1x128.Idx) :
    shapeCast S512x1x128 (extractStridedSlice S512x128 ![0, 128 * s.val] A h) shapeCasts_S512x128_S512x1x128 y
      = (fun z : S512x8x128.Idx => A (ix2 (z 0) (colOf (z 1) (z 2)))) ((Rect.unit (s := S512x8x128) ![0, s.val, 0] S512x1x128.size inb).emb y) := by
  obtain ⟨r, q, l, rfl⟩ : ∃ (r : Fin 512) (q : Fin 1) (l : Fin 128), y = ix3 r q l := ⟨y 0, y 1, y 2, funext fun a => by match a with | ⟨0, _⟩ => rfl | ⟨1, _⟩ => rfl | ⟨2, _⟩ => rfl⟩
  have hq := q.isLt
  refine (shapeCast_apply _ _ _ (ix2 r l) ?_).trans ?_
  · rw [Shape.rowMajor_val_three, Shape.rowMajor_val_two]
    show r.val * 128 + l.val = (r.val * 1 + q.val) * 128 + l.val
    omega
  · refine congrArg A (funext fun a => Fin.ext ?_)
    match a with
    | ⟨0, _⟩ => show 0 + r.val = 0 + 1 * r.val; omega
    | ⟨1, _⟩ => show 128 * s.val + l.val = 128 * (s.val + 1 * q.val) + (0 + 1 * l.val); omega

/-- The output block of an accumulator. -/
theorem block_at (A : Vec Ideal S512x1024 .f32) (r : Fin 512) (s : Fin 8) (l : Fin 128) : block A (ix3 r s l) = A (ix2 r (colOf s l)) := by
  unfold block
  refine View.canon_apply_of_pieces (Val := Elt Ideal) (fun z : S512x8x128.Idx => A (ix2 (z 0) (colOf (z 1) (z 2)))) _ ?_ (ix3 r s l) (block_cover _ _ _ _ _ _ _ _ _)
  intro p hp
  rcases List.mem_cons.mp hp with rfl | hp
  · exact piece_at A 7 slices_S512x1024_o0_896_S512x128 inb_S512x8x128_S512x1x128_0_7_0
  rcases List.mem_cons.mp hp with rfl | hp
  · exact piece_at A 6 slices_S512x1024_o0_768_S512x128 inb_S512x8x128_S512x1x128_0_6_0
  rcases List.mem_cons.mp hp with rfl | hp
  · exact piece_at A 5 slices_S512x1024_o0_640_S512x128 inb_S512x8x128_S512x1x128_0_5_0
  rcases List.mem_cons.mp hp with rfl | hp
  · exact piece_at A 4 slices_S512x1024_o0_512_S512x128 inb_S512x8x128_S512x1x128_0_4_0
  rcases List.mem_cons.mp hp with rfl | hp
  · exact piece_at A 3 slices_S512x1024_o0_384_S512x128 inb_S512x8x128_S512x1x128_0_3_0
  rcases List.mem_cons.mp hp with rfl | hp
  · exact piece_at A 2 slices_S512x1024_o0_256_S512x128 inb_S512x8x128_S512x1x128_0_2_0
  rcases List.mem_cons.mp hp with rfl | hp
  · exact piece_at A 1 slices_S512x1024_o0_128_S512x128 inb_S512x8x128_S512x1x128_0_1_0
  rcases List.mem_cons.mp hp with rfl | hp
  · exact piece_at A 0 slices_S512x1024_o0_0_S512x128 inb_S512x8x128_S512x1x128_0_0_0
  · exact absurd hp (List.not_mem_nil)

theorem zeros_at (i : S512x8x128.Idx) : k0_pay3 (F := Ideal) i = 0 := bits_zero

theorem start_at (r : Fin 512) (d : Fin 1024) : k0_pay4 (F := Ideal) (ix2 r d) = 0 := by
  unfold k0_pay4
  exact (shapeCast_apply _ _ _ (ix2 r d) rfl).trans bits_zero

/-! ## An expert's share -/

/-- `z · σ(z)`. -/
def silu (z : EReal) : EReal := z * Ideal.div 1 (1 + Ideal.exp (-z))

theorem flat3_at {α : Type} {m n : ℕ} (v : (Shape.mk 3 ![1, m, n]).Idx → α) (h : (Shape.mk 3 ![1, m, n]).ShapeCasts (Shape.mk 2 ![m, n])) (p : Fin m) (q : Fin n) :
    shapeCast (Shape.mk 2 ![m, n]) v h (ix2 p q) = v (ix3 (0 : Fin 1) p q) :=
  shapeCast_apply _ _ _ _ (by
    rw [Shape.rowMajor_val_three, Shape.rowMajor_val_two]
    show ((0 : ℕ) * m + p.val) * n + q.val = p.val * n + q.val
    rw [zero_mul, zero_add])

/-- The gate of expert `e` of group `o`. -/
abbrev gateLane (o e : ℕ) (ho : o ≤ 3) (he : e ≤ 3) : Fin 128 := ⟨4 + 4 * o + e, by omega⟩

theorem gcol_at (G : Vec Ideal S512x128 .f32) (o e : ℕ) (ho : o ≤ 3) (he : e ≤ 3) (r : Fin 512) :
    shapeCast S512x1 (multiReduction .add [1] S512 (select (cmpi .eq (iota .tc S512x128 32 [1] iota_S512x128_d1_w32)
      (broadcast S512x128 (Scalar.addi (Scalar.addi 4#32 (Scalar.muli (BitVec.ofNat 32 o) 4#32)) (BitVec.ofNat 32 e)))) G
      (broadcast S512x128 (Scalar.ofBits .f32 0x00000000#32 : Ideal .f32))) 0x00000000#32 reduces_S512x128_S512 (.inl rfl) rfl) shapeCasts_S512_S512x1 (ix2 r (0 : Fin 1))
      = G (ix2 r (gateLane o e ho he)) := by
  refine (col_at _ r).trans ((sum_at _ r).trans ?_)
  have hsel : ∀ j : Fin 128, select (cmpi .eq (iota .tc S512x128 32 [1] iota_S512x128_d1_w32)
      (broadcast S512x128 (Scalar.addi (Scalar.addi 4#32 (Scalar.muli (BitVec.ofNat 32 o) 4#32)) (BitVec.ofNat 32 e)))) G
      (broadcast S512x128 (Scalar.ofBits .f32 0x00000000#32 : Ideal .f32)) (ix2 r j) = if j = gateLane o e ho he then G (ix2 r j) else 0 := fun j => by
    have hj := j.isLt
    show Scalar.select (IntOp.cmpi .eq (iota .tc S512x128 32 [1] iota_S512x128_d1_w32 (ix2 r j)) (BitVec.ofNat 32 4 + BitVec.ofNat 32 o * BitVec.ofNat 32 4 + BitVec.ofNat 32 e)) (G (ix2 r j)) (Scalar.ofBits .f32 0x00000000#32 : Ideal .f32) = _
    rw [lanes_at, BitVec.ofNat_mul_ofNat, BitVec.ofNat_add_ofNat, BitVec.ofNat_add_ofNat, cmpi_eq_ofNat (w := 32) (by omega) (by omega), bits_zero]
    refine pick _ (j = gateLane o e ho he) (decide_eq_decide.mpr ⟨fun h => Fin.ext (by show j.val = 4 + 4 * o + e; omega), fun h => ?_⟩) _ _
    have : j.val = 4 + 4 * o + e := congrArg Fin.val h
    omega
  refine (Finset.sum_congr rfl fun j _ => hsel j).trans ?_
  rw [Finset.sum_ite_eq' Finset.univ (gateLane o e ho he) fun j => G (ix2 r j), if_pos (Finset.mem_univ _)]

/-- The hidden value `f` of a row. -/
def hidden (X : Fin 1024 → EReal) (wg wu : Fin 1024 → Fin 512 → EReal) (f : Fin 512) : EReal :=
  silu (∑ c, X c * wg c f) * ∑ c, X c * wu c f

theorem pay23_at (o e : ℕ) (ho : o ≤ 3) (he : e ≤ 3) (X : Vec Ideal S512x1024 .bf16) (G : Vec Ideal S512x128 .f32) (wg wu : Vec Ideal S1x1024x512 .f32) (r f : Fin 512) :
    k0_pay23 (BitVec.ofNat 32 e) X G (BitVec.ofNat 32 o) wg wu (ix2 r f)
      = hidden (fun c => X (ix2 r c)) (fun c f => wg (ix3 (0 : Fin 1) c f)) (fun c f => wu (ix3 (0 : Fin 1) c f)) f * G (ix2 r (gateLane o e ho he)) := by
  have hmat : ∀ w : Vec Ideal S1x1024x512 .f32, matmul dot_S512x1024_S1024x512_S512x512_1_0_0_1_n_n none X (truncf .bf16 (shapeCast S1024x512 w shapeCasts_S1x1024x512_S1024x512) bitsLt_bf16_f32)
      (constant (F := Ideal) S512x512 .f32 0x00000000#32) (ix2 r f) = ∑ c : Fin 1024, X (ix2 r c) * w (ix3 (0 : Fin 1) c f) := fun w => by
    refine (Ideal.matmul_plain_apply (φ₁ := .bf16) (φ₂ := .bf16) (M := 512) (K := 1024) (N := 512) _ X _ _ r f).trans ?_
    refine (congrArg (fun z : EReal => z + _) Ideal.ofBits_zero_f32).trans ((zero_add _).trans (Finset.sum_congr rfl fun c _ => ?_))
    exact congrArg (fun z : EReal => X (ix2 r c) * z) (flat3_at w _ c f)
  have hover : ∀ v : FVec Ideal S512x1 .f32, broadcastTo S512x512 v broadcasts_S512x1_S512x512 (ix2 r f) = v (ix2 r (0 : Fin 1)) := fun v =>
    broadcastTo_apply _ _ _ _ fun a => by match a with | ⟨0, _⟩ => rfl | ⟨1, _⟩ => rfl
  have hsilu : ∀ v : FVec Ideal S512x512 .f32, ∀ z : EReal, v (ix2 r f) = z → mulf v (divf (broadcast S512x512 (Scalar.ofBits .f32 0x3F800000#32 : Ideal .f32))
      (addf (broadcast S512x512 (Scalar.ofBits .f32 0x3F800000#32 : Ideal .f32)) (exp (subf (broadcast S512x512 (Scalar.ofBits .f32 0x00000000#32 : Ideal .f32)) v)))) (ix2 r f) = silu z := fun v z hv => by
    show v (ix2 r f) * Ideal.div (Scalar.ofBits .f32 0x3F800000#32 : Ideal .f32) ((Scalar.ofBits .f32 0x3F800000#32 : Ideal .f32) + Ideal.exp ((Scalar.ofBits .f32 0x00000000#32 : Ideal .f32) - v (ix2 r f))) = _
    rw [hv, bits_one, bits_zero, zero_sub]
    rfl
  have hmul : ∀ (v w : FVec Ideal S512x512 .f32) (p q : EReal), v (ix2 r f) = p → w (ix2 r f) = q → mulf v w (ix2 r f) = p * q := fun v w p q hv hw => by
    show v (ix2 r f) * w (ix2 r f) = _
    rw [hv, hw]
  unfold k0_pay23 hidden
  refine hmul _ _ _ _ (hmul _ _ _ _ (hsilu _ _ (hmat wg)) (hmat wu)) ?_
  exact (hover _).trans (gcol_at G o e ho he r)

/-- An accumulator with one expert's share. -/
theorem plus_at (i : grid0.Coords) (o e : ℕ) (ho : o ≤ 3) (he : e ≤ 3) (hi : (i 1).val = e) (wg wu : Vec Ideal S1x1024x512 .f32) (wd : Vec Ideal S1x512x1024 .f32)
    (A : Vec Ideal S512x1024 .f32) (G : Vec Ideal S512x128 .f32) (X : Vec Ideal S512x1024 .bf16) (r : Fin 512) (d : Fin 1024) :
    plus i (BitVec.ofNat 32 o) wg wu wd A G X (ix2 r d)
      = A (ix2 r d) + ∑ f : Fin 512, hidden (fun c => X (ix2 r c)) (fun c f => wg (ix3 (0 : Fin 1) c f)) (fun c f => wu (ix3 (0 : Fin 1) c f)) f * G (ix2 r (gateLane o e ho he)) * wd (ix3 (0 : Fin 1) f d) := by
  unfold plus k0_pay1
  rw [hi]
  refine (shapeCast_apply _ _ _ (ix2 r d) rfl).trans ?_
  refine congrArg (fun z : EReal => A (ix2 r d) + z) ?_
  refine (Ideal.matmul_plain_apply (φ₁ := .bf16) (φ₂ := .bf16) (M := 512) (K := 512) (N := 1024) _ _ _ _ r d).trans ?_
  refine (congrArg (fun z : EReal => z + _) Ideal.ofBits_zero_f32).trans ((zero_add _).trans (Finset.sum_congr rfl fun f _ => ?_))
  exact congrArg₂ (fun y z : EReal => y * z) (pay23_at o e ho he X G wg wu r f) (flat3_at wd _ f d)

end Cert.GroupedIdeal.Grouped

end
-- ==== Proof.GroupedLaunch.lean ====
/- The expert call's launch: the host operations before it, then its 80 grid points, from any memory whose tables keep every block inside
   its array. -/
module

public import proofs.«01_k».proof.Proof.GroupedBody
public import Idealize.ShloMosaic.Lib.Pipeline.TalkSched

@[expose] public section

set_option maxRecDepth 16384

noncomputable section

namespace Cert.GroupedIdeal.Grouped

open Cert.GroupedIdeal Cert.GroupedIdeal.Gen
open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)
open Idealize.ShloMosaic.TalkSites (owesAt_intro owesAt_elim)
open Idealize.ShloMosaic.ValueIdx (ix1)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stretches of host operations before the call. -/
abbrev opss : List (List (HloOp τ sig (Elt F))) := [hostOps0, hostOps0_1, hostOps0_2, hostOps0_3, hostOps0_4, hostOps0_5]

/-- The buffers' contents when the call starts. -/
@[irreducible] def V (c : Dev nD) (b : Ref sig .tc) : Buf (Elt F) ((c.tc : Thread nD τ).loc b) :=
  StableHlo.after (opss (F := F)).flatten (fun b => m (c, b)) b

theorem V_eq : V m = fun (c : Dev nD) (b : Ref sig .tc) => StableHlo.after (opss (F := F)).flatten (fun b => m (c, b)) (Proc.devRef .tc b) := by
  funext c b; unfold V; rfl

theorem opss_fresh : (opss (F := F)).Forall fun ops => ops.Forall fun op => op.fresh = ∅ := by
  simp only [opss, List.Forall]
  refine ⟨?_, ?_, ?_, ?_, ?_, ?_⟩ <;> (repeat' apply And.intro) <;> rfl

/-- Host operations leave the arguments as they were. -/
theorem V_arg (c : Dev nD) (b : Ref sig .tc) (hb : b ∈ ([main_arg0, main_arg1, main_arg2, main_arg3, main_arg4, main_arg5, main_arg6, main_arg7, main_arg8] : List (Ref sig .tc))) :
    V m c b = m (c, Proc.devRef .tc b) := by
  rw [V_eq]
  exact StableHlo.after_of_forall_not_mem (b := Proc.devRef .tc b) _ _ (List.forall_iff_forall_mem.mp (by
    simp only [opss, hostOps0, hostOps0_1, hostOps0_2, hostOps0_3, hostOps0_4, hostOps0_5, List.flatten_cons, List.flatten_nil, List.cons_append, List.nil_append, List.append_nil, List.Forall,
      StableHlo.TRef.nullary, StableHlo.TRef.unary, StableHlo.TRef.binary, StableHlo.TRef.ternary,
      StableHlo.nullary_writes, StableHlo.unary_writes, StableHlo.binary_writes, StableHlo.ternary_writes, StableHlo.reshape_writes, Finset.mem_singleton]
    repeat' apply And.intro
    all_goals (refine StableHlo.devRef_ne_of_ne ?_; revert b; decide)))

/-- The tables: each tile's group, and the number of tiles that hold rows. -/
abbrev tg (c : Dev nD) : IVec S20 32 := V m c main_v71
abbrev nt (c : Dev nD) : IVec S1 32 := V m c main_v40

/-- That the tables keep every block inside its array. -/
abbrev Ok : Prop := ok0 (F := F) (fun k => V m 0 (pre0.ref k))

variable (hok : Ok m)

abbrev adm : (p : Fin 1) → (pcfgs (F := F) p).Adm := fun _ => ⟨fun k => V m 0 (pre0.ref k), hok⟩

abbrev cfgA : Pipeline.Cfg sig Λ₀ := Pipeline.pin (pcfgs (F := F)) (adm m hok) 0

/-- Window `w`'s block at a point. -/
def iblk (c : Dev nD) (w : Fin (cfgA m hok).W) (t : Fin (cfgA m hok).N) :
    (((cfgA m hok).win w).xblock ((cfgA m hok).grid.coords t)).Idx → Elt F ((cfgA m hok).win w).elt :=
  (((cfgA m hok).win w).blk t).view.read (Elt F) (V m c (Pipeline.arrRef spec0 w))

abbrev bx (c : Dev nD) (t : Fin grid0.N) : Vec F S512x8x128 .f32 := iblk m hok c 0 t
abbrev bwr (c : Dev nD) (t : Fin grid0.N) : Vec F S1024x128 .f32 := iblk m hok c 1 t
abbrev bbr (c : Dev nD) (t : Fin grid0.N) : Vec F S1x128 .f32 := iblk m hok c 2 t
abbrev bwg (c : Dev nD) (t : Fin grid0.N) : Vec F S1x1024x512 .f32 := iblk m hok c 3 t
abbrev bwu (c : Dev nD) (t : Fin grid0.N) : Vec F S1x1024x512 .f32 := iblk m hok c 4 t
abbrev bwd (c : Dev nD) (t : Fin grid0.N) : Vec F S1x512x1024 .f32 := iblk m hok c 5 t

theorem coords_0 (t : Fin grid0.N) : (grid0.coords t 0).val = t.val / 4 := by
  have h := Pipeline.Grid.coords_val (G := grid0) t 0 (S := 4) (B := 20) (by decide) (by decide)
  have ht : t.val < 80 := N_0 ▸ t.isLt
  rw [h, Nat.mod_eq_of_lt (by omega)]

theorem coords_1 (t : Fin grid0.N) : (grid0.coords t 1).val = t.val % 4 := by
  have h := Pipeline.Grid.coords_val (G := grid0) t 1 (S := 1) (B := 4) (by decide) (by decide)
  rw [h, Nat.div_one]

/-- The first point of a point's tile. -/
def base (t : Fin grid0.N) : Fin grid0.N := ⟨4 * (t.val / 4), lt_of_le_of_lt (by omega) t.isLt⟩

/-- A point's gates and rounded rows: its tile's. -/
def gat (c : Dev nD) (t : Fin grid0.N) : Vec F S512x128 .f32 :=
  gates (bx m hok c (base t)) (bwr m hok c (base t)) (bbr m hok c (base t)) (group (tg m c) (grid0.coords (base t)))
def row (c : Dev nD) (t : Fin grid0.N) : Vec F S512x1024 .bf16 := rows (bx m hok c (base t))

/-- The accumulator after point `n` of a tile that holds rows. -/
def acc (c : Dev nD) : (n : ℕ) → n < grid0.N → Vec F S512x1024 .f32
  | 0, h => plus (grid0.coords ⟨0, h⟩) (group (tg m c) (grid0.coords ⟨0, h⟩)) (bwg m hok c ⟨0, h⟩) (bwu m hok c ⟨0, h⟩) (bwd m hok c ⟨0, h⟩)
      k0_pay4 (gat m hok c ⟨0, h⟩) (row m hok c ⟨0, h⟩)
  | n + 1, h => plus (grid0.coords ⟨n + 1, h⟩) (group (tg m c) (grid0.coords ⟨n + 1, h⟩)) (bwg m hok c ⟨n + 1, h⟩) (bwu m hok c ⟨n + 1, h⟩) (bwd m hok c ⟨n + 1, h⟩)
      (if (n + 1) % 4 = 0 then k0_pay4 else acc c n (Nat.lt_of_succ_lt h)) (gat m hok c ⟨n + 1, h⟩) (row m hok c ⟨n + 1, h⟩)

/-- That a point's tile holds rows. -/
abbrev Live (c : Dev nD) (t : Fin grid0.N) : Prop := k0_cond1 (grid0.coords t) (tiles (nt m c)) = 1#1

/-- The output block a point leaves: its tile's sum, or zeros. -/
def oblk (c : Dev nD) (t : Fin grid0.N) : Vec F S512x8x128 .f32 :=
  if Live m c t then block (acc m hok c t.val t.isLt) else k0_pay3

/-- What the scratch buffers hold before point `n`. -/
def Carried (c : Dev nD) (n : ℕ) (A : Vec F S512x1024 .f32) (G : Vec F S512x128 .f32) (X : Vec F S512x1024 .bf16) : Prop :=
  ∀ h : n < grid0.N, n % 4 ≠ 0 → Live m c ⟨n, h⟩ →
    A = acc m hok c (n - 1) (by omega) ∧ G = gat m hok c ⟨n, h⟩ ∧ X = row m hok c ⟨n, h⟩

def inv (c : Dev nD) (n : ℕ) : sProp 𝕄 :=
  iprop(owns (c : Thread nD τ) (Memref.whole main_v71) fullShare.right (tg m c) ∗ owns (c : Thread nD τ) (Memref.whole main_v40) fullShare.right (nt m c)
    ∗ (∃ r, prngReg c r)
    ∗ ∃ A G X, ⌜Carried m hok c n A G X⌝ ∗ owns (c : Thread nD τ) (Memref.whole cc0_scratch0) fullShare A
        ∗ owns (c : Thread nD τ) (Memref.whole cc0_scratch1) fullShare G ∗ owns (c : Thread nD τ) (Memref.whole cc0_scratch2) fullShare X)

/-- The proof's data. -/
def dats (p : Fin 1) (c : Dev nD) : Dat τ (Elt F) Unit ℕ (UR sig nD τ) ℕ (Pipeline.pin (pcfgs (F := F)) (adm m hok) p) c where
  A w := V m c (Pipeline.arrRef spec0 w)
  after w t := match w with
    | ⟨0, _⟩ => iblk m hok c 0 t
    | ⟨1, _⟩ => iblk m hok c 1 t
    | ⟨2, _⟩ => iblk m hok c 2 t
    | ⟨3, _⟩ => iblk m hok c 3 t
    | ⟨4, _⟩ => iblk m hok c 4 t
    | ⟨5, _⟩ => iblk m hok c 5 t
    | ⟨6, _⟩ => oblk m hok c t
  Φ t := inv m hok c t.val
  q _ := fullShare
  owed _ := 0

theorem A_eq (c : Dev nD) (w : Fin (cfgA m hok).W) : (dats m hok 0 c).A w = V m c (Pipeline.arrRef spec0 w) := by dsimp only [dats]

theorem after_0 (c : Dev nD) (t : Fin (cfgA m hok).N) : (dats m hok 0 c).after 0 t = iblk m hok c 0 t := by dsimp only [dats]; rfl
theorem after_1 (c : Dev nD) (t : Fin (cfgA m hok).N) : (dats m hok 0 c).after 1 t = iblk m hok c 1 t := by dsimp only [dats]; rfl
theorem after_2 (c : Dev nD) (t : Fin (cfgA m hok).N) : (dats m hok 0 c).after 2 t = iblk m hok c 2 t := by dsimp only [dats]; rfl
theorem after_3 (c : Dev nD) (t : Fin (cfgA m hok).N) : (dats m hok 0 c).after 3 t = iblk m hok c 3 t := by dsimp only [dats]; rfl
theorem after_4 (c : Dev nD) (t : Fin (cfgA m hok).N) : (dats m hok 0 c).after 4 t = iblk m hok c 4 t := by dsimp only [dats]; rfl
theorem after_5 (c : Dev nD) (t : Fin (cfgA m hok).N) : (dats m hok 0 c).after 5 t = iblk m hok c 5 t := by dsimp only [dats]; rfl
theorem after_6 (c : Dev nD) (t : Fin (cfgA m hok).N) : (dats m hok 0 c).after 6 t = oblk m hok c t := by dsimp only [dats]; rfl

theorem before_0 (c : Dev nD) (t : Fin (cfgA m hok).N) (d) : (dats m hok 0 c).before 0 t d = iblk m hok c 0 t :=
  ((dats m hok 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgA m hok).N) (d) : (dats m hok 0 c).before 1 t d = iblk m hok c 1 t :=
  ((dats m hok 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgA m hok).N) (d) : (dats m hok 0 c).before 2 t d = iblk m hok c 2 t :=
  ((dats m hok 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgA m hok).N) (d) : (dats m hok 0 c).before 3 t d = iblk m hok c 3 t :=
  ((dats m hok 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgA m hok).N) (d) : (dats m hok 0 c).before 4 t d = iblk m hok c 4 t :=
  ((dats m hok 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfgA m hok).N) (d) : (dats m hok 0 c).before 5 t d = iblk m hok c 5 t :=
  ((dats m hok 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## What a point carries to the next -/

theorem live_congr (c : Dev nD) (t u : Fin grid0.N) (h : t.val / 4 = u.val / 4) : Live m c t ↔ Live m c u := by
  rw [Live, Live, cond1_iff, cond1_iff, coords_0, coords_0, h]

theorem base_congr (t u : Fin grid0.N) (h : t.val / 4 = u.val / 4) : base t = base u := Fin.ext (by show 4 * _ = 4 * _; rw [h])

theorem base_self (t : Fin grid0.N) (h : t.val % 4 = 0) : base t = t := Fin.ext (by show 4 * (t.val / 4) = t.val; omega)

theorem acc_eq (c : Dev nD) (t : Fin grid0.N) : acc m hok c t.val t.isLt
    = plus (grid0.coords t) (group (tg m c) (grid0.coords t)) (bwg m hok c t) (bwu m hok c t) (bwd m hok c t)
      (if h : t.val % 4 = 0 then k0_pay4 else acc m hok c (t.val - 1) (by have := t.isLt; omega)) (gat m hok c t) (row m hok c t) := by
  obtain ⟨n, hn⟩ := t
  cases n with
  | zero => rw [acc, dif_pos (by rfl)]
  | succ n =>
    rw [acc]
    by_cases h : (n + 1) % 4 = 0
    · rw [if_pos h, dif_pos h]
    · rw [if_neg h, dif_neg h]; rfl

/-- A point of a tile that holds rows leaves the tile's state. -/
theorem step (c : Dev nD) (t : Fin grid0.N) {A : Vec F S512x1024 .f32} {G : Vec F S512x128 .f32} {X : Vec F S512x1024 .bf16}
    (hC : Carried m hok c t.val A G X) (hl : Live m c t) :
    nextA (grid0.coords t) (tg m c) (nt m c) (bx m hok c t) (bwr m hok c t) (bbr m hok c t) (bwg m hok c t) (bwu m hok c t) (bwd m hok c t) A G X
      = acc m hok c t.val t.isLt
    ∧ nextG (grid0.coords t) (tg m c) (nt m c) (bx m hok c t) (bwr m hok c t) (bbr m hok c t) G = gat m hok c t
    ∧ nextX (grid0.coords t) (nt m c) (bx m hok c t) X = row m hok c t := by
  rw [acc_eq, nextA, nextG, nextX, coords_1]
  by_cases h0 : t.val % 4 = 0
  · simp only [if_pos h0, dif_pos h0, if_pos hl]
    have e : gates (bx m hok c t) (bwr m hok c t) (bbr m hok c t) (group (tg m c) (grid0.coords t)) = gat m hok c t := by
      unfold gat; rw [base_self t h0]
    have e' : rows (bx m hok c t) = row m hok c t := by unfold row; rw [base_self t h0]
    rw [e, e']
    exact ⟨rfl, rfl, rfl⟩
  · obtain ⟨eA, eG, eX⟩ := hC t.isLt h0 hl
    simp only [if_neg h0, dif_neg h0, if_pos hl]
    rw [eA, eG, eX]
    exact ⟨rfl, rfl, rfl⟩

theorem carried_next (c : Dev nD) (t : Fin grid0.N) {A : Vec F S512x1024 .f32} {G : Vec F S512x128 .f32} {X : Vec F S512x1024 .bf16}
    (hC : Carried m hok c t.val A G X) :
    Carried m hok c (t.val + 1)
      (nextA (grid0.coords t) (tg m c) (nt m c) (bx m hok c t) (bwr m hok c t) (bbr m hok c t) (bwg m hok c t) (bwu m hok c t) (bwd m hok c t) A G X)
      (nextG (grid0.coords t) (tg m c) (nt m c) (bx m hok c t) (bwr m hok c t) (bbr m hok c t) G)
      (nextX (grid0.coords t) (nt m c) (bx m hok c t) X) := fun h h4 hl => by
  have hd : (t.val + 1) / 4 = t.val / 4 := by omega
  obtain ⟨eA, eG, eX⟩ := step m hok c t hC ((live_congr m c ⟨t.val + 1, h⟩ t hd).1 hl)
  refine ⟨eA, eG.trans ?_, eX.trans ?_⟩
  · unfold gat; rw [base_congr ⟨t.val + 1, h⟩ t hd]
  · unfold row; rw [base_congr ⟨t.val + 1, h⟩ t hd]

theorem last_out (c : Dev nD) (t : Fin grid0.N) (h3 : t.val % 4 = 3) {o : Vec F S512x8x128 .f32} {A : Vec F S512x1024 .f32} {G : Vec F S512x128 .f32} {X : Vec F S512x1024 .bf16}
    (hC : Carried m hok c t.val A G X) :
    nextO (grid0.coords t) (tg m c) (nt m c) (bwg m hok c t) (bwu m hok c t) (bwd m hok c t) o A G X = oblk m hok c t := by
  rw [nextO, oblk, coords_1, if_pos h3]
  by_cases hl : Live m c t
  · rw [if_pos hl, if_pos hl, acc_eq, dif_neg (by omega)]
    obtain ⟨eA, eG, eX⟩ := hC t.isLt (by omega) hl
    rw [eA, eG, eX]
  · rw [if_neg hl, if_neg hl]

/-! ## The body obligation -/

theorem idle_last (t : Fin grid0.N) (h3 : t.val % 4 = 3) : idle0 (F := F) (adm m hok 0).1 6 (grid0.coords t) = false := by
  have e3 : k0_cond3 (grid0.coords t) = 1#1 := (cond3_iff _).2 ((coords_1 t).trans h3)
  unfold idle0
  dsimp only
  generalize (adm m hok 0).1.atD 1 ![0] = w
  by_cases h1 : k0_cond1 (grid0.coords t) w = 1#1
  · rw [h1, e3]; rfl
  · rw [(cond4_iff _ _).2 ⟨e3, h1⟩]; simp

theorem idle_other (t : Fin grid0.N) (h3 : t.val % 4 ≠ 3) : idle0 (F := F) (adm m hok 0).1 6 (grid0.coords t) = true := by
  have e3 : ¬ k0_cond3 (grid0.coords t) = 1#1 := fun h => h3 ((coords_1 t).symm.trans ((cond3_iff _).1 h))
  unfold idle0
  dsimp only
  generalize (adm m hok 0).1.atD 1 ![0] = w
  have e4 : ¬ k0_cond4 (grid0.coords t) w = 1#1 := fun h => e3 ((cond4_iff _ _).1 h).1
  rw [beq_eq_false_iff_ne.2 e3, beq_eq_false_iff_ne.2 e4]; simp

theorem index_6 (t : Fin grid0.N) : ((cfgA m hok).win 6).index t = ![t.val / 4, 0, 0] := by
  show ![(BitVec.ofNat 32 (grid0.coords t 0).val).toNat, 0, 0] = _
  have ht : t.val < 80 := N_0 ▸ t.isLt
  rw [coords_0, BitVec.toNat_ofNat, Nat.mod_eq_of_lt (by omega)]

theorem flush_other (t : Fin grid0.N) (h3 : t.val % 4 ≠ 3) : ((cfgA m hok).win 6).flush t = false := by
  have ht : t.val < 80 := N_0 ▸ t.isLt
  have hN : (cfgA m hok).N = 80 := N_0
  unfold Pipeline.Window.flush
  rw [Bool.and_eq_false_iff]
  right
  rw [Bool.or_eq_false_iff]
  refine ⟨?_, ?_⟩
  · rw [decide_eq_false_iff_not]
    exact fun h => by have := h.trans N_0; omega
  · rw [decide_eq_false_iff_not]
    rintro ⟨h, hne⟩
    refine hne ?_
    rw [index_6, index_6]
    show ![(t.val + 1) / 4, 0, 0] = _
    rw [show (t.val + 1) / 4 = t.val / 4 from by omega]

/-- A point's body, at any staging buffers: the state advances and every input is handed back as it was. -/
theorem body_core (c : Dev nD) (t : Fin grid0.N)
    (arg4 : Memref sig .tc .vmem S512x8x128 .f32) (arg5 : Memref sig .tc .vmem S1024x128 .f32) (arg6 : Memref sig .tc .vmem S1x128 .f32) (arg7 : Memref sig .tc .vmem S1x1024x512 .f32) (arg8 : Memref sig .tc .vmem S1x1024x512 .f32) (arg9 : Memref sig .tc .vmem S1x512x1024 .f32) (arg10 : Memref sig .tc .vmem S512x8x128 .f32)
    (harg4 : arg4.IsWhole) (harg5 : arg5.IsWhole) (harg6 : arg6.IsWhole) (harg7 : arg7.IsWhole) (harg8 : arg8.IsWhole) (harg9 : arg9.IsWhole) (harg10 : arg10.IsWhole)
    {D0 D1 D2 D3 D4 D5 D6 : Type} (b0 : D0 → Vec F S512x8x128 .f32) (b1 : D1 → Vec F S1024x128 .f32) (b2 : D2 → Vec F S1x128 .f32) (b3 : D3 → Vec F S1x1024x512 .f32)
    (b4 : D4 → Vec F S1x1024x512 .f32) (b5 : D5 → Vec F S1x512x1024 .f32) (b6 : D6 → Vec F S512x8x128 .f32)
    (h0 : ∀ d, b0 d = bx m hok c t) (h1 : ∀ d, b1 d = bwr m hok c t) (h2 : ∀ d, b2 d = bbr m hok c t) (h3 : ∀ d, b3 d = bwg m hok c t)
    (h4 : ∀ d, b4 d = bwu m hok c t) (h5 : ∀ d, b5 d = bwd m hok c t) (O O' R : sProp 𝕄) (hO : O ⊢ O')
    (hR : ∀ d A G X, Carried m hok c t.val A G X →
      owns (c : Thread nD τ) arg10 fullShare (nextO (grid0.coords t) (tg m c) (nt m c) (bwg m hok c t) (bwu m hok c t) (bwd m hok c t) (b6 d) A G X) ⊢ R) :
    iprop(inv m hok c t.val ∗ O ∗ (∃ d, owns (c : Thread nD τ) arg4 fullShare (b0 d)) ∗ (∃ d, owns (c : Thread nD τ) arg5 fullShare (b1 d))
        ∗ (∃ d, owns (c : Thread nD τ) arg6 fullShare (b2 d)) ∗ (∃ d, owns (c : Thread nD τ) arg7 fullShare (b3 d)) ∗ (∃ d, owns (c : Thread nD τ) arg8 fullShare (b4 d))
        ∗ (∃ d, owns (c : Thread nD τ) arg9 fullShare (b5 d)) ∗ (∃ d, owns (c : Thread nD τ) arg10 fullShare (b6 d)))
      ⊢ wp frame (wpE (defs₀ (F := F)) Variants.none c none) Set.univ
          (cc0_moe_grouped (grid0.coords t) (Memref.whole main_v71) (Memref.isWhole_whole _) (Memref.whole main_v40) (Memref.isWhole_whole _) arg4 harg4 arg5 harg5 arg6 harg6 arg7 harg7 arg8 harg8 arg9 harg9 arg10 harg10
            (Memref.whole cc0_scratch0) (Memref.isWhole_whole _) (Memref.whole cc0_scratch1) (Memref.isWhole_whole _) (Memref.whole cc0_scratch2) (Memref.isWhole_whole _)) fun _ =>
        iprop(inv m hok c (t.val + 1) ∗ O' ∗ owns (c : Thread nD τ) arg4 fullShare (bx m hok c t) ∗ owns (c : Thread nD τ) arg5 fullShare (bwr m hok c t)
          ∗ owns (c : Thread nD τ) arg6 fullShare (bbr m hok c t) ∗ owns (c : Thread nD τ) arg7 fullShare (bwg m hok c t) ∗ owns (c : Thread nD τ) arg8 fullShare (bwu m hok c t)
          ∗ owns (c : Thread nD τ) arg9 fullShare (bwd m hok c t) ∗ R) := by
  simp only [h0, h1, h2, h3, h4, h5]
  iintro ⟨HΦ, HO, ⟨%d0, H0⟩, ⟨%d1, H1⟩, ⟨%d2, H2⟩, ⟨%d3, H3⟩, ⟨%d4, H4⟩, ⟨%d5, H5⟩, ⟨%d6, H6⟩⟩
  unfold inv
  icases HΦ with ⟨HT, HN, HP, %A, %G, %X, %hC, HA, HG, HX⟩
  have hp := point c Set.univ (grid0.coords t) (Memref.whole main_v71) (Memref.whole main_v40)
    arg4 arg5 arg6 arg7 arg8 arg9 arg10 (Memref.whole cc0_scratch0) (Memref.whole cc0_scratch1) (Memref.whole cc0_scratch2)
    (harg2 := Memref.isWhole_whole _) (harg3 := Memref.isWhole_whole _) (harg4 := harg4) (harg5 := harg5) (harg6 := harg6) (harg7 := harg7) (harg8 := harg8)
    (harg9 := harg9) (harg10 := harg10) (harg11 := Memref.isWhole_whole _) (harg12 := Memref.isWhole_whole _) (harg13 := Memref.isWhole_whole _)
    (tg m c) (nt m c) (bx m hok c t) (bwr m hok c t) (bbr m hok c t) (bwg m hok c t) (bwu m hok c t) (bwd m hok c t) (b6 d6) A G X
  iapply (hp _)
  unfold Holds
  isplitl [HT HN H0 H1 H2 H3 H4 H5 H6 HA HG HX]
  · isplitl [HT]; · iexact HT
    isplitl [HN]; · iexact HN
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HA]; · iexact HA
    isplitl [HG]; · iexact HG
    iexact HX
  iintro ⟨HT, HN, H0, H1, H2, H3, H4, H5, H6, HA, HG, HX⟩
  isplitl [HT HN HP HA HG HX]
  · isplitl [HT]; · iexact HT
    isplitl [HN]; · iexact HN
    isplitl [HP]; · iexact HP
    iexists _, _, _
    isplitr
    · ipureintro; exact carried_next m hok c t hC
    isplitl [HA]; · iexact HA
    isplitl [HG]; · iexact HG
    iexact HX
  isplitl [HO]
  · iapply hO; iexact HO
  isplitl [H0]; · iexact H0
  isplitl [H1]; · iexact H1
  isplitl [H2]; · iexact H2
  isplitl [H3]; · iexact H3
  isplitl [H4]; · iexact H4
  isplitl [H5]; · iexact H5
  iapply (hR d6 A G X hC)
  iexact H6

theorem owes_pass (c : Dev nD) (t : Fin grid0.N) : (dats m hok 0 c).owesAt () t.castSucc ⊢ ((dats m hok 0 c).owesAt () t.succ : sProp 𝕄) := by
  iintro HO
  ihave HO := (owesAt_elim (dats m hok 0 c) () t.castSucc 0 rfl) $$ HO
  icases HO with ⟨%W, HO⟩
  iapply (owesAt_intro (dats m hok 0 c) () t.succ 0 rfl rfl W)
  iexact HO

theorem defs₀_row (t : Fin grid0.N) : defs₀ (F := F) .tc (cfgA m hok).body ((cfgA m hok).bodyArgs t ((cfgA m hok).slots t))
      = cc0_moe_grouped (grid0.coords t) (Memref.whole main_v71) (Memref.isWhole_whole _) (Memref.whole main_v40) (Memref.isWhole_whole _)
          (spec0_0.stage ((cfgA m hok).slots t 0)) (hstage0_0 (((cfgA m hok).slots t 0).cast nbuf0_0))
          (spec0_1.stage ((cfgA m hok).slots t 1)) (hstage0_1 (((cfgA m hok).slots t 1).cast nbuf0_1))
          (spec0_2.stage ((cfgA m hok).slots t 2)) (hstage0_2 (((cfgA m hok).slots t 2).cast nbuf0_2))
          (spec0_3.stage ((cfgA m hok).slots t 3)) (hstage0_3 (((cfgA m hok).slots t 3).cast nbuf0_3))
          (spec0_4.stage ((cfgA m hok).slots t 4)) (hstage0_4 (((cfgA m hok).slots t 4).cast nbuf0_4))
          (spec0_5.stage ((cfgA m hok).slots t 5)) (hstage0_5 (((cfgA m hok).slots t 5).cast nbuf0_5))
          (spec0_6.stage ((cfgA m hok).slots t 6)) (hstage0_6 (((cfgA m hok).slots t 6).cast nbuf0_6))
          (Memref.whole cc0_scratch0) (Memref.isWhole_whole _) (Memref.whole cc0_scratch1) (Memref.isWhole_whole _) (Memref.whole cc0_scratch2) (Memref.isWhole_whole _) := by
  unfold defs₀; rw [Defs.onTc_tc]

/-- What the pipeline takes back of the output's buffer. -/
def Handed (c : Dev nD) (t : Fin grid0.N) (M : Memref sig .tc .vmem S512x8x128 .f32) {D : Type} (b : D → Vec F S512x8x128 .f32) (i f : Bool) : sProp 𝕄 :=
  match i with
  | true => match f with
    | false => iprop(∃ d, owns (c : Thread nD τ) M fullShare (b d))
    | true => owns (c : Thread nD τ) M fullShare (oblk m hok c t)
  | false => owns (c : Thread nD τ) M fullShare (oblk m hok c t)

/-- The block at a tile's last point, elsewhere the buffer as it was. -/
theorem hand_back (c : Dev nD) (t : Fin grid0.N) (M : Memref sig .tc .vmem S512x8x128 .f32) {D : Type} (b : D → Vec F S512x8x128 .f32) (d : D)
    (A : Vec F S512x1024 .f32) (G : Vec F S512x128 .f32) (X : Vec F S512x1024 .bf16) (hC : Carried m hok c t.val A G X) :
    owns (c : Thread nD τ) M fullShare (nextO (grid0.coords t) (tg m c) (nt m c) (bwg m hok c t) (bwu m hok c t) (bwd m hok c t) (b d) A G X)
      ⊢ Handed m hok c t M b (idle0 (F := F) (adm m hok 0).1 6 (grid0.coords t)) (((cfgA m hok).win 6).flush t) := by
  by_cases h3 : t.val % 4 = 3
  · rw [last_out m hok c t h3 hC, idle_last m hok t h3]; rfl
  · have e3 : ¬ (grid0.coords t 1).val = 3 := fun h => h3 ((coords_1 t).symm.trans h)
    rw [idle_other m hok t h3, flush_other m hok t h3, nextO, if_neg e3]
    unfold Handed
    iintro H
    iexists d
    iexact H

set_option maxHeartbeats 2000000 in
theorem body_obligation (c : Dev nD) : BodyObligationLoose (dats m hok 0 c) (defs₀ (F := F)) Variants.none () Set.univ := fun t => by
  rw [bigSep_W0, bigSep_W0, defs₀_row]
  have h := body_core m hok c t (spec0_0.stage ((cfgA m hok).slots t 0)) (spec0_1.stage ((cfgA m hok).slots t 1)) (spec0_2.stage ((cfgA m hok).slots t 2)) (spec0_3.stage ((cfgA m hok).slots t 3)) (spec0_4.stage ((cfgA m hok).slots t 4)) (spec0_5.stage ((cfgA m hok).slots t 5)) (spec0_6.stage ((cfgA m hok).slots t 6))
    (hstage0_0 (((cfgA m hok).slots t 0).cast nbuf0_0)) (hstage0_1 (((cfgA m hok).slots t 1).cast nbuf0_1)) (hstage0_2 (((cfgA m hok).slots t 2).cast nbuf0_2)) (hstage0_3 (((cfgA m hok).slots t 3).cast nbuf0_3)) (hstage0_4 (((cfgA m hok).slots t 4).cast nbuf0_4)) (hstage0_5 (((cfgA m hok).slots t 5).cast nbuf0_5)) (hstage0_6 (((cfgA m hok).slots t 6).cast nbuf0_6))
    ((dats m hok 0 c).before 0 t) ((dats m hok 0 c).before 1 t) ((dats m hok 0 c).before 2 t) ((dats m hok 0 c).before 3 t) ((dats m hok 0 c).before 4 t) ((dats m hok 0 c).before 5 t) ((dats m hok 0 c).before 6 t)
    (before_0 m hok c t) (before_1 m hok c t) (before_2 m hok c t) (before_3 m hok c t) (before_4 m hok c t) (before_5 m hok c t)
    ((dats m hok 0 c).owesAt () t.castSucc) ((dats m hok 0 c).owesAt () t.succ) (Handed m hok c t (spec0_6.stage ((cfgA m hok).slots t 6)) ((dats m hok 0 c).before 6 t) (idle0 (F := F) (adm m hok 0).1 6 (grid0.coords t)) (((cfgA m hok).win 6).flush t))
    (owes_pass m hok c t)
    (fun d A G X hC => hand_back m hok c t (spec0_6.stage ((cfgA m hok).slots t 6)) ((dats m hok 0 c).before 6 t) d A G X hC)
  exact h

/-! ## The launch -/

theorem tables_of (c : Dev nD) (v : pre0.Contents (Elt F)) : (Pipeline.ΦT pre0 v c : sProp 𝕄)
    = iprop((((c.tc : Thread nD τ).loc (pre0.ref 0)) ↦{fullShare.right} v 0) ∗ (((c.tc : Thread nD τ).loc (pre0.ref 1)) ↦{fullShare.right} v 1)) := by
  unfold Pipeline.ΦT Pipeline.prefHeld
  rw [show (Finset.univ : Finset (Fin 2)) = insert 0 {1} from by decide, bigSep_insert (by decide), bigSep_singleton]
  rfl

theorem tables_eq (c : Dev nD) : (Pipeline.ΦT pre0 (adm m hok 0).1 c : sProp 𝕄)
    = iprop(owns (c : Thread nD τ) (Memref.whole main_v71) fullShare.right (tg m c) ∗ owns (c : Thread nD τ) (Memref.whole main_v40) fullShare.right (nt m c)) := by
  rw [tables_of, owns_whole, owns_whole]
  obtain rfl := Subsingleton.elim c 0
  rfl

theorem enter (c : Dev nD) : iprop(Pipeline.ΦA (U := UR sig nD τ) (Val := Elt F) spec0 c ∗ Pipeline.ΦT pre0 (adm m hok 0).1 c) ⊢ (inv m hok c 0 : sProp 𝕄) := by
  rw [tables_eq]
  unfold Pipeline.ΦA inv
  rw [scopedRest0_eq]
  simp only [owns_whole]
  iintro ⟨⟨⟨⟨%A, HA⟩, ⟨%G, HG⟩, ⟨%X, HX⟩⟩, HP⟩, HT, HN⟩
  isplitl [HT]; · iexact HT
  isplitl [HN]; · iexact HN
  isplitl [HP]; · iexact HP
  iexists A, G, X
  isplitr
  · ipureintro; exact fun h h4 => absurd rfl h4
  isplitl [HA]; · iexact HA
  isplitl [HG]; · iexact HG
  iexact HX

theorem leave (c : Dev nD) (n : ℕ) : (inv m hok c n : sProp 𝕄) ⊢ Pipeline.ΦA (U := UR sig nD τ) (Val := Elt F) spec0 c := by
  unfold Pipeline.ΦA inv
  rw [scopedRest0_eq]
  simp only [owns_whole]
  iintro ⟨-, -, HP, %A, %G, %X, -, HA, HG, HX⟩
  isplitr [HP]
  · isplitl [HA]; · iexists A; iexact HA
    isplitl [HG]; · iexists G; iexact HG
    iexists X; iexact HX
  iexact HP

theorem rest : ∀ b ∈ ([main_arg0, main_arg1, main_arg2, main_arg3, main_arg4, main_arg5, main_arg6, main_arg7, main_arg8] : List (Ref sig .tc)),
    b ≠ main_arg1 → b ∈ Pipeline.restRefs sig spec0 := by decide

set_option backward.isDefEq.respectTransparency.types false in
set_option maxHeartbeats 800000 in
/-- The run: it ends, with the result the tiles' blocks, every semaphore at zero and the arguments unchanged. -/
theorem run_main : θ_run (defs (F := F)) (onTc (τ := τ) (main (F := F))) ⟨m, fun _ => 0, ρ⟩ (fun r =>
      (∀ c : Dev nD, r.2.mem ((c.tc : Thread nD τ).loc main_v72) = (dats m hok 0 c).arrAt 6 (cfgA m hok).N
        ∧ ∀ b ∈ ([main_arg0, main_arg1, main_arg2, main_arg3, main_arg4, main_arg5, main_arg6, main_arg7, main_arg8] : List (Ref sig .tc)),
            r.2.mem ((c.tc : Thread nD τ).loc b) = m ((c.tc : Thread nD τ).loc b))
      ∧ r.2.sem = fun _ => 0) :=
  Pipeline.θ_run_frameP_track (pcfgs (F := F)) (adm m hok) (dats m hok) (0 : Fin 1) launch0 defs₀ Variants.none m ρ main
    (body_obligation m hok) (fun c => (dats m hok 0 c).share_full fun _ => rfl) (fun _ _ => rfl) (V m)
    (V_eq m ▸ Pipeline.hmainP_prefixes (pcfgs (F := F)) 0 defs₀ Variants.none m main opss
      (by exact ⟨hostOps0_sub, hostOps0_1_sub, hostOps0_2_sub, hostOps0_3_sub, hostOps0_4_sub, hostOps0_5_sub⟩) opss_fresh main_chain)
    (A_eq m hok) (fun c k => by rw [Subsingleton.elim c 0]) (enter m hok) (fun c => leave m hok c _)
    (Q' := _) (hQ' := fun r h => ⟨fun c => ⟨(h.1 c).1 6, fun b hb => by
      by_cases h1 : b = main_arg1
      · subst h1
        exact ((h.1 c).1 0).trans (((dats m hok 0 c).arrAt_in 0 rfl _).trans ((A_eq m hok c 0).trans (V_arg m c _ hb)))
      · exact ((h.1 c).2 b (rest b hb h1)).trans (V_arg m c b hb)⟩, h.2⟩)

end Cert.GroupedIdeal.Grouped

end
-- ==== Proof.GroupedRoute.lean ====
/- The grouped call's tables: the host's operations give each tile its group, and the number of tiles. -/
module

public import proofs.«01_k».proof.Proof.DispatchRoute
public import proofs.«01_k».proof.Proof.GroupedLaunch
public import Idealize.ShloMosaic.Lib.Routing.OpsSet
public import Idealize.ShloMosaic.Lib.WordArith

@[expose] public section

noncomputable section

namespace Cert.GroupedIdeal.Grouped

open Cert.GroupedIdeal Cert.GroupedIdeal.Gen
open Cert.KernelIdeal.Dispatch (ends)
open Idealize.ShloMosaic TcCoe
open Idealize.ShloMosaic.ValueIdx Idealize.ShloMosaic.WordCmp
open Idealize.ShloMosaic.Routing

variable {F : FTy → Type} [FloatOps F]

/-! ## The host's values, step by step -/

section Steps

variable (g : IVec S8192x128 32)

/-- How many groups end at or before each tile, at most 3. -/
def firstV : IVec S20 32 :=
  minsi (Host.reduce IntOp.addi (extui 32 (cmpi .sge
      (broadcastInDim S20x4 ![0, 1] bcast_S20x1_S20x4_0_1 (broadcastInDim S20x1 ![0] bcast_S20_S20x1_0 (iotaInDim S20 32 0)))
      (broadcastInDim S20x4 ![0, 1] bcast_S1x4_S20x4_0_1 (broadcastInDim S1x4 ![1] bcast_S4_S1x4_1 (ends g)))) natLt_1_32)
    (constantI S_ 32 0#32) reducesTo_S20x4_S20_d1 h_S_) (broadcastInDim S20 ![] bcast_S_S20 (constantI S_ 32 3#32))

/-- The number of tiles. -/
def ntV : IVec S1 32 := extractStridedSlice S1 ![3] (ends g) slices_S4_S1_3

/-- Each tile, or the last one. -/
def lastV : IVec S20 32 :=
  minsi (iotaInDim S20 32 0) (broadcastInDim S20 ![] bcast_S_S20 (subi (shapeCast S_ (ntV g) shapeCasts_S1_S_) (constantI S_ 32 1#32)))

def wrapV : IVec S20 32 :=
  select (cmpi .slt (lastV g) (broadcastInDim S20 ![] bcast_S_S20 (constantI S_ 32 0#32)))
    (addi (lastV g) (broadcastInDim S20 ![] bcast_S_S20 (constantI S_ 32 20#32))) (lastV g)

/-- Each tile's group. -/
def tgV : IVec S20 32 :=
  Host.gather gather_S20_S20x1_S20_n_0_n_n_0_1_1 (firstV g) (broadcastInDim S20x1 ![0] bcast_S20_S20x1_0 (wrapV g))

end Steps

set_option maxRecDepth 8192 in
set_option maxHeartbeats 6000000 in
theorem nt_eq (m : (ℓ : Loc nD τ sig) → Buf (Elt F) ℓ) (c : Dev nD) : nt m c = ntV (m ((c.tc : Thread nD τ).loc main_arg0)) := by
  rw [nt, V_eq]
  simp only [opss, hostOps0, hostOps0_1, hostOps0_2, hostOps0_3, hostOps0_4, hostOps0_5, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp
  rfl

set_option maxRecDepth 8192 in
set_option maxHeartbeats 6000000 in
theorem tg_eq (m : (ℓ : Loc nD τ sig) → Buf (Elt F) ℓ) (c : Dev nD) : tg m c = tgV (m ((c.tc : Thread nD τ).loc main_arg0)) := by
  rw [tg, V_eq]
  simp only [opss, hostOps0, hostOps0_1, hostOps0_2, hostOps0_3, hostOps0_4, hostOps0_5, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp
  rfl

/-! ## Each step at an index -/

theorem min_word {a b : ℕ} (ha : a < 2 ^ 31) (hb : b < 2 ^ 31) : IntOp.minsi (BitVec.ofNat 32 a) (BitVec.ofNat 32 b) = BitVec.ofNat 32 (min a b) := by
  have ea : (BitVec.ofNat 32 a).toNat = a := by rw [BitVec.toNat_ofNat, Nat.mod_eq_of_lt (by omega)]
  have eb : (BitVec.ofNat 32 b).toNat = b := by rw [BitVec.toNat_ofNat, Nat.mod_eq_of_lt (by omega)]
  refine BitVec.eq_of_toNat_eq ((WordArith.toNat_minsi_of_lt _ _ (by omega) (by omega)).trans ?_)
  rw [ea, eb, BitVec.toNat_ofNat, Nat.mod_eq_of_lt (by omega)]

theorem select_off (c : IVec S20 1) (x y : IVec S20 32) (j : S20.Idx) (h : c j = 0#1) : select c x y j = y j := by
  show Scalar.select (c j) (x j) (y j) = y j
  rw [h]
  rfl

/-- A group's last tile's successor, and a tile's group. -/
def upto (k : ℕ → ℕ) (q : ℕ) : ℕ := ((List.range (q + 1)).map (Route.tiles k)).sum
def owner (k : ℕ → ℕ) (p : ℕ) : ℕ := ∑ q : Fin 4, if upto k q.val ≤ p then 1 else 0

section Values

variable (g : IVec S8192x128 32) (k : ℕ → ℕ) (hg : ∀ t : Fin 8192, g (ix2 t (0 : Fin 128)) = BitVec.ofNat 32 (k t.val)) (hk : ∀ t, t < 8192 → k t < 4)

theorem upto_mono {q r : ℕ} (h : q ≤ r) : upto k q ≤ upto k r := by
  induction r with
  | zero => rw [Nat.le_zero.mp h]
  | succ r ih =>
    rcases Nat.lt_or_ge r q with h' | h'
    · rw [show q = r + 1 by omega]
    · refine (ih h').trans ?_
      unfold upto
      rw [List.range_succ (n := r + 1), List.map_append, List.sum_append]
      exact Nat.le_add_right _ _

include hk in
theorem upto_three : upto k 3 ≤ 19 := by
  have h := Route.start_four k hk
  unfold Route.start at h
  show ((List.range 4).map (Route.tiles k)).sum ≤ 19
  omega

include hk in
theorem one_le_upto : 1 ≤ upto k 3 := by
  have h := Route.sizes k hk
  have h0 := Route.size_le_tiles k 0
  have h1 := Route.size_le_tiles k 1
  have h2 := Route.size_le_tiles k 2
  have h3 := Route.size_le_tiles k 3
  have e : upto k 3 = Route.tiles k 0 + Route.tiles k 1 + Route.tiles k 2 + Route.tiles k 3 := by
    simp [upto, List.range_succ, Nat.add_assoc]
  omega

/-- A tile before the last is of a group. -/
theorem owner_le {p : ℕ} (hp : p < upto k 3) : owner k p ≤ 3 := by
  unfold owner
  rw [Fin.sum_univ_four]
  have : ¬ upto k (3 : Fin 4).val ≤ p := Nat.not_le.mpr hp
  rw [if_neg this]
  split_ifs <;> omega

include hg hk

theorem ends_at (q : Fin 4) : ends g (ix1 q) = BitVec.ofNat 32 (upto k q.val) :=
  cumsum1 (by decide) _ (Route.tiles k) (KernelIdeal.Dispatch.tilesV_at g k hg hk) _ rfl _ _ q

theorem upto_le (q : Fin 4) : upto k q.val ≤ 19 := (upto_mono k (by omega : q.val ≤ 3)).trans (upto_three k hk)

theorem firstV_at (p : Fin 20) : firstV g (ix1 p) = BitVec.ofNat 32 (min (owner k p.val) 3) := by
  have e := Route.reduce_cols (extui 32 (cmpi .sge
      (broadcastInDim S20x4 ![0, 1] bcast_S20x1_S20x4_0_1 (broadcastInDim S20x1 ![0] bcast_S20_S20x1_0 (iotaInDim S20 32 0)))
      (broadcastInDim S20x4 ![0, 1] bcast_S1x4_S20x4_0_1 (broadcastInDim S1x4 ![1] bcast_S4_S1x4_1 (ends g)))) natLt_1_32) p
    (fun q => if upto k q.val ≤ p.val then 1 else 0) (fun q => by
      have hq := upto_le g k hg hk q
      have hp := p.isLt
      show (IntOp.cmpi .sge (broadcastInDim S20x4 ![0, 1] bcast_S20x1_S20x4_0_1 (broadcastInDim S20x1 ![0] bcast_S20_S20x1_0 (iotaInDim S20 32 0)) (ix2 p q))
        (broadcastInDim S20x4 ![0, 1] bcast_S1x4_S20x4_0_1 (broadcastInDim S1x4 ![1] bcast_S4_S1x4_1 (ends g)) (ix2 p q))).setWidth 32 = _
      rw [bcRows, bcCols, ends_at g k hg hk]
      show (IntOp.cmpi .sge (BitVec.ofNat 32 p.val) (BitVec.ofNat 32 (upto k q.val))).setWidth 32 = _
      rw [cmpi_sge_ofNat (w := 32) (by omega) (by omega)]
      by_cases h : upto k q.val ≤ p.val
      · simp [h]
      · simp [h]) reducesTo_S20x4_S20_d1 h_S_
  show IntOp.minsi _ (broadcastInDim S20 ![] bcast_S_S20 (constantI S_ 32 3#32) (ix1 p)) = _
  rw [bc0]
  refine (congrArg (fun w => IntOp.minsi w _) e).trans (min_word (b := 3) ?_ (by decide))
  have : (∑ q : Fin 4, if upto k q.val ≤ p.val then 1 else 0) ≤ ∑ q : Fin 4, 1 := Finset.sum_le_sum fun q _ => by split_ifs <;> omega
  simp at this
  refine lt_of_le_of_lt ?_ (by decide : 4 < 2 ^ 31)
  simpa using this

theorem ntV_at (j : S1.Idx) : ntV g j = BitVec.ofNat 32 (upto k 3) := by
  rw [tiles_at (ntV g) j]
  exact (slice1 3 (ends g) slices_S4_S1_3 (0 : Fin 1) (by decide)).trans (ends_at g k hg hk (3 : Fin 4))

theorem lastV_at (p : Fin 20) : lastV g (ix1 p) = BitVec.ofNat 32 (min p.val (upto k 3 - 1)) := by
  have h19 := upto_three k hk
  have h1 := one_le_upto k hk
  have hp := p.isLt
  have e : broadcastInDim S20 ![] bcast_S_S20 (subi (shapeCast S_ (ntV g) shapeCasts_S1_S_) (constantI S_ 32 1#32)) (ix1 p) = BitVec.ofNat 32 (upto k 3 - 1) := by
    rw [bc0, subi_ap, show shapeCast S_ (ntV g) shapeCasts_S1_S_ Idealize.ShloMosaic.ValueIdx.ix0 = BitVec.ofNat 32 (upto k 3) from ntV_at g k hg hk _]
    exact Routing.ofNat32_sub h1
  exact (congrArg (IntOp.minsi (BitVec.ofNat 32 p.val)) e).trans (min_word (by omega) (by omega))

theorem wrapV_at (p : Fin 20) : wrapV g (ix1 p) = BitVec.ofNat 32 (min p.val (upto k 3 - 1)) := by
  have hp : min p.val (upto k 3 - 1) < 20 := lt_of_le_of_lt (Nat.min_le_left _ _) p.isLt
  have e := lastV_at g k hg hk p
  generalize min p.val (upto k 3 - 1) = n at *
  have hc : cmpi .slt (lastV g) (broadcastInDim S20 ![] bcast_S_S20 (constantI S_ 32 0#32)) (ix1 p) = 0#1 := by
    refine (congrArg₂ (IntOp.cmpi .slt) e (bc0 _ _ _)).trans ?_
    exact (cmpi_slt_ofNat_eq_zero_iff (w := 32) (b := 0) (lt_trans hp (by decide)) (by decide)).2 (Nat.not_lt_zero n)
  unfold wrapV
  exact (select_off _ _ _ _ hc).trans e

theorem tgV_at (p : Fin 20) : tgV g (ix1 p) = BitVec.ofNat 32 (owner k (min p.val (upto k 3 - 1))) := by
  have h19 := upto_three k hk
  have h1 := one_le_upto k hk
  have hp := p.isLt
  refine (gather_take1 gather_S20_S20x1_S20_n_0_n_n_0_1_1 rfl rfl rfl rfl (firstV g) _ p ⟨min p.val (upto k 3 - 1), by omega⟩ ?_ (by decide)).trans
    ((firstV_at g k hg hk _).trans ?_)
  · exact (bcCol _ _ p).trans (wrapV_at g k hg hk p)
  · rw [Nat.min_eq_left (owner_le k (by show min p.val (upto k 3 - 1) < _; omega))]

theorem group_val (i : grid0.Coords) : group (tgV g) i = BitVec.ofNat 32 (owner k (min (i 0).val (upto k 3 - 1))) :=
  tgV_at g k hg hk (i 0)

theorem group_le (i : grid0.Coords) : owner k (min (i 0).val (upto k 3 - 1)) ≤ 3 := by
  have h1 := one_le_upto k hk
  exact owner_le k (by omega)

end Values

/-! ## Every block lies inside its array -/

/-- Every token's group is one of the four. -/
abbrev InRange (g : IVec S8192x128 32) : Prop := ∀ t : Fin 8192, (g (ix2 t (0 : Fin 128))).toNat < 4

def groupOf (g : IVec S8192x128 32) (t : ℕ) : ℕ := if h : t < 8192 then (g (ix2 ⟨t, h⟩ (0 : Fin 128))).toNat else 0

theorem groupOf_at (g : IVec S8192x128 32) (t : Fin 8192) : g (ix2 t (0 : Fin 128)) = BitVec.ofNat 32 (groupOf g t.val) := by
  unfold groupOf
  rw [dif_pos t.isLt]
  exact BitVec.eq_of_toNat_eq (by rw [BitVec.toNat_ofNat, Nat.mod_eq_of_lt (BitVec.isLt _)])

theorem groupOf_lt {g : IVec S8192x128 32} (hr : InRange g) (t : ℕ) (ht : t < 8192) : groupOf g t < 4 := by
  unfold groupOf
  rw [dif_pos ht]
  exact hr ⟨t, ht⟩

/-- The weight block of a point. -/
theorem block_word {o i e N : ℕ} (ho : o ≤ 3) (hi : i < 20) (he : e < 4) (hN : N ≤ 19) :
    (Scalar.addi (Scalar.addi 0#32 (Scalar.muli (BitVec.ofNat 32 o) 4#32))
      (Scalar.select (Scalar.cmpi .slt (BitVec.ofNat 32 i) (BitVec.ofNat 32 N)) (BitVec.ofNat 32 e) 3#32)).toNat = 4 * o + if i < N then e else 3 := by
  have hs : Scalar.cmpi .slt (BitVec.ofNat 32 i) (BitVec.ofNat 32 N) = BitVec.ofBool (decide (i < N)) := cmpi_slt_ofNat (w := 32) (by omega) (by omega)
  rw [hs]
  have hm : Scalar.addi 0#32 (Scalar.muli (BitVec.ofNat 32 o) 4#32) = BitVec.ofNat 32 (4 * o) := by
    show 0#32 + BitVec.ofNat 32 o * BitVec.ofNat 32 4 = _
    rw [BitVec.ofNat_mul_ofNat, BitVec.zero_add, Nat.mul_comm]
  rw [hm]
  by_cases h : i < N
  · rw [decide_eq_true h, if_pos h]
    show (BitVec.ofNat 32 (4 * o) + BitVec.ofNat 32 e).toNat = _
    rw [BitVec.ofNat_add_ofNat, BitVec.toNat_ofNat, Nat.mod_eq_of_lt (by omega)]
  · rw [decide_eq_false h, if_neg h]
    show (BitVec.ofNat 32 (4 * o) + BitVec.ofNat 32 3).toNat = _
    rw [BitVec.ofNat_add_ofNat, BitVec.toNat_ofNat, Nat.mod_eq_of_lt (by omega)]

/-- The row block of a point. -/
theorem tile_word {i N : ℕ} (hi : i < 20) (h1 : 1 ≤ N) (hN : N ≤ 19) :
    (Scalar.minsi (BitVec.ofNat 32 i) (Scalar.subi (BitVec.ofNat 32 N) 1#32)).toNat = min i (N - 1) := by
  show (IntOp.minsi (BitVec.ofNat 32 i) (BitVec.ofNat 32 N - BitVec.ofNat 32 1)).toNat = _
  rw [Routing.ofNat32_sub (by omega), min_word (by omega) (by omega), BitVec.toNat_ofNat, Nat.mod_eq_of_lt (by omega)]

section Blocks

variable (pf : pre0.Contents (Elt F)) (g : IVec S8192x128 32) (h0 : pf 0 = tgV g) (h1 : pf 1 = ntV g) (hr : InRange g)
include h0 h1 hr

theorem at_1 : pf.at 1 (Rect.unit (s := S1) ![0] S1.size inb_S1_S1_0) numel1_S1 = BitVec.ofNat 32 (upto (groupOf g) 3) := by
  refine Eq.trans ?_ (ntV_at g (groupOf g) (groupOf_at g) (groupOf_lt hr) (ix1 0))
  refine Eq.trans ?_ (tiles_at (ntV g) (ix1 0)).symm
  refine (tiles_at (pf 1 : IVec S1 32) _).trans ?_
  rw [h1]

theorem at_0 (i : grid0.Coords) : pf.at 0 (Rect.unit (s := S20) ![(Scalar.indexCast (BitVec.ofNat 32 (i 0).val)).toNat] S1.size (k0_off1_inb i)) numel1_S1
    = BitVec.ofNat 32 (owner (groupOf g) (min (i 0).val (upto (groupOf g) 3 - 1))) := by
  refine Eq.trans ?_ (group_val g (groupOf g) (groupOf_at g) (groupOf_lt hr) i)
  refine (group_at (pf 0 : IVec S20 32) i _ ?_).trans ?_
  · rfl
  · rw [h0]

theorem transform_0 (i : grid0.Coords) : cc0_transform_0 inb_S1_S1_0 numel1_S1 pf i = ![min (i 0).val (upto (groupOf g) 3 - 1), 0, 0] := by
  unfold cc0_transform_0
  dsimp only
  rw [at_1 pf g h0 h1 hr, tile_word (i 0).isLt (one_le_upto _ (groupOf_lt hr)) (upto_three _ (groupOf_lt hr))]
  rfl

theorem transform_3 (i : grid0.Coords) : cc0_transform_3 k0_off1_inb numel1_S1 inb_S1_S1_0 pf i
    = ![4 * owner (groupOf g) (min (i 0).val (upto (groupOf g) 3 - 1)) + (if (i 0).val < upto (groupOf g) 3 then (i 1).val else 3), 0, 0] := by
  unfold cc0_transform_3
  dsimp only
  rw [at_1 pf g h0 h1 hr, at_0 pf g h0 h1 hr, block_word (group_le g _ (groupOf_at g) (groupOf_lt hr) i) (i 0).isLt (i 1).isLt (upto_three _ (groupOf_lt hr))]
  rfl

theorem transform_4 (i : grid0.Coords) : cc0_transform_4 k0_off1_inb numel1_S1 inb_S1_S1_0 pf i
    = ![4 * owner (groupOf g) (min (i 0).val (upto (groupOf g) 3 - 1)) + (if (i 0).val < upto (groupOf g) 3 then (i 1).val else 3), 0, 0] :=
  transform_3 pf g h0 h1 hr i

theorem transform_5 (i : grid0.Coords) : cc0_transform_5 k0_off1_inb numel1_S1 inb_S1_S1_0 pf i
    = ![4 * owner (groupOf g) (min (i 0).val (upto (groupOf g) 3 - 1)) + (if (i 0).val < upto (groupOf g) 3 then (i 1).val else 3), 0, 0] :=
  transform_3 pf g h0 h1 hr i

theorem ok_of : ok0 pf := by
  have hu := one_le_upto _ (groupOf_lt hr)
  have hu' := upto_three _ (groupOf_lt hr)
  refine ⟨fun i => ⟨?_, .inl rfl⟩, fun i => ⟨?_, .inl rfl⟩, fun i => ⟨?_, .inl rfl⟩, fun i => ⟨?_, .inl rfl⟩⟩
  · rw [transform_0 pf g h0 h1 hr]
    intro a
    have hi : (i 0).val < 20 := (i 0).isLt
    match a with
    | ⟨0, _⟩ =>
      show (min (i 0).val (upto (groupOf g) 3 - 1) + 1) * 512 ≤ 10240
      omega
    | ⟨1, _⟩ => exact le_refl _
    | ⟨2, _⟩ => exact le_refl _
  all_goals
    have ho := group_le g _ (groupOf_at g) (groupOf_lt hr) i
    have h4 : (i 1).val < 4 := (i 1).isLt
    first
      | rw [transform_3 pf g h0 h1 hr]
      | rw [transform_4 pf g h0 h1 hr]
      | rw [transform_5 pf g h0 h1 hr]
    intro a
    match a with
    | ⟨0, _⟩ =>
      show (4 * owner (groupOf g) (min (i 0).val (upto (groupOf g) 3 - 1)) + (if (i 0).val < upto (groupOf g) 3 then (i 1).val else 3) + 1) * 1 ≤ 16
      split_ifs <;> omega
    | ⟨1, _⟩ => exact le_refl _
    | ⟨2, _⟩ => exact le_refl _

end Blocks

theorem ok_of_inRange (m : (ℓ : Loc nD τ sig) → Buf (Elt F) ℓ) (hr : InRange (m (((0 : Dev nD).tc : Thread nD τ).loc main_arg0))) : Ok m :=
  ok_of _ _ (tg_eq m 0) (nt_eq m 0) hr

end Cert.GroupedIdeal.Grouped

end
-- ==== Proof.GroupedHost.lean ====
/- The grouped call's weights as its windows find them: the two routers side by side in one table of 128 lanes, the experts' weights one block an expert. -/
module

public import proofs.«01_k».proof.Proof.GroupedRoute
public import proofs.«01_k».proof.Proof.GroupedShare
public import Idealize.ShloMosaic.Lib.Routing.OpsOne

@[expose] public section

noncomputable section

namespace Cert.GroupedIdeal.Grouped

open Cert.GroupedIdeal Cert.GroupedIdeal.Gen
open Idealize.ShloMosaic TcCoe
open Idealize.ShloMosaic.ValueIdx Idealize.ShloMosaic.WordCmp
open Idealize.ShloMosaic.Routing

/-! ## The two scatters -/

theorem set_block {α : Type} {R C U : ℕ} (d : ScatterDims (shape2 R C) (shape1 1) (shape2 R U)) (x0 : (shape2 R C).Idx → α) (idx : IVec (shape1 1) 32) (upd : (shape2 R U).Idx → α) (k : ℕ)
    (hidx : (idx (ix1 0)).toInt = k) (hw0 : ∀ r u, d.window (ix2 r u) 0 = r.val) (hw1 : ∀ r u, d.window (ix2 r u) 1 = u.val) (hs0 : ∀ j, d.start j idx 0 = 0)
    (hs1 : ∀ j, d.start j idx 1 = (idx (ix1 0)).toInt) (r : Fin R) (c : Fin C) :
    (∀ u : Fin U, c.val = k + u.val → Host.scatter d (fun _ b => b) x0 idx upd (ix2 r c) = upd (ix2 r u))
      ∧ ((c.val < k ∨ k + U ≤ c.val) → Host.scatter d (fun _ b => b) x0 idx upd (ix2 r c) = x0 (ix2 r c)) := by
  have land : ∀ (r' : Fin R) (u : Fin U), d.resultIdx? (ix2 r' u) idx = some (ix2 r c) ↔ r'.val = r.val ∧ k + u.val = c.val := fun r' u => by
    rw [resultIdx?_ix2, hs0, hs1, hw0, hw1, hidx]
    omega
  have land' : ∀ j : (shape2 R U).Idx, d.resultIdx? j idx = some (ix2 r c) → (j 0).val = r.val ∧ k + (j 1).val = c.val := fun j hj =>
    (land (j 0) (j 1)).1 ((congrArg (fun t => d.resultIdx? t idx) (eq_ix2 j).symm).trans hj)
  constructor
  · intro u hu
    refine scatter_set_hit d x0 idx upd _ _ (fun j hj => ?_) (ix2 r u) ((land r u).2 ⟨rfl, hu.symm⟩)
    obtain ⟨h0, h1⟩ := land' j hj
    rw [eq_ix2 j]
    exact congrArg₂ (fun a b => upd (ix2 a b)) (Fin.ext h0) (Fin.ext (by omega))
  · intro hc
    refine scatter_set_miss d x0 idx upd _ fun j hj => ?_
    obtain ⟨h0, h1⟩ := land' j hj
    have hlt : (j 1).val < U := (j 1).isLt
    omega

theorem set_run {α : Type} {C U : ℕ} (d : ScatterDims (shape2 1 C) (shape1 2) (shape1 U)) (x0 : (shape2 1 C).Idx → α) (idx : IVec (shape1 2) 32) (upd : (shape1 U).Idx → α) (k : ℕ)
    (hidx0 : (idx (ix1 0)).toInt = 0) (hidx : (idx (ix1 1)).toInt = k) (hw0 : ∀ u, d.window (ix1 u) 0 = 0) (hw1 : ∀ u, d.window (ix1 u) 1 = u.val)
    (hsd : d.scatterDimsToOperandDims = [0, 1]) (hivd : d.indexVectorDim = 0) (c : Fin C) :
    (∀ u : Fin U, c.val = k + u.val → Host.scatter d (fun _ b => b) x0 idx upd (ix2 (0 : Fin 1) c) = upd (ix1 u))
      ∧ ((c.val < k ∨ k + U ≤ c.val) → Host.scatter d (fun _ b => b) x0 idx upd (ix2 (0 : Fin 1) c) = x0 (ix2 (0 : Fin 1) c)) := by
  have land : ∀ (u : Fin U), d.resultIdx? (ix1 u) idx = some (ix2 (0 : Fin 1) c) ↔ k + u.val = c.val := fun u => by
    rw [resultIdx?_ix2, start_pair d hsd hivd, start_pair d hsd hivd, hw0, hw1, hidx, hidx0]
    show (0 : ℤ) + ((0 : ℕ) : ℤ) = ((0 : ℕ) : ℤ) ∧ _ ↔ _
    omega
  have land' : ∀ j : (shape1 U).Idx, d.resultIdx? j idx = some (ix2 (0 : Fin 1) c) → k + (j 0).val = c.val := fun j hj =>
    (land (j 0)).1 ((congrArg (fun t => d.resultIdx? t idx) (eq_ix1 j).symm).trans hj)
  constructor
  · intro u hu
    refine scatter_set_hit d x0 idx upd _ _ (fun j hj => ?_) (ix1 u) ((land u).2 hu.symm)
    have h1 := land' j hj
    rw [eq_ix1 j]
    exact congrArg (fun b => upd (ix1 b)) (Fin.ext (by omega))
  · intro hc
    refine scatter_set_miss d x0 idx upd _ fun j hj => ?_
    have h1 := land' j hj
    have hlt : (j 0).val < U := (j 0).isLt
    omega

/-! ## The tables -/

section Tables

variable {F : FTy → Type} [FloatOps F]

def at0 : IVec S1 32 := broadcastInDim S1 ![] bcast_S_S1 (constantI S_ 32 0#32)
def at4 : IVec S1 32 := broadcastInDim S1 ![] bcast_S_S1 (constantI S_ 32 4#32)
def pair0 : IVec S2 32 := concatenate S2 0 [⟨S1, at0⟩, ⟨S1, at0⟩] concatenates_S1_S1_S2_d0
def pair4 : IVec S2 32 := concatenate S2 0 [⟨S1, at0⟩, ⟨S1, at4⟩] concatenates_S1_S1_S2_d0

/-- The routers' matrix, -/
def wrV (wg : Vec F S1024x4 .f32) (we : Vec F S1024x4x4 .f32) : Vec F S1024x128 .f32 :=
  Host.scatter scatter_S1024x128_S1_S1024x16_01_n_1_0 (fun _ b => b)
    (Host.scatter scatter_S1024x128_S1_S1024x4_01_n_1_0 (fun _ b => b) (broadcastInDim S1024x128 ![] bcast_S_S1024x128 (constant S_ .f32 0x00000000#32)) at0 wg)
    at4 (shapeCast S1024x16 we shapeCasts_S1024x4x4_S1024x16)

/-- and their bias. -/
def brV (bg : Vec F S4 .f32) (be : Vec F S4x4 .f32) : Vec F S1x128 .f32 :=
  Host.scatter scatter_S1x128_S2_S16_0_0_01_0 (fun _ b => b)
    (Host.scatter scatter_S1x128_S2_S4_0_0_01_0 (fun _ b => b) (broadcastInDim S1x128 ![] bcast_S_S1x128 (constant S_ .f32 0x00000000#32)) pair0 bg)
    pair4 (shapeCast S16 be shapeCasts_S4x4_S16)

variable (m : (ℓ : Loc nD τ sig) → Buf (Elt F) ℓ) (c : Dev nD)

set_option maxRecDepth 8192 in
set_option maxHeartbeats 6000000 in
theorem wr_eq : V m c main_v46 = wrV (m ((c.tc : Thread nD τ).loc main_arg2)) (m ((c.tc : Thread nD τ).loc main_arg4)) := by
  rw [V_eq]
  simp only [opss, hostOps0, hostOps0_1, hostOps0_2, hostOps0_3, hostOps0_4, hostOps0_5, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp
  rfl

set_option maxRecDepth 8192 in
set_option maxHeartbeats 6000000 in
theorem br_eq : V m c main_v56 = brV (m ((c.tc : Thread nD τ).loc main_arg3)) (m ((c.tc : Thread nD τ).loc main_arg5)) := by
  rw [V_eq]
  simp only [opss, hostOps0, hostOps0_1, hostOps0_2, hostOps0_3, hostOps0_4, hostOps0_5, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp
  rfl

set_option maxRecDepth 8192 in
set_option maxHeartbeats 6000000 in
theorem w_eq :
    V m c main_v57 = shapeCast S16x1024x512 (m ((c.tc : Thread nD τ).loc main_arg6)) shapeCasts_S4x4x1024x512_S16x1024x512
      ∧ V m c main_v58 = shapeCast S16x1024x512 (m ((c.tc : Thread nD τ).loc main_arg7)) shapeCasts_S4x4x1024x512_S16x1024x512
      ∧ V m c main_v59 = shapeCast S16x512x1024 (m ((c.tc : Thread nD τ).loc main_arg8)) shapeCasts_S4x4x512x1024_S16x512x1024 := by
  refine ⟨?_, ?_, ?_⟩
  all_goals
    rw [V_eq]
    simp only [opss, hostOps0, hostOps0_1, hostOps0_2, hostOps0_3, hostOps0_4, hostOps0_5, List.flatten_cons, List.flatten_nil, List.cons_append, List.nil_append, List.append_nil,
      StableHlo.TRef.binary, StableHlo.TRef.nullary, StableHlo.TRef.ternary, StableHlo.TRef.unary, StableHlo.TRef.toBuf, StableHlo.TRef.ofBuf, cast_eq]
    after_results_simp
    rfl

/-! ## At an entry -/

theorem start1 {U : ℕ} (d : ScatterDims S1024x128 S1 (shape2 1024 U)) (hsd : d.scatterDimsToOperandDims = [1]) (idx : IVec S1 32) (j : (shape2 1024 U).Idx) :
    d.start j idx 0 = 0 ∧ d.start j idx 1 = (idx (ix1 0)).toInt := by
  unfold ScatterDims.start
  have hm : (1 : Fin 2) ∈ d.scatterDimsToOperandDims := by rw [hsd]; exact List.mem_singleton.2 rfl
  rw [dif_neg fun h => by rw [hsd] at h; exact absurd (List.mem_singleton.1 h) (by decide : (0 : Fin 2) ≠ 1), dif_pos hm]
  refine ⟨rfl, ?_⟩
  have hsi : d.siIdx j ⟨d.scatterDimsToOperandDims.idxOf 1, List.idxOf_lt_length_iff.2 hm⟩ = ix1 (0 : Fin 1) := by
    funext b'
    match b' with
    | ⟨0, _⟩ => exact Subsingleton.elim (α := Fin 1) _ _
  rw [hsi]

/-- The lane of expert `e` of group `q`. -/
abbrev laneE (q e : Fin 4) : Fin 128 := ⟨4 + 4 * q.val + e.val, by have := q.isLt; have := e.isLt; omega⟩

theorem wrV_group (wg : Vec F S1024x4 .f32) (we : Vec F S1024x4x4 .f32) (k : Fin 1024) (q : Fin 4) : wrV wg we (ix2 k (q.castLE (by decide) : Fin 128)) = wg (ix2 k q) := by
  have hq := q.isLt
  unfold wrV
  refine ((set_block (U := 16) scatter_S1024x128_S1_S1024x16_01_n_1_0 _ at4 _ 4 rfl (fun _ _ => rfl) (fun _ _ => rfl) (fun j => (start1 _ rfl _ j).1) (fun j => (start1 _ rfl _ j).2) k _).2 (Or.inl hq)).trans ?_
  exact (set_block (U := 4) scatter_S1024x128_S1_S1024x4_01_n_1_0 _ at0 _ 0 rfl (fun _ _ => rfl) (fun _ _ => rfl) (fun j => (start1 _ rfl _ j).1) (fun j => (start1 _ rfl _ j).2) k _).1 q
    (by show q.val = 0 + q.val; omega)

theorem wrV_expert (wg : Vec F S1024x4 .f32) (we : Vec F S1024x4x4 .f32) (k : Fin 1024) (q e : Fin 4) : wrV wg we (ix2 k (laneE q e)) = we (ix3 k q e) := by
  have hq := q.isLt
  have he := e.isLt
  unfold wrV
  refine ((set_block (U := 16) scatter_S1024x128_S1_S1024x16_01_n_1_0 _ at4 _ 4 rfl (fun _ _ => rfl) (fun _ _ => rfl) (fun j => (start1 _ rfl _ j).1) (fun j => (start1 _ rfl _ j).2) k _).1
    ⟨4 * q.val + e.val, by omega⟩ (by show 4 + 4 * q.val + e.val = 4 + (4 * q.val + e.val); omega)).trans ?_
  refine shapeCast_apply _ _ _ (ix3 k q e) ?_
  rw [Shape.rowMajor_val_three, Shape.rowMajor_val_two]
  show (k.val * 4 + q.val) * 4 + e.val = k.val * 16 + (4 * q.val + e.val)
  omega

theorem brV_group (bg : Vec F S4 .f32) (be : Vec F S4x4 .f32) (q : Fin 4) : brV bg be (ix2 (0 : Fin 1) (q.castLE (by decide) : Fin 128)) = bg (ix1 q) := by
  have hq := q.isLt
  unfold brV
  refine ((set_run (U := 16) scatter_S1x128_S2_S16_0_0_01_0 _ pair4 _ 4 rfl rfl (fun _ => rfl) (fun _ => rfl) rfl rfl _).2 (Or.inl hq)).trans ?_
  exact (set_run (U := 4) scatter_S1x128_S2_S4_0_0_01_0 _ pair0 _ 0 rfl rfl (fun _ => rfl) (fun _ => rfl) rfl rfl _).1 q (by show q.val = 0 + q.val; omega)

theorem brV_expert (bg : Vec F S4 .f32) (be : Vec F S4x4 .f32) (q e : Fin 4) : brV bg be (ix2 (0 : Fin 1) (laneE q e)) = be (ix2 q e) := by
  have hq := q.isLt
  have he := e.isLt
  unfold brV
  refine ((set_run (U := 16) scatter_S1x128_S2_S16_0_0_01_0 _ pair4 _ 4 rfl rfl (fun _ => rfl) (fun _ => rfl) rfl rfl _).1
    ⟨4 * q.val + e.val, by omega⟩ (by show 4 + 4 * q.val + e.val = 4 + (4 * q.val + e.val); omega)).trans ?_
  refine shapeCast_apply _ _ _ (ix2 q e) ?_
  rw [Shape.rowMajor_val_two, Shape.rowMajor_val_one]
  show q.val * 4 + e.val = 4 * q.val + e.val
  omega

end Tables

end Cert.GroupedIdeal.Grouped

end
-- ==== Proof.GroupedRef.lean ====
/- The plain expert layer reads: each row through the experts of its own group, weighted by its gates. -/
module

public import proofs.«01_k».proof.Proof.DispatchRef
public import proofs.«01_k».proof.Proof.GroupedRoute
public import proofs.«01_k».proof.Proof.GroupedShare
public import proofs.«01_k».proof.Proof.Gen.GroupedRefIdeal.Run

@[expose] public section

noncomputable section

namespace Cert.GroupedRefIdeal.Grouped

open Cert.GroupedRefIdeal Cert.GroupedRefIdeal.Gen Cert.Route
open Cert.ReferenceIdeal.Dispatch (rowsV rowsV_at)
open Cert.GroupedIdeal.Grouped (upto owner upto_mono upto_three silu hidden slabOf laneOf)
open Idealize.ShloMosaic TcCoe
open Idealize.ShloMosaic.ValueIdx Idealize.ShloMosaic.WordCmp
open Idealize.ShloMosaic.Routing

/-! ## The values, step by step -/

section Steps

variable {F : FTy → Type} [FloatOps F]

/-- The last row of each group, and one more, -/
def endV (g : IVec S8192x128 32) : IVec S4 32 :=
  Host.reduce IntOp.addi (select (cmpi .sle (broadcastInDim S4x4 ![0, 1] bcast_S1x4_S4x4_0_1 (broadcastInDim S1x4 ![1] bcast_S4_S1x4_1 (iotaInDim S4 32 0)))
      (broadcastInDim S4x4 ![0, 1] bcast_S4x1_S4x4_0_1 (broadcastInDim S4x1 ![0] bcast_S4_S4x1_0 (iotaInDim S4 32 0))))
    (broadcastInDim S4x4 ![0, 1] bcast_S1x4_S4x4_0_1 (broadcastInDim S1x4 ![1] bcast_S4_S1x4_1 (rowsV g)))
    (broadcastInDim S4x4 ![] bcast_S_S4x4 (id (constantI S_ 32 0#32)))) (constantI S_ 32 0#32) reducesTo_S4x4_S4_d1 h_S_

/-- each row's group, -/
def ownV (g : IVec S8192x128 32) : IVec S10240 32 :=
  Host.reduce IntOp.addi (extui 32 (cmpi .sle (broadcastInDim S10240x4 ![0, 1] bcast_S1x4_S10240x4_0_1 (broadcastInDim S1x4 ![1] bcast_S4_S1x4_1 (endV g)))
    (broadcastInDim S10240x4 ![0, 1] bcast_S10240x1_S10240x4_0_1 (broadcastInDim S10240x1 ![0] bcast_S10240_S10240x1_0 (iotaInDim S10240 32 0)))) natLt_1_32)
    (constantI S_ 32 0#32) reducesTo_S10240x4_S10240_d1 h_S_

/-- as a row of zeros and a one. -/
def hotV (g : IVec S8192x128 32) : FVec F S10240x4 .f32 :=
  uitofp .f32 (cmpi .eq (broadcastInDim S10240x4 ![0, 1] bcast_S10240x1_S10240x4_0_1 (broadcastInDim S10240x1 ![0] bcast_S10240_S10240x1_0 (ownV g)))
    (broadcastInDim S10240x4 ![0, 1] bcast_S1x4_S10240x4_0_1 (iotaInDim S1x4 32 1)))

def flatV (x : FVec F S10240x8x128 .f32) : FVec F S10240x1024 .f32 := shapeCast S10240x1024 x shapeCasts_S10240x8x128_S10240x1024

/-- The groups' logits, -/
def lgV (x : FVec F S10240x8x128 .f32) (wg : FVec F S1024x4 .f32) (bg : FVec F S4 .f32) : FVec F S10240x4 .f32 :=
  addf (Host.dotGeneral dot_S10240x1024_S1024x4_S10240x4_1_0_0_1_n_n none (flatV x) wg)
    (broadcastInDim S10240x4 ![0, 1] bcast_S1x4_S10240x4_0_1 (broadcastInDim S1x4 ![1] bcast_S4_S1x4_1 bg))

/-- their exponentials, -/
def eV (L : FVec F S10240x4 .f32) : FVec F S10240x4 .f32 :=
  Host.exp (subf L (broadcastInDim S10240x4 ![0, 1] bcast_S10240x1_S10240x4_0_1 (broadcastInDim S10240x1 ![0] bcast_S10240_S10240x1_0
    (maximumf (broadcastInDim S10240 ![] bcast_S_S10240 (constant S_ .f32 0xFF800000#32))
      (Host.reduce FloatOps.maximumf L (constant S_ .f32 0xFF800000#32) reducesTo_S10240x4_S10240_d1 h_S_)))))

/-- and the probability of each row's group. -/
def pV (L OH : FVec F S10240x4 .f32) : FVec F S10240x1 .f32 :=
  broadcastInDim S10240x1 ![0] bcast_S10240_S10240x1_0 (Host.reduceAdd (mulf (Host.divf (eV L)
    (broadcastInDim S10240x4 ![0, 1] bcast_S10240x1_S10240x4_0_1 (broadcastInDim S10240x1 ![0] bcast_S10240_S10240x1_0
      (Host.reduceAdd (eV L) (constant S_ .f32 0x00000000#32) reducesTo_S10240x4_S10240_d1 h_S_)))) OH) (constant S_ .f32 0x00000000#32) reducesTo_S10240x4_S10240_d1 h_S_)

/-- All the experts' logits, -/
def allV (x : FVec F S10240x8x128 .f32) (we : FVec F S1024x4x4 .f32) (be : FVec F S4x4 .f32) : FVec F S10240x4x4 .f32 :=
  addf (Host.dotGeneral dot_S10240x1024_S1024x4x4_S10240x4x4_1_0_0_12_n_n none (flatV x) we)
    (broadcastInDim S10240x4x4 ![0, 1, 2] bcast_S1x4x4_S10240x4x4_0_1_2 (broadcastInDim S1x4x4 ![1, 2] bcast_S4x4_S1x4x4_1_2 be))

/-- those of the row's group, -/
def leV (A : FVec F S10240x4x4 .f32) (OH : FVec F S10240x4 .f32) : FVec F S10240x4 .f32 :=
  Host.reduceAdd (mulf A (broadcastInDim S10240x4x4 ![0, 1, 2] bcast_S10240x4x1_S10240x4x4_0_1_2 (broadcastInDim S10240x4x1 ![0, 1] bcast_S10240x4_S10240x4x1_0_1 OH)))
    (constant S_ .f32 0x00000000#32) reducesTo_S10240x4x4_S10240x4_d1 h_S_

/-- how many come before each, -/
def countV (LE : FVec F S10240x4 .f32) : IVec S10240x4 32 :=
  Host.reduce IntOp.addi (extui 32 (ori
    (cmpf .ogt (broadcastInDim S10240x4x4 ![0, 1, 2] bcast_S10240x1x4_S10240x4x4_0_1_2 (broadcastInDim S10240x1x4 ![0, 2] bcast_S10240x4_S10240x1x4_0_2 LE))
      (broadcastInDim S10240x4x4 ![0, 1, 2] bcast_S10240x4x1_S10240x4x4_0_1_2 (broadcastInDim S10240x4x1 ![0, 1] bcast_S10240x4_S10240x4x1_0_1 LE)))
    (andi (cmpf .oeq (broadcastInDim S10240x4x4 ![0, 1, 2] bcast_S10240x1x4_S10240x4x4_0_1_2 (broadcastInDim S10240x1x4 ![0, 2] bcast_S10240x4_S10240x1x4_0_2 LE))
        (broadcastInDim S10240x4x4 ![0, 1, 2] bcast_S10240x4x1_S10240x4x4_0_1_2 (broadcastInDim S10240x4x1 ![0, 1] bcast_S10240x4_S10240x4x1_0_1 LE)))
      (broadcastInDim S10240x4x4 ![0, 1, 2] bcast_S1x4x4_S10240x4x4_0_1_2 (broadcastInDim S1x4x4 ![1, 2] bcast_S4x4_S1x4x4_1_2
        (cmpi .slt (broadcastInDim S4x4 ![0, 1] bcast_S1x4_S4x4_0_1 (broadcastInDim S1x4 ![1] bcast_S4_S1x4_1 (iotaInDim S4 32 0)))
          (broadcastInDim S4x4 ![0, 1] bcast_S4x1_S4x4_0_1 (broadcastInDim S4x1 ![0] bcast_S4_S4x1_0 (iotaInDim S4 32 0)))))))) natLt_1_32)
    (constantI S_ 32 0#32) reducesTo_S10240x4x4_S10240x4_d2 h_S_

/-- the weights of the two first, -/
def weightV (LE : FVec F S10240x4 .f32) : FVec F S10240x4 .f32 :=
  select (cmpi .slt (countV LE) (broadcastInDim S10240x4 ![] bcast_S_S10240x4 (constantI S_ 32 2#32)))
    (Host.exp (subf LE (broadcastInDim S10240x4 ![0, 1] bcast_S10240x1_S10240x4_0_1 (broadcastInDim S10240x1 ![0] bcast_S10240_S10240x1_0
      (Host.reduce FloatOps.maximumf LE (constant S_ .f32 0xFF800000#32) reducesTo_S10240x4_S10240_d1 h_S_)))))
    (broadcastInDim S10240x4 ![] bcast_S_S10240x4 (id (constant S_ .f32 0x00000000#32)))

/-- the gates of the row's group, -/
def ownGateV (LE : FVec F S10240x4 .f32) (P : FVec F S10240x1 .f32) : FVec F S10240x4 .f32 :=
  mulf (Host.divf (weightV LE) (broadcastInDim S10240x4 ![0, 1] bcast_S10240x1_S10240x4_0_1 (broadcastInDim S10240x1 ![0] bcast_S10240_S10240x1_0
    (Host.reduceAdd (weightV LE) (constant S_ .f32 0x00000000#32) reducesTo_S10240x4_S10240_d1 h_S_))))
    (broadcastInDim S10240x4 ![0, 1] bcast_S10240x1_S10240x4_0_1 P)

/-- and of all groups. -/
def gateV (OH GE : FVec F S10240x4 .f32) : FVec F S10240x4x4 .f32 :=
  mulf (broadcastInDim S10240x4x4 ![0, 1, 2] bcast_S10240x4x1_S10240x4x4_0_1_2 (broadcastInDim S10240x4x1 ![0, 1] bcast_S10240x4_S10240x4x1_0_1 OH))
    (broadcastInDim S10240x4x4 ![0, 1, 2] bcast_S10240x1x4_S10240x4x4_0_1_2 (broadcastInDim S10240x1x4 ![0, 2] bcast_S10240x4_S10240x1x4_0_2 GE))

def dotV (X : FVec F S10240x1024 .f32) (w : FVec F S4x4x1024x512 .f32) : FVec F S10240x4x4x512 .f32 :=
  Host.dotGeneral dot_S10240x1024_S4x4x1024x512_S10240x4x4x512_1_2_0_013_n_n none X w

def siluV (Z : FVec F S10240x4x4x512 .f32) : FVec F S10240x4x4x512 .f32 :=
  mulf Z (Host.divf (broadcastInDim S10240x4x4x512 ![] bcast_S_S10240x4x4x512 (constant S_ .f32 0x3F800000#32))
    (addf (broadcastInDim S10240x4x4x512 ![] bcast_S_S10240x4x4x512 (constant S_ .f32 0x3F800000#32)) (Host.exp (Host.negf Z))))

/-- The gated hidden values, -/
def hidV (X : FVec F S10240x1024 .f32) (w u : FVec F S4x4x1024x512 .f32) (G : FVec F S10240x4x4 .f32) : FVec F S10240x4x4x512 .f32 :=
  mulf (mulf (siluV (dotV X w)) (dotV X u))
    (broadcastInDim S10240x4x4x512 ![0, 1, 2, 3] bcast_S10240x4x4x1_S10240x4x4x512_0_1_2_3 (broadcastInDim S10240x4x4x1 ![0, 1, 2] bcast_S10240x4x4_S10240x4x4x1_0_1_2 G))

/-- and the result. -/
def resV (H : FVec F S10240x4x4x512 .f32) (w : FVec F S4x4x512x1024 .f32) : FVec F S10240x8x128 .f32 :=
  shapeCast S10240x8x128 (Host.dotGeneral dot_S10240x4x4x512_S4x4x512x1024_S10240x1024_231_120_0_3_n_n none H w) shapeCasts_S10240x1024_S10240x8x128

/-- The result of the arguments. -/
def outV (g : IVec S8192x128 32) (x : FVec F S10240x8x128 .f32) (wg : FVec F S1024x4 .f32) (bg : FVec F S4 .f32) (we : FVec F S1024x4x4 .f32) (be : FVec F S4x4 .f32)
    (w u : FVec F S4x4x1024x512 .f32) (d : FVec F S4x4x512x1024 .f32) : FVec F S10240x8x128 .f32 :=
  resV (hidV (flatV x) w u (gateV (hotV g) (ownGateV (leV (allV x we be) (hotV g)) (pV (lgV x wg bg) (hotV g))))) d

end Steps

theorem res_eq (m : (ℓ : Loc nD τ sig) → Buf (Elt Ideal) ℓ) (c : Dev nD) :
    Value.res_main_v105 m c = outV (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) := by
  rfl

end Cert.GroupedRefIdeal.Grouped

end
-- ==== Proof.GroupedRefRow.lean ====
/- A row of the plain expert layer, at its group. -/
module

public import proofs.«01_k».proof.Proof.GroupedRef

@[expose] public section

noncomputable section

namespace Cert.GroupedRefIdeal.Grouped

open Cert.GroupedRefIdeal Cert.GroupedRefIdeal.Gen Cert.Route
open Cert.ReferenceIdeal.Dispatch (rowsV rowsV_at)
open Cert.GroupedIdeal.Grouped (upto owner upto_mono upto_three silu slabOf laneOf colOf)
open Idealize.ShloMosaic TcCoe
open Idealize.ShloMosaic.ValueIdx Idealize.ShloMosaic.WordCmp
open Idealize.ShloMosaic.Routing

/-! ## The group of a row -/

section Words

variable (g : IVec S8192x128 32) (k : ℕ → ℕ) (hg : ∀ t : Fin 8192, g (ix2 t (0 : Fin 128)) = BitVec.ofNat 32 (k t.val)) (hk : ∀ t, t < 8192 → k t < 4)
include hg hk

theorem endV_at (q : Fin 4) : endV g (ix1 q) = BitVec.ofNat 32 (512 * upto k q.val) := by
  refine (reduce_cols _ q (fun q' => if q'.val ≤ q.val then tiles k q'.val * 512 else 0) (fun q' => ?_) _ _).trans ?_
  · rw [select_at, cmpi_at, bcRows, bcCols, bcCols, iota1_ap, iota1_ap, rowsV_at g k hg hk,
      cmpi_sle_ofNat (w := 32) (by have := q'.isLt; omega) (by have := q.isLt; omega), select_decide]
    by_cases h : q'.val ≤ q.val
    · rw [if_pos h, if_pos h]
    · rw [if_neg h, if_neg h]
      rfl
  · refine congrArg (BitVec.ofNat 32) ?_
    unfold upto
    rw [Fin.sum_univ_four]
    fin_cases q <;> simp [List.range_succ] <;> omega

theorem ownV_at (R : Fin 10240) : ownV g (ix1 R) = BitVec.ofNat 32 (owner k (R.val / 512)) := by
  have hR := R.isLt
  refine (reduce_cols _ R (fun q => if upto k q.val ≤ R.val / 512 then 1 else 0) (fun q => ?_) _ _)
  have hq : upto k q.val ≤ 19 := (upto_mono k (by have := q.isLt; omega)).trans (upto_three k hk)
  show (cmpi .sle _ _ (ix2 R q)).setWidth 32 = _
  rw [cmpi_at, bcRows, bcCols, iota1_ap, endV_at g k hg hk, cmpi_sle_ofNat (w := 32) (by omega) (by omega)]
  by_cases h : upto k q.val ≤ R.val / 512
  · have h' : 512 * upto k q.val ≤ R.val := by omega
    simp [h, h']
  · have h' : ¬ 512 * upto k q.val ≤ R.val := by omega
    simp [h, h']

theorem owner_le_four (p : ℕ) : owner k p ≤ 4 := by
  unfold owner
  rw [Fin.sum_univ_four]
  split_ifs <;> omega

theorem hotV_at (R : Fin 10240) (q : Fin 4) : hotV (F := Ideal) g (ix2 R q) = if q.val = owner k (R.val / 512) then (1 : EReal) else 0 := by
  have ho := owner_le_four g k hg hk (R.val / 512)
  have hq := q.isLt
  have hi : broadcastInDim S10240x4 ![0, 1] bcast_S1x4_S10240x4_0_1 (iotaInDim S1x4 32 1) (ix2 R q) = BitVec.ofNat 32 q.val :=
    broadcastInDim_apply _ bcast_S1x4_S10240x4_0_1 (iotaInDim S1x4 32 1) (ix2 R q) (ix2 (0 : Fin 1) q) fun a => by match a with | ⟨0, _⟩ => rfl | ⟨1, _⟩ => rfl
  show (((cmpi .eq _ _ (ix2 R q)).toNat : ℝ) : EReal) = _
  rw [cmpi_at, bcRows, hi, ownV_at g k hg hk, cmpi_eq_ofNat (w := 32) (by omega) (by omega)]
  by_cases h : q.val = owner k (R.val / 512)
  · simp [h]
  · have h' : ¬ owner k (R.val / 512) = q.val := fun e => h e.symm
    simp [h, h']

end Words

/-! ## The sums and maxima along a row -/

theorem neg_inf : (FloatOps.ofBits .f32 0xFF800000#32 : Ideal .f32) = (⊥ : EReal) := by
  show Ideal.ofBits .f32 0xFF800000#32 = ⊥
  simp [Ideal.ofBits, Ideal.ieee]

theorem lift_row (h : S10240x4.Reduces [1] S10240) (R : Fin 10240) (q : Fin 4) : h.lift (ix1 R) q = ix2 R q :=
  funext fun b => by match b with | ⟨0, _⟩ => rfl | ⟨1, _⟩ => rfl

theorem lift_mid (h : S10240x4x4.Reduces [1] S10240x4) (R : Fin 10240) (e q : Fin 4) : h.lift (ix2 R e) q = ix3 R q e :=
  funext fun b => by match b with | ⟨0, _⟩ => rfl | ⟨1, _⟩ => rfl | ⟨2, _⟩ => rfl

theorem lift_last (h : S10240x4x4.Reduces [2] S10240x4) (R : Fin 10240) (e q : Fin 4) : h.lift (ix2 R e) q = ix3 R e q :=
  funext fun b => by match b with | ⟨0, _⟩ => rfl | ⟨1, _⟩ => rfl | ⟨2, _⟩ => rfl

theorem row_max (v : FVec Ideal S10240x4 .f32) (R : Fin 10240) :
    Host.reduce FloatOps.maximumf v (constant (F := Ideal) S_ .f32 0xFF800000#32) reducesTo_S10240x4_S10240_d1 h_S_ (ix1 R) = Gate.top fun q => v (ix2 R q) := by
  refine (Host.reduce_eq_fold_single (FloatOps.maximumf (F := Ideal) (φ := .f32)) v _ reducesTo_S10240x4_S10240_d1 (by decide) h_S_ (ix1 R)).trans ?_
  rw [show constant (F := Ideal) S_ .f32 0xFF800000#32 (Shape.Idx.first h_S_) = (⊥ : EReal) from neg_inf]
  exact Finset.fold_congr fun j _ => congrArg v (lift_row _ R j)

theorem row_sum (v : FVec Ideal S10240x4 .f32) (R : Fin 10240) :
    Host.reduceAdd (F := Ideal) v (constant S_ .f32 0x00000000#32) reducesTo_S10240x4_S10240_d1 h_S_ (ix1 R) = ∑ q : Fin 4, v (ix2 R q) := by
  refine (Ideal.hostReduceAdd_single reducesTo_S10240x4_S10240_d1 (by decide) v _ (ix1 R)).trans ?_
  rw [show (constant (F := Ideal) S_ .f32 0x00000000#32 (Shape.Idx.first h_S_) : EReal) = 0 from Ideal.ofBits_zero_f32, zero_add]
  exact Finset.sum_congr rfl fun j _ => congrArg v (lift_row _ R j)

/-! ## The operations at an index -/

section At

variable {s : Shape} (a b : FVec Ideal s .f32) (i : s.Idx)

theorem exp_at : Host.exp a i = Ideal.exp (a i) := rfl
theorem sub_at : subf a b i = a i - b i := rfl
theorem add_at : addf a b i = a i + b i := rfl
theorem mul_at : mulf a b i = a i * b i := rfl
theorem div_at : Host.divf a b i = Ideal.div (a i) (b i) := rfl
theorem neg_at : Host.negf a i = -a i := rfl
theorem max_at : maximumf a b i = max (a i) (b i) := rfl
theorem gt_at : cmpf .ogt a b i = BitVec.ofBool (decide (b i < a i)) := rfl
theorem eq_at : cmpf .oeq a b i = BitVec.ofBool (decide (a i = b i)) := rfl
theorem or_at (x y : IVec s 1) : ori x y i = x i ||| y i := rfl
theorem and_at (x y : IVec s 1) : andi x y i = x i &&& y i := rfl
theorem ext_at (x : IVec s 1) (h : 1 < 32) : extui 32 x h i = (x i).setWidth 32 := rfl
theorem const_at (w : BitVec 32) : constant (F := Ideal) s .f32 w i = Ideal.ofBits .f32 w := rfl

end At

/-! ## The gates -/

theorem eV_at (L : FVec Ideal S10240x4 .f32) (R : Fin 10240) (q : Fin 4) :
    eV L (ix2 R q) = Ideal.exp (L (ix2 R q) - Gate.top fun q' => L (ix2 R q')) := by
  unfold eV
  rw [exp_at, sub_at, bcRows, max_at, row_max, bc0]
  refine congrArg (fun y => Ideal.exp (L (ix2 R q) - y)) ?_
  rw [show constant (F := Ideal) S_ .f32 0xFF800000#32 ValueIdx.ix0 = (⊥ : EReal) from neg_inf]
  exact max_eq_right bot_le

/-- A sum against a row of zeros and a one. -/
theorem sum_hot (f : Fin 4 → EReal) (o : ℕ) (ho : o < 4) : (∑ q : Fin 4, f q * if q.val = o then (1 : EReal) else 0) = f ⟨o, ho⟩ := by
  rw [Finset.sum_eq_single (⟨o, ho⟩ : Fin 4)]
  · simp
  · intro q _ h
    rw [if_neg fun e => h (Fin.ext e), mul_zero]
  · intro h
    exact absurd (Finset.mem_univ _) h

theorem pV_at (L OH : FVec Ideal S10240x4 .f32) (R : Fin 10240) (o : ℕ) (ho : o < 4) (hh : ∀ q : Fin 4, OH (ix2 R q) = if q.val = o then (1 : EReal) else 0) :
    pV L OH (ix2 R (0 : Fin 1)) = Ideal.div (Ideal.exp (L (ix2 R ⟨o, ho⟩) - Gate.top fun q => L (ix2 R q))) (∑ q : Fin 4, Ideal.exp (L (ix2 R q) - Gate.top fun q' => L (ix2 R q'))) := by
  unfold pV
  rw [bcCol, row_sum]
  refine Eq.trans (Finset.sum_congr rfl fun q _ => ?_) (sum_hot (fun q => Ideal.div (Ideal.exp (L (ix2 R q) - Gate.top fun q' => L (ix2 R q')))
    (∑ q : Fin 4, Ideal.exp (L (ix2 R q) - Gate.top fun q' => L (ix2 R q')))) o ho)
  rw [mul_at, div_at, bcRows, row_sum, hh q, eV_at]
  simp only [eV_at]

theorem at_this {α : Type} (v : S10240x4.Idx → α) (R : Fin 10240) (e e' : Fin 4) :
    broadcastInDim S10240x4x4 ![0, 1, 2] bcast_S10240x4x1_S10240x4x4_0_1_2 (broadcastInDim S10240x4x1 ![0, 1] bcast_S10240x4_S10240x4x1_0_1 v) (ix3 R e e') = v (ix2 R e) :=
  (broadcastInDim_apply _ bcast_S10240x4x1_S10240x4x4_0_1_2 _ (ix3 R e e') (ix3 R e (0 : Fin 1)) fun a => by match a with | ⟨0, _⟩ => rfl | ⟨1, _⟩ => rfl | ⟨2, _⟩ => rfl).trans
    (broadcastInDim_apply _ bcast_S10240x4_S10240x4x1_0_1 v (ix3 R e (0 : Fin 1)) (ix2 R e) fun a => by match a with | ⟨0, _⟩ => rfl | ⟨1, _⟩ => rfl)

theorem at_other {α : Type} (v : S10240x4.Idx → α) (R : Fin 10240) (e e' : Fin 4) :
    broadcastInDim S10240x4x4 ![0, 1, 2] bcast_S10240x1x4_S10240x4x4_0_1_2 (broadcastInDim S10240x1x4 ![0, 2] bcast_S10240x4_S10240x1x4_0_2 v) (ix3 R e e') = v (ix2 R e') :=
  (broadcastInDim_apply _ bcast_S10240x1x4_S10240x4x4_0_1_2 _ (ix3 R e e') (ix3 R (0 : Fin 1) e') fun a => by match a with | ⟨0, _⟩ => rfl | ⟨1, _⟩ => rfl | ⟨2, _⟩ => rfl).trans
    (broadcastInDim_apply _ bcast_S10240x4_S10240x1x4_0_2 v (ix3 R (0 : Fin 1) e') (ix2 R e') fun a => by match a with | ⟨0, _⟩ => rfl | ⟨1, _⟩ => rfl)

theorem at_layer {α : Type} (v : S4x4.Idx → α) (R : Fin 10240) (e e' : Fin 4) :
    broadcastInDim S10240x4x4 ![0, 1, 2] bcast_S1x4x4_S10240x4x4_0_1_2 (broadcastInDim S1x4x4 ![1, 2] bcast_S4x4_S1x4x4_1_2 v) (ix3 R e e') = v (ix2 e e') :=
  (broadcastInDim_apply _ bcast_S1x4x4_S10240x4x4_0_1_2 _ (ix3 R e e') (ix3 (0 : Fin 1) e e') fun a => by match a with | ⟨0, _⟩ => rfl | ⟨1, _⟩ => rfl | ⟨2, _⟩ => rfl).trans
    (broadcastInDim_apply _ bcast_S4x4_S1x4x4_1_2 v (ix3 (0 : Fin 1) e e') (ix2 e e') fun a => by match a with | ⟨0, _⟩ => rfl | ⟨1, _⟩ => rfl)

theorem leV_at (A : FVec Ideal S10240x4x4 .f32) (OH : FVec Ideal S10240x4 .f32) (R : Fin 10240) (o : ℕ) (ho : o < 4)
    (hh : ∀ q : Fin 4, OH (ix2 R q) = if q.val = o then (1 : EReal) else 0) (e : Fin 4) : leV A OH (ix2 R e) = A (ix3 R ⟨o, ho⟩ e) := by
  unfold leV
  refine (Ideal.hostReduceAdd_single reducesTo_S10240x4x4_S10240x4_d1 (by decide) _ _ (ix2 R e)).trans ?_
  rw [show (constant (F := Ideal) S_ .f32 0x00000000#32 (Shape.Idx.first h_S_) : EReal) = 0 from Ideal.ofBits_zero_f32, zero_add]
  refine Eq.trans (Finset.sum_congr rfl fun q _ => congrArg (mulf A _) (lift_mid _ R e q)) ?_
  refine Eq.trans (b := ∑ q : Fin 4, A (ix3 R q e) * if q.val = o then (1 : EReal) else 0) (Finset.sum_congr rfl fun (q : Fin 4) _ => ?_) (sum_hot (fun q => A (ix3 R q e)) o ho)
  exact (mul_at A _ (ix3 R q e)).trans (congrArg (A (ix3 R q e) * ·) ((at_this OH R q e).trans (hh q)))

open Classical in
theorem countV_at (LE : FVec Ideal S10240x4 .f32) (R : Fin 10240) (e : Fin 4) : countV LE (ix2 R e) = BitVec.ofNat 32 (Gate.rank (fun e => LE (ix2 R e)) e) := by
  unfold countV
  refine (Host.reduce_eq_fold_single IntOp.addi _ _ reducesTo_S10240x4x4_S10240x4_d2 (by decide) h_S_ (ix2 R e)).trans ?_
  refine fold_addi_ofNat _ _ (fun e' : Fin 4 => if Gate.before (fun e => LE (ix2 R e)) e' e then 1 else 0) fun e' _ => ?_
  refine (congrArg (extui 32 _ natLt_1_32) (lift_last _ R e e')).trans ?_
  rw [ext_at, or_at, and_at, gt_at, eq_at, at_this, at_other, at_layer, cmpi_at, bcRows, bcCols, iota1_ap, iota1_ap, cmpi_slt_ofNat (w := 32) (by have := e'.isLt; omega) (by have := e.isLt; omega)]
  unfold Gate.before
  by_cases h1 : LE (ix2 R e) < LE (ix2 R e')
  · simp only [h1]
    by_cases h2 : LE (ix2 R e') = LE (ix2 R e) <;> by_cases h3 : e'.val < e.val <;> simp [h2, h3]
  · by_cases h2 : LE (ix2 R e') = LE (ix2 R e)
    · by_cases h3 : e'.val < e.val
      · have h3' : e' < e := h3
        simp [h1, h2, h3, h3']
      · have h3' : ¬ e' < e := h3
        simp [h1, h2, h3, h3']
    · simp [h1, h2]

theorem rank_le (l : Fin 4 → EReal) (e : Fin 4) : Gate.rank l e ≤ 4 := by
  unfold Gate.rank
  refine (Finset.sum_le_card_nsmul _ _ 1 fun e' _ => ?_).trans (le_of_eq rfl)
  split_ifs <;> omega

theorem weightV_at (LE : FVec Ideal S10240x4 .f32) (R : Fin 10240) (e : Fin 4) : weightV LE (ix2 R e) = Gate.weight (fun e => LE (ix2 R e)) e := by
  have h4 := rank_le (fun e => LE (ix2 R e)) e
  unfold weightV Gate.weight
  rw [select_at, cmpi_at, countV_at, bc0, show constantI S_ 32 2#32 ValueIdx.ix0 = BitVec.ofNat 32 2 from rfl, cmpi_slt_ofNat (w := 32) (by omega) (by decide), select_decide]
  refine if_congr Iff.rfl ?_ Ideal.ofBits_zero_f32
  rw [exp_at, sub_at, bcRows, row_max]

theorem ownGateV_at (LE : FVec Ideal S10240x4 .f32) (P : FVec Ideal S10240x1 .f32) (R : Fin 10240) (e : Fin 4) :
    ownGateV LE P (ix2 R e) = Gate.gate (P (ix2 R (0 : Fin 1))) (fun e => LE (ix2 R e)) e := by
  unfold ownGateV
  rw [mul_at, div_at, bcRows, row_sum, broadcastInDim_apply _ bcast_S10240x1_S10240x4_0_1 P (ix2 R e) (ix2 R (0 : Fin 1)) fun a => by match a with | ⟨0, _⟩ => rfl | ⟨1, _⟩ => rfl]
  simp only [weightV_at]
  rfl

theorem gateV_at (OH GE : FVec Ideal S10240x4 .f32) (R : Fin 10240) (q e : Fin 4) : gateV OH GE (ix3 R q e) = OH (ix2 R q) * GE (ix2 R e) := by
  unfold gateV
  rw [mul_at, at_this, at_other]

/-! ## The products -/

theorem flatV_at (x : FVec Ideal S10240x8x128 .f32) (R : Fin 10240) (c : Fin 1024) : flatV x (ix2 R c) = x (ix3 R (slabOf c) (laneOf c)) :=
  shapeCast_apply _ _ _ _ (by
    rw [Shape.rowMajor_val_two, Shape.rowMajor_val_three]
    have := c.isLt
    show (R.val * 8 + c.val / 128) * 128 + c.val % 128 = R.val * 1024 + c.val
    omega)

theorem lgV_at (x : FVec Ideal S10240x8x128 .f32) (wg : FVec Ideal S1024x4 .f32) (bg : FVec Ideal S4 .f32) (R : Fin 10240) (q : Fin 4) :
    lgV x wg bg (ix2 R q) = (∑ c : Fin 1024, x (ix3 R (slabOf c) (laneOf c)) * wg (ix2 c q)) + bg (ix1 q) := by
  unfold lgV
  rw [add_at, bcCols]
  refine congrArg (· + bg (ix1 q)) ?_
  refine (Ideal.dotGeneral_apply dot_S10240x1024_S1024x4_S10240x4_1_0_0_1_n_n none _ (flatV x) wg (ix2 R q)).trans ?_
  have hr : dot_S10240x1024_S1024x4_S10240x4_1_0_0_1_n_n.contr.rank = 1 := rfl
  have hs : dot_S10240x1024_S1024x4_S10240x4_1_0_0_1_n_n.contr.size ⟨0, by omega⟩ = 1024 := rfl
  rw [← Equiv.sum_comp (contrEquiv1 dot_S10240x1024_S1024x4_S10240x4_1_0_0_1_n_n 1024 hr hs).symm]
  refine Finset.sum_congr rfl fun c _ => ?_
  have hk := contrEquiv1_symm_val dot_S10240x1024_S1024x4_S10240x4_1_0_0_1_n_n 1024 hr hs c
  have el : dot_S10240x1024_S1024x4_S10240x4_1_0_0_1_n_n.lhsIdx (ix2 R q) ((contrEquiv1 dot_S10240x1024_S1024x4_S10240x4_1_0_0_1_n_n 1024 hr hs).symm c) = ix2 R c :=
    funext fun a => Fin.ext (by match a with | ⟨0, _⟩ => rfl | ⟨1, _⟩ => exact hk)
  have er : dot_S10240x1024_S1024x4_S10240x4_1_0_0_1_n_n.rhsIdx (ix2 R q) ((contrEquiv1 dot_S10240x1024_S1024x4_S10240x4_1_0_0_1_n_n 1024 hr hs).symm c) = ix2 c q :=
    funext fun a => Fin.ext (by match a with | ⟨0, _⟩ => exact hk | ⟨1, _⟩ => rfl)
  rw [el, er, flatV_at]

theorem allV_at (x : FVec Ideal S10240x8x128 .f32) (we : FVec Ideal S1024x4x4 .f32) (be : FVec Ideal S4x4 .f32) (R : Fin 10240) (q e : Fin 4) :
    allV x we be (ix3 R q e) = (∑ c : Fin 1024, x (ix3 R (slabOf c) (laneOf c)) * we (ix3 c q e)) + be (ix2 q e) := by
  unfold allV
  rw [add_at, at_layer]
  refine congrArg (· + be (ix2 q e)) ?_
  refine (Ideal.dotGeneral_apply dot_S10240x1024_S1024x4x4_S10240x4x4_1_0_0_12_n_n none _ (flatV x) we (ix3 R q e)).trans ?_
  have hr : dot_S10240x1024_S1024x4x4_S10240x4x4_1_0_0_12_n_n.contr.rank = 1 := rfl
  have hs : dot_S10240x1024_S1024x4x4_S10240x4x4_1_0_0_12_n_n.contr.size ⟨0, by omega⟩ = 1024 := rfl
  rw [← Equiv.sum_comp (contrEquiv1 dot_S10240x1024_S1024x4x4_S10240x4x4_1_0_0_12_n_n 1024 hr hs).symm]
  refine Finset.sum_congr rfl fun c _ => ?_
  have hk := contrEquiv1_symm_val dot_S10240x1024_S1024x4x4_S10240x4x4_1_0_0_12_n_n 1024 hr hs c
  have el : dot_S10240x1024_S1024x4x4_S10240x4x4_1_0_0_12_n_n.lhsIdx (ix3 R q e) ((contrEquiv1 dot_S10240x1024_S1024x4x4_S10240x4x4_1_0_0_12_n_n 1024 hr hs).symm c) = ix2 R c :=
    funext fun a => Fin.ext (by match a with | ⟨0, _⟩ => rfl | ⟨1, _⟩ => exact hk)
  have er : dot_S10240x1024_S1024x4x4_S10240x4x4_1_0_0_12_n_n.rhsIdx (ix3 R q e) ((contrEquiv1 dot_S10240x1024_S1024x4x4_S10240x4x4_1_0_0_12_n_n 1024 hr hs).symm c) = ix3 c q e :=
    funext fun a => Fin.ext (by match a with | ⟨0, _⟩ => exact hk | ⟨1, _⟩ => rfl | ⟨2, _⟩ => rfl)
  rw [el, er, flatV_at]

theorem dotV_at (X : FVec Ideal S10240x1024 .f32) (w : FVec Ideal S4x4x1024x512 .f32) (R : Fin 10240) (q e : Fin 4) (f : Fin 512) :
    dotV X w (ix4 R q e f) = ∑ c : Fin 1024, X (ix2 R c) * w (ix4 q e c f) := by
  unfold dotV
  refine (Ideal.dotGeneral_apply dot_S10240x1024_S4x4x1024x512_S10240x4x4x512_1_2_0_013_n_n none _ X w (ix4 R q e f)).trans ?_
  have hr : dot_S10240x1024_S4x4x1024x512_S10240x4x4x512_1_2_0_013_n_n.contr.rank = 1 := rfl
  have hs : dot_S10240x1024_S4x4x1024x512_S10240x4x4x512_1_2_0_013_n_n.contr.size ⟨0, by omega⟩ = 1024 := rfl
  rw [← Equiv.sum_comp (contrEquiv1 dot_S10240x1024_S4x4x1024x512_S10240x4x4x512_1_2_0_013_n_n 1024 hr hs).symm]
  refine Finset.sum_congr rfl fun c _ => ?_
  have hk := contrEquiv1_symm_val dot_S10240x1024_S4x4x1024x512_S10240x4x4x512_1_2_0_013_n_n 1024 hr hs c
  have el : dot_S10240x1024_S4x4x1024x512_S10240x4x4x512_1_2_0_013_n_n.lhsIdx (ix4 R q e f)
      ((contrEquiv1 dot_S10240x1024_S4x4x1024x512_S10240x4x4x512_1_2_0_013_n_n 1024 hr hs).symm c) = ix2 R c :=
    funext fun a => Fin.ext (by match a with | ⟨0, _⟩ => rfl | ⟨1, _⟩ => exact hk)
  have er : dot_S10240x1024_S4x4x1024x512_S10240x4x4x512_1_2_0_013_n_n.rhsIdx (ix4 R q e f)
      ((contrEquiv1 dot_S10240x1024_S4x4x1024x512_S10240x4x4x512_1_2_0_013_n_n 1024 hr hs).symm c) = ix4 q e c f :=
    funext fun a => Fin.ext (by match a with | ⟨0, _⟩ => rfl | ⟨1, _⟩ => rfl | ⟨2, _⟩ => exact hk | ⟨3, _⟩ => rfl)
  rw [el, er]

theorem siluV_at (Z : FVec Ideal S10240x4x4x512 .f32) (i : S10240x4x4x512.Idx) : siluV Z i = silu (Z i) := by
  unfold siluV silu
  rw [mul_at, div_at, add_at, exp_at, neg_at, bc0, show constant (F := Ideal) S_ .f32 0x3F800000#32 ValueIdx.ix0 = (1 : EReal) from Ideal.ofBits_one_f32]

theorem hidV_at (X : FVec Ideal S10240x1024 .f32) (w u : FVec Ideal S4x4x1024x512 .f32) (G : FVec Ideal S10240x4x4 .f32) (R : Fin 10240) (q e : Fin 4) (f : Fin 512) :
    hidV X w u G (ix4 R q e f) = Cert.GroupedIdeal.Grouped.hidden (fun c => X (ix2 R c)) (fun c f => w (ix4 q e c f)) (fun c f => u (ix4 q e c f)) f * G (ix3 R q e) := by
  unfold hidV Cert.GroupedIdeal.Grouped.hidden
  rw [mul_at, mul_at, siluV_at, dotV_at, dotV_at,
    broadcastInDim_apply _ bcast_S10240x4x4x1_S10240x4x4x512_0_1_2_3 _ (ix4 R q e f) (ix4 R q e (0 : Fin 1)) fun a => by match a with | ⟨0, _⟩ => rfl | ⟨1, _⟩ => rfl | ⟨2, _⟩ => rfl | ⟨3, _⟩ => rfl,
    broadcastInDim_apply _ bcast_S10240x4x4_S10240x4x4x1_0_1_2 G (ix4 R q e (0 : Fin 1)) (ix3 R q e) fun a => by match a with | ⟨0, _⟩ => rfl | ⟨1, _⟩ => rfl | ⟨2, _⟩ => rfl]

/-! ## The last product contracts an expert, a hidden value and a group. -/

/-- A contraction index of three axes is the triple of its coordinates. -/
def triple {sl sr so : Shape} (D : DotDims sl sr so) (a b c : ℕ) (hr : D.contr.rank = 3) (h0 : D.contr.size ⟨0, by omega⟩ = a) (h1 : D.contr.size ⟨1, by omega⟩ = b)
    (h2 : D.contr.size ⟨2, by omega⟩ = c) : D.contr.Idx ≃ Fin a × Fin b × Fin c where
  toFun q := ((q ⟨0, by omega⟩).cast h0, (q ⟨1, by omega⟩).cast h1, (q ⟨2, by omega⟩).cast h2)
  invFun p := fun e =>
    if he : e.val = 0 then p.1.cast (h0.symm.trans (congrArg D.contr.size (Fin.ext he.symm)))
    else if he' : e.val = 1 then p.2.1.cast (h1.symm.trans (congrArg D.contr.size (Fin.ext he'.symm)))
    else p.2.2.cast (h2.symm.trans (congrArg D.contr.size (Fin.ext (by have := e.isLt; show 2 = e.val; omega))))
  left_inv q := by
    have p0 : 0 < D.contr.rank := by omega
    have p1 : 1 < D.contr.rank := by omega
    have p2 : 2 < D.contr.rank := by omega
    funext e
    by_cases he : e.val = 0
    · obtain rfl : e = ⟨0, p0⟩ := Fin.ext he
      simp
    · by_cases he' : e.val = 1
      · obtain rfl : e = ⟨1, p1⟩ := Fin.ext he'
        simp
      · obtain rfl : e = ⟨2, p2⟩ := Fin.ext (by have := e.isLt; show e.val = 2; omega)
        simp
  right_inv p := by
    refine Prod.ext (Fin.ext ?_) (Prod.ext (Fin.ext ?_) (Fin.ext ?_)) <;> simp

theorem triple_0 {sl sr so : Shape} (D : DotDims sl sr so) (a b c : ℕ) (hr : D.contr.rank = 3) (h0 : D.contr.size ⟨0, by omega⟩ = a) (h1 : D.contr.size ⟨1, by omega⟩ = b)
    (h2 : D.contr.size ⟨2, by omega⟩ = c) (p : Fin a × Fin b × Fin c) : (((triple D a b c hr h0 h1 h2).symm p) ⟨0, by omega⟩ : ℕ) = p.1.val := by
  simp [triple]
theorem triple_1 {sl sr so : Shape} (D : DotDims sl sr so) (a b c : ℕ) (hr : D.contr.rank = 3) (h0 : D.contr.size ⟨0, by omega⟩ = a) (h1 : D.contr.size ⟨1, by omega⟩ = b)
    (h2 : D.contr.size ⟨2, by omega⟩ = c) (p : Fin a × Fin b × Fin c) : (((triple D a b c hr h0 h1 h2).symm p) ⟨1, by omega⟩ : ℕ) = p.2.1.val := by
  simp [triple]
theorem triple_2 {sl sr so : Shape} (D : DotDims sl sr so) (a b c : ℕ) (hr : D.contr.rank = 3) (h0 : D.contr.size ⟨0, by omega⟩ = a) (h1 : D.contr.size ⟨1, by omega⟩ = b)
    (h2 : D.contr.size ⟨2, by omega⟩ = c) (p : Fin a × Fin b × Fin c) : (((triple D a b c hr h0 h1 h2).symm p) ⟨2, by omega⟩ : ℕ) = p.2.2.val := by
  simp [triple]

theorem resV_at (H : FVec Ideal S10240x4x4x512 .f32) (w : FVec Ideal S4x4x512x1024 .f32) (R : Fin 10240) (s : Fin 8) (l : Fin 128) :
    resV H w (ix3 R s l) = ∑ e : Fin 4, ∑ f : Fin 512, ∑ q : Fin 4, H (ix4 R q e f) * w (ix4 q e f (colOf s l)) := by
  unfold resV
  refine (shapeCast_apply _ _ _ (ix2 R (colOf s l)) (by
    rw [Shape.rowMajor_val_two, Shape.rowMajor_val_three]
    show R.val * 1024 + (128 * s.val + l.val) = (R.val * 8 + s.val) * 128 + l.val
    omega)).trans ?_
  refine (Ideal.dotGeneral_apply dot_S10240x4x4x512_S4x4x512x1024_S10240x1024_231_120_0_3_n_n none _ H w (ix2 R (colOf s l))).trans ?_
  have hr : dot_S10240x4x4x512_S4x4x512x1024_S10240x1024_231_120_0_3_n_n.contr.rank = 3 := rfl
  have h0 : dot_S10240x4x4x512_S4x4x512x1024_S10240x1024_231_120_0_3_n_n.contr.size ⟨0, by omega⟩ = 4 := rfl
  have h1 : dot_S10240x4x4x512_S4x4x512x1024_S10240x1024_231_120_0_3_n_n.contr.size ⟨1, by omega⟩ = 512 := rfl
  have h2 : dot_S10240x4x4x512_S4x4x512x1024_S10240x1024_231_120_0_3_n_n.contr.size ⟨2, by omega⟩ = 4 := rfl
  rw [← Equiv.sum_comp (triple dot_S10240x4x4x512_S4x4x512x1024_S10240x1024_231_120_0_3_n_n 4 512 4 hr h0 h1 h2).symm, Fintype.sum_prod_type]
  refine Finset.sum_congr rfl fun e _ => ?_
  rw [Fintype.sum_prod_type]
  refine Finset.sum_congr rfl fun f _ => Finset.sum_congr rfl fun q _ => ?_
  have k0 := triple_0 dot_S10240x4x4x512_S4x4x512x1024_S10240x1024_231_120_0_3_n_n 4 512 4 hr h0 h1 h2 (e, f, q)
  have k1 := triple_1 dot_S10240x4x4x512_S4x4x512x1024_S10240x1024_231_120_0_3_n_n 4 512 4 hr h0 h1 h2 (e, f, q)
  have k2 := triple_2 dot_S10240x4x4x512_S4x4x512x1024_S10240x1024_231_120_0_3_n_n 4 512 4 hr h0 h1 h2 (e, f, q)
  have el : dot_S10240x4x4x512_S4x4x512x1024_S10240x1024_231_120_0_3_n_n.lhsIdx (ix2 R (colOf s l))
      ((triple dot_S10240x4x4x512_S4x4x512x1024_S10240x1024_231_120_0_3_n_n 4 512 4 hr h0 h1 h2).symm (e, f, q)) = ix4 R q e f :=
    funext fun a => Fin.ext (by match a with | ⟨0, _⟩ => rfl | ⟨1, _⟩ => exact k2 | ⟨2, _⟩ => exact k0 | ⟨3, _⟩ => exact k1)
  have er : dot_S10240x4x4x512_S4x4x512x1024_S10240x1024_231_120_0_3_n_n.rhsIdx (ix2 R (colOf s l))
      ((triple dot_S10240x4x4x512_S4x4x512x1024_S10240x1024_231_120_0_3_n_n 4 512 4 hr h0 h1 h2).symm (e, f, q)) = ix4 q e f (colOf s l) :=
    funext fun a => Fin.ext (by match a with | ⟨0, _⟩ => exact k2 | ⟨1, _⟩ => exact k0 | ⟨2, _⟩ => exact k1 | ⟨3, _⟩ => rfl)
  rw [el, er]

/-! ## The result at an index -/

/-- The logits of a row `X` for the four columns of a table, -/
def logits (X : Fin 1024 → EReal) (w : Fin 1024 → Fin 4 → EReal) (b : Fin 4 → EReal) (q : Fin 4) : EReal := (∑ c, X c * w c q) + b q
/-- the probability of a group, -/
def prob (l : Fin 4 → EReal) (o : Fin 4) : EReal := Ideal.div (Ideal.exp (l o - Gate.top l)) (∑ q, Ideal.exp (l q - Gate.top l))
/-- and what an expert adds to a row at a column. -/
def share (X : Fin 1024 → EReal) (w u : Fin 1024 → Fin 512 → EReal) (d : Fin 512 → EReal) (t : EReal) : EReal := ∑ f, Cert.GroupedIdeal.Grouped.hidden X w u f * t * d f

section Result

variable (g : IVec S8192x128 32) (x : FVec Ideal S10240x8x128 .f32) (wg : FVec Ideal S1024x4 .f32) (bg : FVec Ideal S4 .f32) (we : FVec Ideal S1024x4x4 .f32) (be : FVec Ideal S4x4 .f32)
  (w u : FVec Ideal S4x4x1024x512 .f32) (d : FVec Ideal S4x4x512x1024 .f32)
  (k : ℕ → ℕ) (hg : ∀ t : Fin 8192, g (ix2 t (0 : Fin 128)) = BitVec.ofNat 32 (k t.val)) (hk : ∀ t, t < 8192 → k t < 4)
include hg hk

theorem out_at (R : Fin 10240) (s : Fin 8) (l : Fin 128) (o : Fin 4) (ho : owner k (R.val / 512) = o.val) :
    outV g x wg bg we be w u d (ix3 R s l) = ∑ e : Fin 4, share (fun c => x (ix3 R (slabOf c) (laneOf c))) (fun c f => w (ix4 o e c f)) (fun c f => u (ix4 o e c f)) (fun f => d (ix4 o e f (colOf s l)))
      (Gate.gate (prob (logits (fun c => x (ix3 R (slabOf c) (laneOf c))) (fun c q => wg (ix2 c q)) fun q => bg (ix1 q)) o)
        (logits (fun c => x (ix3 R (slabOf c) (laneOf c))) (fun c e => we (ix3 c o e)) fun e => be (ix2 o e)) e) := by
  have hh : ∀ q : Fin 4, hotV (F := Ideal) g (ix2 R q) = if q.val = o.val then (1 : EReal) else 0 := fun q => by rw [hotV_at g k hg hk, ho]
  have hle : (fun e => leV (allV x we be) (hotV g) (ix2 R e)) = logits (fun c => x (ix3 R (slabOf c) (laneOf c))) (fun c e => we (ix3 c o e)) fun e => be (ix2 o e) :=
    funext fun e => (leV_at _ _ R o.val o.isLt hh e).trans (allV_at x we be R o e)
  have hlg : (fun q => lgV x wg bg (ix2 R q)) = logits (fun c => x (ix3 R (slabOf c) (laneOf c))) (fun c q => wg (ix2 c q)) fun q => bg (ix1 q) :=
    funext fun q => lgV_at x wg bg R q
  have hp : pV (lgV x wg bg) (hotV g) (ix2 R (0 : Fin 1)) = prob (logits (fun c => x (ix3 R (slabOf c) (laneOf c))) (fun c q => wg (ix2 c q)) fun q => bg (ix1 q)) o := by
    rw [← hlg]
    exact pV_at _ _ R o.val o.isLt hh
  unfold outV
  rw [resV_at]
  refine Finset.sum_congr rfl fun e _ => Finset.sum_congr rfl fun f _ => ?_
  rw [Finset.sum_eq_single o]
  · rw [hidV_at, gateV_at, ownGateV_at, hh o, if_pos rfl, one_mul, hle, hp]
    simp only [flatV_at]
  · intro q _ hq
    rw [hidV_at, gateV_at, hh q, if_neg fun h => hq (Fin.ext h), zero_mul, mul_zero, zero_mul]
  · intro h
    exact absurd (Finset.mem_univ _) h

theorem out_none (R : Fin 10240) (s : Fin 8) (l : Fin 128) (ho : owner k (R.val / 512) = 4) : outV g x wg bg we be w u d (ix3 R s l) = 0 := by
  have hh : ∀ q : Fin 4, hotV (F := Ideal) g (ix2 R q) = 0 := fun q => by
    have := q.isLt
    rw [hotV_at g k hg hk, ho, if_neg (by omega)]
  unfold outV
  rw [resV_at]
  refine Finset.sum_eq_zero fun e _ => Finset.sum_eq_zero fun f _ => Finset.sum_eq_zero fun q _ => ?_
  rw [hidV_at, gateV_at, hh q, zero_mul, mul_zero, zero_mul]

end Result

end Cert.GroupedRefIdeal.Grouped

end
-- ==== Proof.GroupedRow.lean ====
/- A row's gates as the expert call computes them, on the router's 128 lanes, are the gates of its group's experts. -/
module

public import proofs.«01_k».proof.Proof.GroupedTile
public import proofs.«01_k».proof.Proof.GroupedShare
public import proofs.«01_k».proof.Proof.GroupedHost
public import proofs.«01_k».proof.Proof.GroupedRefRow

@[expose] public section

noncomputable section

namespace Cert.GroupedIdeal.Grouped

open Cert.GroupedIdeal Cert.GroupedIdeal.Gen
open Cert.GroupedRefIdeal.Grouped (logits)
open Idealize.ShloMosaic TcCoe
open Idealize.ShloMosaic.ValueIdx

/-- What every lane of the router holds. -/
def lanesOf (X : Fin 1024 → EReal) (wr : Vec Ideal S1024x128 .f32) (br : Vec Ideal S1x128 .f32) (j : Fin 128) : EReal :=
  (∑ c : Fin 1024, X c * wr (ix2 c j)) + br (ix2 (0 : Fin 1) j)

section Router

variable (X : Fin 1024 → EReal) (wg : Vec Ideal S1024x4 .f32) (bg : Vec Ideal S4 .f32) (we : Vec Ideal S1024x4x4 .f32) (be : Vec Ideal S4x4 .f32)

theorem lanes_group (q : Fin 4) : lanesOf X (wrV wg we) (brV bg be) (q.castLE (by decide)) = logits X (fun c q => wg (ix2 c q)) (fun q => bg (ix1 q)) q := by
  unfold lanesOf logits
  rw [brV_group]
  exact congrArg (· + bg (ix1 q)) (Finset.sum_congr rfl fun c _ => congrArg (X c * ·) (wrV_group wg we c q))

theorem lanes_expert (o e : Fin 4) : lanesOf X (wrV wg we) (brV bg be) (laneE o e) = logits X (fun c e => we (ix3 c o e)) (fun e => be (ix2 o e)) e := by
  unfold lanesOf logits
  rw [brV_expert]
  exact congrArg (· + be (ix2 o e)) (Finset.sum_congr rfl fun c _ => congrArg (X c * ·) (wrV_expert wg we c o e))

theorem four_top : Gate.top (four (lanesOf X (wrV wg we) (brV bg be))) = Gate.top (logits X (fun c q => wg (ix2 c q)) (fun q => bg (ix1 q))) :=
  Gate.top_lanes _ _ (fun q => (if_pos q.isLt).trans (lanes_group X wg bg we be q)) fun j hj => if_neg (Nat.not_lt.2 hj)

theorem prob_lanes (o : Fin 4) : prob o.val (lanesOf X (wrV wg we) (brV bg be)) = Cert.GroupedRefIdeal.Grouped.prob (logits X (fun c q => wg (ix2 c q)) (fun q => bg (ix1 q))) o := by
  have h1 : (∑ j : Fin 128, if j.val = o.val then lanesOf X (wrV wg we) (brV bg be) j else 0) = logits X (fun c q => wg (ix2 c q)) (fun q => bg (ix1 q)) o := by
    rw [Finset.sum_eq_single (o.castLE (by decide) : Fin 128)]
    · exact (if_pos rfl).trans (lanes_group X wg bg we be o)
    · intro j _ hj
      exact if_neg fun h => hj (Fin.ext h)
    · intro h
      exact absurd (Finset.mem_univ _) h
  have h2 : (∑ j : Fin 128, Ideal.exp (four (lanesOf X (wrV wg we) (brV bg be)) j - Gate.top (logits X (fun c q => wg (ix2 c q)) (fun q => bg (ix1 q)))))
      = ∑ q : Fin 4, Ideal.exp (logits X (fun c q => wg (ix2 c q)) (fun q => bg (ix1 q)) q - Gate.top (logits X (fun c q => wg (ix2 c q)) (fun q => bg (ix1 q)))) := by
    refine Gate.sum_lanes _ _ (fun q => ?_) fun j hj => ?_
    · rw [show four (lanesOf X (wrV wg we) (brV bg be)) (q.castLE (by decide)) = _ from (if_pos q.isLt).trans (lanes_group X wg bg we be q)]
    · rw [show four (lanesOf X (wrV wg we) (brV bg be)) j = ⊥ from if_neg (Nat.not_lt.2 hj), EReal.bot_sub]
      rfl
  unfold prob Cert.GroupedRefIdeal.Grouped.prob
  rw [h1, four_top, h2]

theorem gate_lanes (p : EReal) (o e : Fin 4)
    (hbot : ∀ e, logits X (fun c e => we (ix3 c o e)) (fun e => be (ix2 o e)) e ≠ ⊥) (htop : ∀ e, logits X (fun c e => we (ix3 c o e)) (fun e => be (ix2 o e)) e ≠ ⊤) :
    Gate.laneGate p (own o.val (lanesOf X (wrV wg we) (brV bg be))) (laneE o e) = Gate.gate p (logits X (fun c e => we (ix3 c o e)) (fun e => be (ix2 o e))) e := by
  have ho := o.isLt
  refine Gate.laneGate_eq p _ _ (laneE o) (fun {e e'} => ?_) (fun e => ?_) hbot htop (fun j hj => ?_) e
  · show 4 + 4 * o.val + e.val < 4 + 4 * o.val + e'.val ↔ e.val < e'.val
    omega
  · have he := e.isLt
    refine (if_pos ?_).trans (lanes_expert X wg bg we be o e)
    show 4 + 4 * o.val ≤ 4 + 4 * o.val + e.val ∧ 4 + 4 * o.val + e.val < 8 + 4 * o.val
    omega
  · refine if_neg fun h => ?_
    exact hj ⟨j.val - (4 + 4 * o.val), by omega⟩ (Fin.ext (by show j.val = 4 + 4 * o.val + (j.val - (4 + 4 * o.val)); omega))

/-- A tile's gates at a row. -/
theorem gates_row (x : Vec Ideal S512x8x128 .f32) (r : Fin 512) (hX : ∀ c, x (ix3 r (slabOf c) (laneOf c)) = X c) (o e : Fin 4)
    (hbot : ∀ e, logits X (fun c e => we (ix3 c o e)) (fun e => be (ix2 o e)) e ≠ ⊥) (htop : ∀ e, logits X (fun c e => we (ix3 c o e)) (fun e => be (ix2 o e)) e ≠ ⊤) :
    gates x (wrV wg we) (brV bg be) (BitVec.ofNat 32 o.val) (ix2 r (laneE o e))
      = Gate.gate (Cert.GroupedRefIdeal.Grouped.prob (logits X (fun c q => wg (ix2 c q)) (fun q => bg (ix1 q))) o) (logits X (fun c e => we (ix3 c o e)) (fun e => be (ix2 o e))) e := by
  have hL : (fun j => (∑ c : Fin 1024, wide x (ix2 r c) * wrV wg we (ix2 c j)) + brV bg be (ix2 (0 : Fin 1) j)) = lanesOf X (wrV wg we) (brV bg be) := by
    funext j
    unfold lanesOf
    exact congrArg (· + brV bg be (ix2 (0 : Fin 1) j)) (Finset.sum_congr rfl fun c _ => congrArg (· * wrV wg we (ix2 c j)) ((wide_at x r c).trans (hX c)))
  rw [gates_at o.val (by have := o.isLt; omega), hL, prob_lanes, gate_lanes X wg bg we be _ o e hbot htop]

end Router

end Cert.GroupedIdeal.Grouped

end
-- ==== Proof.GroupedReads.lean ====
/- What the expert call's windows read at each point: the tile's rows, the router, the group's experts. -/
module

public import proofs.«01_k».proof.Proof.GroupedRoute
public import proofs.«01_k».proof.Proof.GroupedHost

@[expose] public section

set_option maxRecDepth 16384

noncomputable section

namespace Cert.GroupedIdeal.Grouped

open Cert.GroupedIdeal Cert.GroupedIdeal.Gen
open Idealize.ShloMosaic TcCoe
open Idealize.ShloMosaic.ValueIdx Idealize.ShloMosaic.WordCmp

/-! ## The blocks a point reads -/

/-- An expert's block of weights laid one after the other. -/
theorem expert_at {α : Type} {a b : ℕ} (w : (Shape.mk 4 ![4, 4, a, b]).Idx → α) (h : (Shape.mk 4 ![4, 4, a, b]).ShapeCasts (Shape.mk 3 ![16, a, b])) (o e : Fin 4) (p : Fin 16)
    (hp : p.val = 4 * o.val + e.val) (x : Fin a) (y : Fin b) : shapeCast (Shape.mk 3 ![16, a, b]) w h (ix3 p x y) = w (ix4 o e x y) :=
  shapeCast_apply _ _ _ _ (by
    rw [Shape.rowMajor_val_four, Shape.rowMajor_val_three]
    show ((o.val * 4 + e.val) * a + x.val) * b + y.val = (p.val * a + x.val) * b + y.val
    rw [hp, Nat.mul_comm o.val 4])

variable (m : (ℓ : Loc nD τ sig) → Buf (Elt Ideal) ℓ) (hok : Ok m) (c : Dev nD)

/-- The routing, and the tiles that hold rows. -/
abbrev gid : IVec S8192x128 32 := m (((0 : Dev nD).tc : Thread nD τ).loc main_arg0)
def live : ℕ := upto (groupOf (gid m)) 3

variable (hr : InRange (gid m))

section Reads

include hr

theorem index_0 (t : Fin grid0.N) : ((cfgA m hok).win 0).index t = ![min (t.val / 4) (live m - 1), 0, 0] := by
  refine (transform_0 (fun k => V m 0 (pre0.ref k)) (gid m) (tg_eq m 0) (nt_eq m 0) hr (grid0.coords t)).trans ?_
  rw [coords_0]
  rfl

theorem index_3 (t : Fin grid0.N) : ((cfgA m hok).win 3).index t
    = ![4 * owner (groupOf (gid m)) (min (t.val / 4) (live m - 1)) + (if t.val / 4 < live m then t.val % 4 else 3), 0, 0] := by
  refine (transform_3 (fun k => V m 0 (pre0.ref k)) (gid m) (tg_eq m 0) (nt_eq m 0) hr (grid0.coords t)).trans ?_
  rw [coords_0, coords_1]
  rfl

theorem index_4 (t : Fin grid0.N) : ((cfgA m hok).win 4).index t
    = ![4 * owner (groupOf (gid m)) (min (t.val / 4) (live m - 1)) + (if t.val / 4 < live m then t.val % 4 else 3), 0, 0] := by
  refine (transform_4 (fun k => V m 0 (pre0.ref k)) (gid m) (tg_eq m 0) (nt_eq m 0) hr (grid0.coords t)).trans ?_
  rw [coords_0, coords_1]
  rfl

theorem index_5 (t : Fin grid0.N) : ((cfgA m hok).win 5).index t
    = ![4 * owner (groupOf (gid m)) (min (t.val / 4) (live m - 1)) + (if t.val / 4 < live m then t.val % 4 else 3), 0, 0] := by
  refine (transform_5 (fun k => V m 0 (pre0.ref k)) (gid m) (tg_eq m 0) (nt_eq m 0) hr (grid0.coords t)).trans ?_
  rw [coords_0, coords_1]
  rfl

theorem read_0 (t : Fin grid0.N) (hl : t.val / 4 < live m) (r : Fin 512) (s : Fin 8) (l : Fin 128) (R : Fin 10240) (hR : R.val = t.val / 4 * 512 + r.val) :
    bx m hok c t (ix3 r s l) = m ((c.tc : Thread nD τ).loc main_arg1) (ix3 R s l) := by
  show V m c main_arg1 ((((cfgA m hok).win 0).rect t).emb (ix3 r s l)) = _
  rw [V_arg m c main_arg1 (by decide)]
  have hi := index_0 m hok hr t
  refine congrArg (m ((c.tc : Thread nD τ).loc main_arg1)) (funext fun b => Fin.ext ?_)
  match b with
  | ⟨0, _⟩ =>
    refine (Pipeline.Window.rect_emb_val ((cfgA m hok).win 0) t (ix3 r s l) (0 : Fin 3)).trans ?_
    rw [hi]
    show min (t.val / 4) (live m - 1) * 512 + r.val = R.val
    rw [hR, Nat.min_eq_left (by omega)]
  | ⟨1, _⟩ => exact Pipeline.Window.rect_emb_val_of_index_zero ((cfgA m hok).win 0) t (1 : Fin 3) (by rw [hi]; rfl) (ix3 r s l)
  | ⟨2, _⟩ => exact Pipeline.Window.rect_emb_val_of_index_zero ((cfgA m hok).win 0) t (2 : Fin 3) (by rw [hi]; rfl) (ix3 r s l)

omit hr in
theorem read_1 (t : Fin grid0.N) : bwr m hok c t = wrV (m ((c.tc : Thread nD τ).loc main_arg2)) (m ((c.tc : Thread nD τ).loc main_arg4)) := by
  funext y
  show V m c main_v46 ((((cfgA m hok).win 1).rect t).emb y) = _
  rw [wr_eq]
  refine congrArg (wrV (m ((c.tc : Thread nD τ).loc main_arg2)) (m ((c.tc : Thread nD τ).loc main_arg4))) (funext fun b => Fin.ext ?_)
  match b with
  | ⟨0, _⟩ => exact Pipeline.Window.rect_emb_val_of_index_zero ((cfgA m hok).win 1) t (0 : Fin 2) rfl y
  | ⟨1, _⟩ => exact Pipeline.Window.rect_emb_val_of_index_zero ((cfgA m hok).win 1) t (1 : Fin 2) rfl y

omit hr in
theorem read_2 (t : Fin grid0.N) : bbr m hok c t = brV (m ((c.tc : Thread nD τ).loc main_arg3)) (m ((c.tc : Thread nD τ).loc main_arg5)) := by
  funext y
  show V m c main_v56 ((((cfgA m hok).win 2).rect t).emb y) = _
  rw [br_eq]
  refine congrArg (brV (m ((c.tc : Thread nD τ).loc main_arg3)) (m ((c.tc : Thread nD τ).loc main_arg5))) (funext fun b => Fin.ext ?_)
  match b with
  | ⟨0, _⟩ => exact Pipeline.Window.rect_emb_val_of_index_zero ((cfgA m hok).win 2) t (0 : Fin 2) rfl y
  | ⟨1, _⟩ => exact Pipeline.Window.rect_emb_val_of_index_zero ((cfgA m hok).win 2) t (1 : Fin 2) rfl y

variable (o : Fin 4)

theorem read_3 (t : Fin grid0.N) (hl : t.val / 4 < live m) (ho : owner (groupOf (gid m)) (t.val / 4) = o.val) (e : Fin 4) (he : t.val % 4 = e.val) (x : Fin 1024) (y : Fin 512) :
    bwg m hok c t (ix3 (0 : Fin 1) x y) = m ((c.tc : Thread nD τ).loc main_arg6) (ix4 o e x y) := by
  show V m c main_v57 ((((cfgA m hok).win 3).rect t).emb (ix3 (0 : Fin 1) x y)) = _
  rw [(w_eq m c).1]
  have hi := index_3 m hok hr t
  rw [if_pos hl, Nat.min_eq_left (by omega), ho, he] at hi
  refine Eq.trans (congrArg _ (a₂ := ix3 (⟨4 * o.val + e.val, by have := o.isLt; have := e.isLt; omega⟩ : Fin 16) x y) (funext fun b => Fin.ext ?_)) (expert_at _ _ o e _ rfl x y)
  match b with
  | ⟨0, _⟩ =>
    refine (Pipeline.Window.rect_emb_val ((cfgA m hok).win 3) t (ix3 (0 : Fin 1) x y) (0 : Fin 3)).trans ?_
    rw [hi]
    show (4 * o.val + e.val) * 1 + 0 = 4 * o.val + e.val
    omega
  | ⟨1, _⟩ => exact Pipeline.Window.rect_emb_val_of_index_zero ((cfgA m hok).win 3) t (1 : Fin 3) (by rw [hi]; rfl) (ix3 (0 : Fin 1) x y)
  | ⟨2, _⟩ => exact Pipeline.Window.rect_emb_val_of_index_zero ((cfgA m hok).win 3) t (2 : Fin 3) (by rw [hi]; rfl) (ix3 (0 : Fin 1) x y)

theorem read_4 (t : Fin grid0.N) (hl : t.val / 4 < live m) (ho : owner (groupOf (gid m)) (t.val / 4) = o.val) (e : Fin 4) (he : t.val % 4 = e.val) (x : Fin 1024) (y : Fin 512) :
    bwu m hok c t (ix3 (0 : Fin 1) x y) = m ((c.tc : Thread nD τ).loc main_arg7) (ix4 o e x y) := by
  show V m c main_v58 ((((cfgA m hok).win 4).rect t).emb (ix3 (0 : Fin 1) x y)) = _
  rw [(w_eq m c).2.1]
  have hi := index_4 m hok hr t
  rw [if_pos hl, Nat.min_eq_left (by omega), ho, he] at hi
  refine Eq.trans (congrArg _ (a₂ := ix3 (⟨4 * o.val + e.val, by have := o.isLt; have := e.isLt; omega⟩ : Fin 16) x y) (funext fun b => Fin.ext ?_)) (expert_at _ _ o e _ rfl x y)
  match b with
  | ⟨0, _⟩ =>
    refine (Pipeline.Window.rect_emb_val ((cfgA m hok).win 4) t (ix3 (0 : Fin 1) x y) (0 : Fin 3)).trans ?_
    rw [hi]
    show (4 * o.val + e.val) * 1 + 0 = 4 * o.val + e.val
    omega
  | ⟨1, _⟩ => exact Pipeline.Window.rect_emb_val_of_index_zero ((cfgA m hok).win 4) t (1 : Fin 3) (by rw [hi]; rfl) (ix3 (0 : Fin 1) x y)
  | ⟨2, _⟩ => exact Pipeline.Window.rect_emb_val_of_index_zero ((cfgA m hok).win 4) t (2 : Fin 3) (by rw [hi]; rfl) (ix3 (0 : Fin 1) x y)

theorem read_5 (t : Fin grid0.N) (hl : t.val / 4 < live m) (ho : owner (groupOf (gid m)) (t.val / 4) = o.val) (e : Fin 4) (he : t.val % 4 = e.val) (x : Fin 512) (y : Fin 1024) :
    bwd m hok c t (ix3 (0 : Fin 1) x y) = m ((c.tc : Thread nD τ).loc main_arg8) (ix4 o e x y) := by
  show V m c main_v59 ((((cfgA m hok).win 5).rect t).emb (ix3 (0 : Fin 1) x y)) = _
  rw [(w_eq m c).2.2]
  have hi := index_5 m hok hr t
  rw [if_pos hl, Nat.min_eq_left (by omega), ho, he] at hi
  refine Eq.trans (congrArg _ (a₂ := ix3 (⟨4 * o.val + e.val, by have := o.isLt; have := e.isLt; omega⟩ : Fin 16) x y) (funext fun b => Fin.ext ?_)) (expert_at _ _ o e _ rfl x y)
  match b with
  | ⟨0, _⟩ =>
    refine (Pipeline.Window.rect_emb_val ((cfgA m hok).win 5) t (ix3 (0 : Fin 1) x y) (0 : Fin 3)).trans ?_
    rw [hi]
    show (4 * o.val + e.val) * 1 + 0 = 4 * o.val + e.val
    omega
  | ⟨1, _⟩ => exact Pipeline.Window.rect_emb_val_of_index_zero ((cfgA m hok).win 5) t (1 : Fin 3) (by rw [hi]; rfl) (ix3 (0 : Fin 1) x y)
  | ⟨2, _⟩ => exact Pipeline.Window.rect_emb_val_of_index_zero ((cfgA m hok).win 5) t (2 : Fin 3) (by rw [hi]; rfl) (ix3 (0 : Fin 1) x y)

end Reads

end Cert.GroupedIdeal.Grouped

end
-- ==== Proof.GroupedValue.lean ====
/- The expert call's buffer at the end is the plain expert layer, on routings into the four groups and finite logits. -/
module

public import proofs.«01_k».proof.Proof.GroupedRow
public import proofs.«01_k».proof.Proof.GroupedReads

@[expose] public section

set_option maxRecDepth 16384

noncomputable section

namespace Cert.GroupedIdeal.Grouped

open Cert.GroupedIdeal Cert.GroupedIdeal.Gen
open Cert.GroupedRefIdeal.Grouped (logits outV out_at out_none)
open Idealize.ShloMosaic TcCoe
open Idealize.ShloMosaic.ValueIdx Idealize.ShloMosaic.WordCmp

variable (m : (ℓ : Loc nD τ sig) → Buf (Elt Ideal) ℓ) (hok : Ok m) (c : Dev nD) (hr : InRange (gid m))

/-! ## A tile that holds rows -/

/-- A row's entries, and its experts' logits in group `o`. -/
abbrev rowX (R : Fin 10240) (k : Fin 1024) : EReal := m ((c.tc : Thread nD τ).loc main_arg1) (ix3 R (slabOf k) (laneOf k))
abbrev rowL (R : Fin 10240) (o : Fin 4) : Fin 4 → EReal :=
  logits (rowX m c R) (fun k e => m ((c.tc : Thread nD τ).loc main_arg4) (ix3 k o e)) fun e => m ((c.tc : Thread nD τ).loc main_arg5) (ix2 o e)
/-- What expert `e` of group `o` adds to row `R` at column `d`. -/
abbrev gain (R : Fin 10240) (d : Fin 1024) (o e : Fin 4) : EReal :=
  Cert.GroupedRefIdeal.Grouped.share (rowX m c R) (fun k f => m ((c.tc : Thread nD τ).loc main_arg6) (ix4 o e k f)) (fun k f => m ((c.tc : Thread nD τ).loc main_arg7) (ix4 o e k f))
    (fun f => m ((c.tc : Thread nD τ).loc main_arg8) (ix4 o e f d))
    (Gate.gate (Cert.GroupedRefIdeal.Grouped.prob (logits (rowX m c R) (fun k q => m ((c.tc : Thread nD τ).loc main_arg2) (ix2 k q)) fun q => m ((c.tc : Thread nD τ).loc main_arg3) (ix1 q)) o)
      (rowL m c R o) e)

section Tile

variable (t : Fin grid0.N) (hl : t.val / 4 < live m) (o : Fin 4) (ho : owner (groupOf (gid m)) (t.val / 4) = o.val)
include hr hl ho

theorem group_word : group (tg m c) (grid0.coords t) = BitVec.ofNat 32 o.val := by
  obtain rfl := Subsingleton.elim c 0
  rw [tg_eq]
  refine (group_val (gid m) _ (groupOf_at _) (groupOf_lt hr) (grid0.coords t)).trans ?_
  rw [coords_0, Nat.min_eq_left (by have hl' : t.val / 4 < upto (groupOf (gid m)) 3 := hl; omega), ho]

variable (r : Fin 512) (R : Fin 10240) (hR : R.val = t.val / 4 * 512 + r.val)
include hR

theorem row_at (k : Fin 1024) : row m hok c t (ix2 r k) = rowX m c R k := by
  unfold row
  refine (rows_at _ r k).trans ?_
  have hb : (base t).val / 4 = t.val / 4 := by show 4 * (t.val / 4) / 4 = t.val / 4; omega
  exact read_0 m hok c hr (base t) (by rw [hb]; exact hl) r _ _ R (by rw [hb]; exact hR)

variable (hbot : ∀ e, rowL m c R o e ≠ ⊥) (htop : ∀ e, rowL m c R o e ≠ ⊤)
include hbot htop

theorem gat_at (e : Fin 4) : gat m hok c t (ix2 r (laneE o e))
    = Gate.gate (Cert.GroupedRefIdeal.Grouped.prob (logits (rowX m c R) (fun k q => m ((c.tc : Thread nD τ).loc main_arg2) (ix2 k q)) fun q => m ((c.tc : Thread nD τ).loc main_arg3) (ix1 q)) o)
      (rowL m c R o) e := by
  have hb : (base t).val / 4 = t.val / 4 := by show 4 * (t.val / 4) / 4 = t.val / 4; omega
  unfold gat
  rw [read_1, read_2, group_word m c hr (base t) (by rw [hb]; exact hl) o (by rw [hb]; exact ho)]
  exact gates_row (rowX m c R) _ _ _ _ _ r (fun k => read_0 m hok c hr (base t) (by rw [hb]; exact hl) r _ _ R (by rw [hb]; exact hR)) o e hbot htop

theorem plus_row (e : Fin 4) (he : t.val % 4 = e.val) (A : Vec Ideal S512x1024 .f32) (d : Fin 1024) :
    plus (grid0.coords t) (group (tg m c) (grid0.coords t)) (bwg m hok c t) (bwu m hok c t) (bwd m hok c t) A (gat m hok c t) (row m hok c t) (ix2 r d) = A (ix2 r d) + gain m c R d o e := by
  have ho3 : o.val ≤ 3 := by have := o.isLt; omega
  have he3 : e.val ≤ 3 := by have := e.isLt; omega
  rw [group_word m c hr t hl o ho, plus_at (grid0.coords t) o.val e.val ho3 he3 ((coords_1 t).trans he)]
  have hX : (fun k => row m hok c t (ix2 r k)) = rowX m c R := funext fun k => row_at m hok c hr t hl o ho r R hR k
  have hg : (fun k f => bwg m hok c t (ix3 (0 : Fin 1) k f)) = fun k f => m ((c.tc : Thread nD τ).loc main_arg6) (ix4 o e k f) :=
    funext fun k => funext fun f => read_3 m hok c hr o t hl ho e he k f
  have hu : (fun k f => bwu m hok c t (ix3 (0 : Fin 1) k f)) = fun k f => m ((c.tc : Thread nD τ).loc main_arg7) (ix4 o e k f) :=
    funext fun k => funext fun f => read_4 m hok c hr o t hl ho e he k f
  have hG : gat m hok c t (ix2 r (gateLane o.val e.val ho3 he3)) = _ := gat_at m hok c hr t hl o ho r R hR hbot htop e
  refine congrArg (A (ix2 r d) + ·) ?_
  rw [hX, hg, hu, hG]
  exact Finset.sum_congr rfl fun f _ => congrArg (_ * ·) (read_5 m hok c hr o t hl ho e he f d)

end Tile

section Sum

variable (n : ℕ) (hn : 4 * n + 3 < grid0.N) (hl : n < live m) (o : Fin 4) (ho : owner (groupOf (gid m)) n = o.val) (r : Fin 512) (R : Fin 10240) (hR : R.val = n * 512 + r.val)
  (hbot : ∀ e, rowL m c R o e ≠ ⊥) (htop : ∀ e, rowL m c R o e ≠ ⊤) (d : Fin 1024)
include hr hl ho hR hbot htop

theorem acc_step (e : ℕ) (he : e < 4) : acc m hok c (4 * n + e) (by omega) (ix2 r d)
    = (if h : e = 0 then 0 else acc m hok c (4 * n + (e - 1)) (by omega) (ix2 r d)) + gain m c R d o ⟨e, he⟩ := by
  have hd : (4 * n + e) / 4 = n := by omega
  have hm : (4 * n + e) % 4 = e := by omega
  refine (congrFun (acc_eq m hok c ⟨4 * n + e, by omega⟩) (ix2 r d)).trans ?_
  refine (plus_row m hok c hr ⟨4 * n + e, by omega⟩ (by show (4 * n + e) / 4 < _; rw [hd]; exact hl) o (by show owner _ ((4 * n + e) / 4) = _; rw [hd]; exact ho) r R
    (by show R.val = (4 * n + e) / 4 * 512 + r.val; rw [hd]; exact hR) hbot htop ⟨e, he⟩ hm _ d).trans ?_
  refine congrArg (· + gain m c R d o ⟨e, he⟩) ?_
  by_cases h : e = 0
  · rw [dif_pos h, dif_pos (by show (4 * n + e) % 4 = 0; rw [hm, h])]
    exact start_at r d
  · rw [dif_neg h, dif_neg (by show ¬ (4 * n + e) % 4 = 0; rw [hm]; exact h)]
    have hs : 4 * n + e - 1 = 4 * n + (e - 1) := by omega
    simp only [hs]

theorem acc_sum : acc m hok c (4 * n + 3) hn (ix2 r d) = ∑ e : Fin 4, gain m c R d o e := by
  rw [acc_step m hok c hr n hn hl o ho r R hR hbot htop d 3 (by decide), dif_neg (by decide),
    acc_step m hok c hr n hn hl o ho r R hR hbot htop d 2 (by decide), dif_neg (by decide),
    acc_step m hok c hr n hn hl o ho r R hR hbot htop d 1 (by decide), dif_neg (by decide),
    acc_step m hok c hr n hn hl o ho r R hR hbot htop d 0 (by decide), dif_pos rfl, zero_add, Fin.sum_univ_four]
  rfl

end Sum

/-! ## The buffer at the end -/

/-- The plain layer at the arguments. -/
abbrev result : FVec Ideal S10240x8x128 .f32 :=
  outV (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8))

theorem live_iff (hr : InRange (gid m)) (t : Fin grid0.N) : Live m c t ↔ t.val / 4 < live m := by
  obtain rfl := Subsingleton.elim c 0
  have h19 : live m ≤ 19 := upto_three _ (groupOf_lt hr)
  have ht : t.val < 80 := N_0 ▸ t.isLt
  have hn : tiles (nt m 0) = BitVec.ofNat 32 (live m) := by
    rw [nt_eq]
    exact (tiles_at (ntV (gid m)) (ix1 0)).symm.trans (ntV_at (gid m) _ (groupOf_at _) (groupOf_lt hr) _)
  rw [Live, cond1_iff, hn, coords_0]
  have h := cmpi_slt_ofNat (w := 32) (a := t.val / 4) (b := live m) (by omega) (by omega)
  have h' : BitVec.ofBool ((BitVec.ofNat 32 (t.val / 4)).slt (BitVec.ofNat 32 (live m))) = BitVec.ofBool (decide (t.val / 4 < live m)) := h
  constructor
  · intro hs
    rw [hs] at h'
    by_contra hc
    rw [decide_eq_false hc] at h'
    exact absurd h' (by decide)
  · intro hs
    by_contra hc
    rw [Bool.eq_false_iff.2 hc, decide_eq_true hs] at h'
    exact absurd h' (by decide)

section Final

variable (hbot : ∀ (R : Fin 10240) (o e : Fin 4), rowL m c R o e ≠ ⊥) (htop : ∀ (R : Fin 10240) (o e : Fin 4), rowL m c R o e ≠ ⊤)
include hr hbot htop

theorem oblk_at (t : Fin grid0.N) (h3 : t.val % 4 = 3) (r : Fin 512) (s : Fin 8) (l : Fin 128) (R : Fin 10240) (hR : R.val = t.val / 4 * 512 + r.val) :
    oblk m hok c t (ix3 r s l) = result m c (ix3 R s l) := by
  have hc : c = 0 := Subsingleton.elim c 0
  have hd : R.val / 512 = t.val / 4 := by have := r.isLt; omega
  unfold oblk
  by_cases h : t.val / 4 < live m
  · rw [if_pos ((live_iff m c hr t).2 h), block_at]
    have h4 := owner_le (groupOf (gid m)) h
    obtain ⟨o, ho⟩ : ∃ o : Fin 4, owner (groupOf (gid m)) (t.val / 4) = o.val :=
      ⟨⟨owner (groupOf (gid m)) (t.val / 4), by omega⟩, rfl⟩
    have hout := out_at (gid m) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (groupOf (gid m)) (groupOf_at _) (groupOf_lt hr) R s l o (by rw [hd]; exact ho)
    subst hc
    refine Eq.trans ?_ hout.symm
    have ht : t = ⟨4 * (t.val / 4) + 3, by have := t.isLt; omega⟩ := Fin.ext (by show t.val = 4 * (t.val / 4) + 3; omega)
    have hv : t.val = 4 * (t.val / 4) + 3 := by omega
    have hs := acc_sum m hok 0 hr (t.val / 4) (by have := t.isLt; omega) h o ho r R hR (hbot R o) (htop R o) (colOf s l)
    refine Eq.trans ?_ hs
    congr 2
  · rw [if_neg fun hL => h ((live_iff m c hr t).1 hL)]
    refine (zeros_at _).trans ?_
    have hge : ∀ q : Fin 4, upto (groupOf (gid m)) q.val ≤ t.val / 4 := fun q =>
      (upto_mono _ (by have := q.isLt; omega : q.val ≤ 3)).trans (Nat.not_lt.1 h)
    have ho : owner (groupOf (gid m)) (R.val / 512) = 4 := by
      unfold owner
      rw [hd, Fin.sum_univ_four, if_pos (hge 0), if_pos (hge 1), if_pos (hge 2), if_pos (hge 3)]
    subst hc
    exact (out_none (gid m) _ _ _ _ _ _ _ _ (groupOf (gid m)) (groupOf_at _) (groupOf_lt hr) R s l ho).symm

theorem flushed_eq (t : Fin (cfgA m hok).N) (hf : ((cfgA m hok).win 6).flush t = true) :
    (dats m hok 0 c).flushed 6 t = (((cfgA m hok).win 6).blk t).view.read (Elt Ideal) (result m c) := by
  have h3 : t.val % 4 = 3 := by
    by_contra h
    rw [flush_other m hok t h] at hf
    exact absurd hf (by decide)
  have ht : t.val < 80 := N_0 ▸ t.isLt
  have hi := index_6 m hok t
  show ((cfgA m hok).win 6).cut (grid0.coords t) ((dats m hok 0 c).after 6 t) = _
  rw [after_6]
  funext y
  obtain ⟨r, s, l, rfl⟩ : ∃ (r : Fin 512) (s : Fin 8) (l : Fin 128), y = ix3 r s l :=
    ⟨y (0 : Fin 3), y (1 : Fin 3), y (2 : Fin 3), funext fun a => by match a with | ⟨0, _⟩ => rfl | ⟨1, _⟩ => rfl | ⟨2, _⟩ => rfl⟩
  have e : (((cfgA m hok).win 6).rect t).emb (ix3 r s l) = (ix3 (⟨t.val / 4 * 512 + r.val, by have := r.isLt; omega⟩ : Fin 10240) s l : S10240x8x128.Idx) := funext fun b => Fin.ext (by
    match b with
    | ⟨0, _⟩ =>
      refine (Pipeline.Window.rect_emb_val ((cfgA m hok).win 6) t (ix3 r s l) (0 : Fin 3)).trans ?_
      rw [hi]
      rfl
    | ⟨1, _⟩ => exact Pipeline.Window.rect_emb_val_of_index_zero ((cfgA m hok).win 6) t (1 : Fin 3) (by rw [hi]; rfl) _
    | ⟨2, _⟩ => exact Pipeline.Window.rect_emb_val_of_index_zero ((cfgA m hok).win 6) t (2 : Fin 3) (by rw [hi]; rfl) _)
  refine Eq.trans (b := oblk m hok c t (ix3 r s l)) rfl ?_
  refine (oblk_at m hok c hr hbot htop t h3 r s l (⟨t.val / 4 * 512 + r.val, by have := r.isLt; omega⟩ : Fin 10240) rfl).trans ?_
  show _ = result m c ((((cfgA m hok).win 6).rect t).emb (ix3 r s l))
  rw [e]

omit hr hbot htop in
theorem flush_last (t : Fin (cfgA m hok).N) (h3 : t.val % 4 = 3) : ((cfgA m hok).win 6).flush t = true := by
  have ht : t.val < 80 := N_0 ▸ t.isLt
  have hN : (cfgA m hok).N = 80 := N_0
  unfold Pipeline.Window.flush
  rw [Bool.and_eq_true]
  refine ⟨rfl, ?_⟩
  rw [Bool.or_eq_true]
  by_cases hl : t.val + 1 = 80
  · exact Or.inl (decide_eq_true (hl.trans hN.symm))
  · refine Or.inr (decide_eq_true ⟨by have := hN; exact Nat.lt_of_lt_of_eq (by omega : t.val + 1 < 80) hN.symm, fun h => ?_⟩)
    rw [index_6, index_6] at h
    have h0 := congrFun h (0 : Fin 3)
    have h0' : (t.val + 1) / 4 = t.val / 4 := h0
    omega

omit hr hbot htop in
theorem cover (i : S10240x8x128.Idx) : ∃ t : Fin (cfgA m hok).N, ((cfgA m hok).win 6).flush t = true ∧ i ∈ (((cfgA m hok).win 6).blk t).view.set := by
  have h0 : (i 0 : Nat) < 10240 := (i 0).isLt
  have h1 : (i 1 : Nat) < 8 := (i 1).isLt
  have h2 : (i 2 : Nat) < 128 := (i 2).isLt
  have hN : (cfgA m hok).N = 80 := N_0
  obtain ⟨t, ht⟩ : ∃ t : Fin (cfgA m hok).N, t.val = 4 * ((i 0 : Nat) / 512) + 3 := ⟨⟨4 * ((i 0 : Nat) / 512) + 3, by omega⟩, rfl⟩
  have hi := index_6 m hok t
  refine ⟨t, flush_last m hok t (by omega), ?_⟩
  refine (congrArg (i ∈ ·) (View.set_slice_whole main_v72 (((cfgA m hok).win 6).rect t))).mpr (Rect.mem_set_unit.mpr fun b => ?_)
  match b with
  | ⟨0, _⟩ =>
    show ((cfgA m hok).win 6).index t (0 : Fin 3) * 512 ≤ (i 0 : Nat) ∧ (i 0 : Nat) < ((cfgA m hok).win 6).index t (0 : Fin 3) * 512 + 512
    rw [hi]
    show t.val / 4 * 512 ≤ (i 0 : Nat) ∧ (i 0 : Nat) < t.val / 4 * 512 + 512
    omega
  | ⟨1, _⟩ =>
    show ((cfgA m hok).win 6).index t (1 : Fin 3) * 8 ≤ (i 1 : Nat) ∧ (i 1 : Nat) < ((cfgA m hok).win 6).index t (1 : Fin 3) * 8 + 8
    rw [hi]
    show 0 * 8 ≤ (i 1 : Nat) ∧ (i 1 : Nat) < 0 * 8 + 8
    omega
  | ⟨2, _⟩ =>
    show ((cfgA m hok).win 6).index t (2 : Fin 3) * 128 ≤ (i 2 : Nat) ∧ (i 2 : Nat) < ((cfgA m hok).win 6).index t (2 : Fin 3) * 128 + 128
    rw [hi]
    show 0 * 128 ≤ (i 2 : Nat) ∧ (i 2 : Nat) < 0 * 128 + 128
    omega

theorem array_eq : (dats m hok 0 c).arrAt 6 (cfgA m hok).N = result m c :=
  (dats m hok 0 c).arrAt_eq_of_cover 6 (result m c) (fun t hf => flushed_eq m hok c hr hbot htop t hf) (cover m hok)

end Final

end Cert.GroupedIdeal.Grouped

end
-- ==== Proof.GroupedClaim.lean ====
/- What the precondition of the expert call says, and the whole run of the call. -/
module

public import proofs.«01_k».proof.Defs
public import proofs.«01_k».proof.Proof.Gen.Pre_grouped_inputs
public import proofs.«01_k».proof.Proof.GroupedValue
public import proofs.«01_k».proof.Proof.DispatchValue
public import Idealize.ShloMosaic.Lib.ReduceAll

@[expose] public section

noncomputable section

namespace Cert.GroupedIdeal.Grouped

open Cert.GroupedIdeal Cert.GroupedIdeal.Gen
open Cert.GroupedRefIdeal.Grouped (outV allV allV_at)
open Idealize.ShloMosaic Idealize.SL.Sem TcCoe
open Idealize.ShloMosaic.ValueIdx Idealize.ShloMosaic.WordCmp
open Idealize.ShloMosaic.Routing

section Pre

variable {F : FTy → Type} [FloatOps F] (g : IVec S8192x128 32) (x : FVec F S10240x8x128 .f32) (wg : FVec F S1024x4 .f32) (bg : FVec F S4 .f32)
  (we : FVec F S1024x4x4 .f32) (be : FVec F S4x4 .f32) (w u : FVec F S4x4x1024x512 .f32) (d : FVec F S4x4x512x1024 .f32)

/-- The precondition's bits about the routing, a bit to a token. -/
def bitV : IVec S8192 1 :=
  andi (cmpi .sge (shapeCast S8192 (extractStridedSlice Cert.Pre_grouped_inputs.S8192x1 ![0, 0] g Cert.Pre_grouped_inputs.Facts.slices_S8192x128_S8192x1_0_0) Cert.Pre_grouped_inputs.Facts.shapeCasts_S8192x1_S8192)
      (broadcastInDim S8192 ![] Cert.Pre_grouped_inputs.Facts.bcast_S_S8192 (constantI Cert.Pre_grouped_inputs.S_ 32 0#32)))
    (cmpi .slt (shapeCast S8192 (extractStridedSlice Cert.Pre_grouped_inputs.S8192x1 ![0, 0] g Cert.Pre_grouped_inputs.Facts.slices_S8192x128_S8192x1_0_0) Cert.Pre_grouped_inputs.Facts.shapeCasts_S8192x1_S8192)
      (broadcastInDim S8192 ![] Cert.Pre_grouped_inputs.Facts.bcast_S_S8192 (constantI Cert.Pre_grouped_inputs.S_ 32 4#32)))

/-- All of them. -/
def allBits : IVec Cert.Pre_grouped_inputs.S_ 1 :=
  Host.reduce IntOp.andi (bitV g) (constantI Cert.Pre_grouped_inputs.S_ 1 1#1) Cert.Pre_grouped_inputs.Facts.reducesTo_S8192_S_d0 Cert.Pre_grouped_inputs.Facts.h_S_

/-- The precondition, with its logits named as the plain layer names them. -/
theorem fn_eq : Cert.Pre_grouped_inputs.fn (F := F) g x wg bg we be w u d
    = andi (cmpf .olt (Host.absf (allV x we be)) (broadcastInDim Cert.Pre_grouped_inputs.S10240x4x4 ![] Cert.Pre_grouped_inputs.Facts.bcast_S_S10240x4x4 (constant Cert.Pre_grouped_inputs.S_ .f32 0x7F800000#32)))
      (broadcastInDim Cert.Pre_grouped_inputs.S10240x4x4 ![] Cert.Pre_grouped_inputs.Facts.bcast_S_S10240x4x4 (allBits g)) := rfl

theorem and_bits {a b : BitVec 1} (h : a &&& b = 1#1) : a = 1#1 ∧ b = 1#1 := by
  revert a b
  decide

theorem and_ap {s : Shape} (a b : IVec s 1) (i : s.Idx) : andi a b i = a i &&& b i := rfl

variable (h : Cert.Pre_grouped_inputs.fn (F := F) g x wg bg we be w u d = fun _ => 1#1)
include h

theorem pre_at (R : Fin 10240) (o e : Fin 4) :
    cmpf .olt (Host.absf (allV x we be)) (broadcastInDim Cert.Pre_grouped_inputs.S10240x4x4 ![] Cert.Pre_grouped_inputs.Facts.bcast_S_S10240x4x4 (constant Cert.Pre_grouped_inputs.S_ .f32 0x7F800000#32)) (ix3 R o e) = 1#1
      ∧ ∀ i, allBits g i = 1#1 := by
  rw [fn_eq] at h
  have e1 := congrFun h (ix3 R o e)
  rw [and_ap] at e1
  refine ⟨(and_bits e1).1, fun i => ?_⟩
  refine Eq.trans ?_ (and_bits e1).2
  exact congrArg (allBits g) (funext fun a => a.elim0)

/-- Every token's group is among the four. -/
theorem inRange_of_pre : InRange g := fun t => by
  haveI : Subsingleton Cert.Pre_grouped_inputs.S_.Idx := ⟨fun a b => funext fun i => i.elim0⟩
  have hb : bitV g (ix1 t) = 1#1 :=
    Host.reduce_andi_all (bitV g) (constantI Cert.Pre_grouped_inputs.S_ 1 1#1) Cert.Pre_grouped_inputs.Facts.reducesTo_S8192_S_d0 Cert.Pre_grouped_inputs.Facts.h_S_
      _ ((pre_at g x wg bg we be w u d h 0 0 0).2 (Shape.Idx.first Cert.Pre_grouped_inputs.Facts.h_S_)) (ix1 t)
  refine Cert.Dispatch.word_lt_four (Eq.trans ?_ hb)
  rw [← show shapeCast (shape1 8192) (extractStridedSlice (shape2 8192 1) ![0, 0] g Cert.Pre_grouped_inputs.Facts.slices_S8192x128_S8192x1_0_0) Cert.Pre_grouped_inputs.Facts.shapeCasts_S8192x1_S8192 (ix1 t)
    = g (ix2 t (0 : Fin 128)) from Cert.Route.col0_at g (by decide) _ _ t]
  rfl

end Pre

theorem top_word : (Ideal.ofBits .f32 0x7F800000#32) = (⊤ : EReal) := by
  simp [Ideal.ofBits, Ideal.ieee]

/-- A number of finite absolute value. -/
theorem finite_of_abs {a : EReal} (h : BitVec.ofBool (decide (max a (-a) < ⊤)) = 1#1) : a ≠ ⊥ ∧ a ≠ ⊤ := by
  have h' : max a (-a) < ⊤ := by
    by_contra hc
    rw [decide_eq_false hc] at h
    exact absurd h (by decide)
  constructor
  · rintro rfl
    simp at h'
  · rintro rfl
    simp at h'

section Ideal

variable (m : (ℓ : Loc nD τ sig) → Buf (Elt Ideal) ℓ) (c : Dev nD) (h : Cert.Pre_grouped_inputs.fn (F := Ideal) (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = fun _ => 1#1)
include h

/-- Every row's logits, of every group's experts, are finite. -/
theorem logits_finite (R : Fin 10240) (o e : Fin 4) : rowL m c R o e ≠ ⊥ ∧ rowL m c R o e ≠ ⊤ := by
  have e1 := (pre_at _ _ _ _ _ _ _ _ _ h R o e).1
  have e2 : BitVec.ofBool (decide (max (allV (F := Ideal) (m ((c.tc : Thread nD τ).loc main_arg1)) (m ((c.tc : Thread nD τ).loc main_arg4)) (m ((c.tc : Thread nD τ).loc main_arg5)) (ix3 R o e))
      (-(allV (F := Ideal) (m ((c.tc : Thread nD τ).loc main_arg1)) (m ((c.tc : Thread nD τ).loc main_arg4)) (m ((c.tc : Thread nD τ).loc main_arg5)) (ix3 R o e))) < Ideal.ofBits .f32 0x7F800000#32)) = 1#1 := e1
  rw [top_word] at e2
  have e3 := finite_of_abs e2
  rw [allV_at] at e3
  exact e3

end Ideal

/-- The run at either reading of the numbers, its result as the tiles leave it. -/
theorem run_frame {F : FTy → Type} [FloatOps F] (m : (ℓ : Loc nD τ sig) → Buf (Elt F) ℓ) (ρ : Dev nD → PrngReg) (hr : InRange (m (((0 : Dev nD).tc : Thread nD τ).loc main_arg0))) :
    θ_run (defs (F := F)) (onTc (τ := τ) (main (F := F))) ⟨m, fun _ => 0, ρ⟩ (fun r =>
      (∀ c : Dev nD, r.2.mem ((c.tc : Thread nD τ).loc main_v72) = (dats m (ok_of_inRange m hr) 0 c).arrAt 6 (cfgA m (ok_of_inRange m hr)).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))
      ∧ r.2.sem = fun _ => 0) :=
  (θ_run (defs (F := F)) _ _).mono
    (fun _ h => ⟨fun c => ⟨(h.1 c).1, (h.1 c).2 main_arg0 (by decide), (h.1 c).2 main_arg1 (by decide), (h.1 c).2 main_arg2 (by decide), (h.1 c).2 main_arg3 (by decide),
      (h.1 c).2 main_arg4 (by decide), (h.1 c).2 main_arg5 (by decide), (h.1 c).2 main_arg6 (by decide), (h.1 c).2 main_arg7 (by decide), (h.1 c).2 main_arg8 (by decide)⟩, h.2⟩)
    (run_main m ρ (ok_of_inRange m hr))

end Cert.GroupedIdeal.Grouped

end
-- ==== Proof.Words.Frame.lean ====
/- The frame of the expert call over float words. -/
module

public import proofs.«01_k».proof.Defs
public import proofs.«01_k».proof.Proof.Words.Route
public import proofs.«01_k».proof.Proof.GroupedClaim

@[expose] public section

noncomputable section

namespace Cert.Grouped.Grouped

open Cert.Grouped Cert.Grouped.Gen
open Idealize.ShloMosaic Idealize.SL.Sem TcCoe

theorem frame : Cert.quiescent_Grouped := fun m ρ hp =>
  have hr : InRange (m (((0 : Dev nD).tc : Thread nD τ).loc main_arg0)) := Cert.GroupedIdeal.Grouped.inRange_of_pre _ _ _ _ _ _ _ _ _ (hp 0)
  (θ_run (defs (F := Bits)) _ _).mono
    (fun _ h => ⟨fun c => ⟨(h.1 c).2 main_arg0 (by decide), (h.1 c).2 main_arg1 (by decide), (h.1 c).2 main_arg2 (by decide), (h.1 c).2 main_arg3 (by decide),
      (h.1 c).2 main_arg4 (by decide), (h.1 c).2 main_arg5 (by decide), (h.1 c).2 main_arg6 (by decide), (h.1 c).2 main_arg7 (by decide), (h.1 c).2 main_arg8 (by decide)⟩, h.2⟩)
    (run_main m ρ (ok_of_inRange m hr))

end Cert.Grouped.Grouped

end
-- ==== Proof.lean ====
/- The proof of the claims of this directory. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.Reference
public import proofs.«01_k».proof.Proof.Gen.ReferenceIdeal.Run
public import proofs.«01_k».proof.Proof.Gen.Pre_groups_in_range
public import proofs.«01_k».proof.Proof.Gen.NormPrompt
public import proofs.«01_k».proof.Proof.Gen.NormPrompt.Skeleton
public import proofs.«01_k».proof.Proof.Gen.NormPrompt.Launch
public import proofs.«01_k».proof.Proof.Gen.NormPrompt.Points
public import proofs.«01_k».proof.Proof.Gen.NormPrompt.Frame
public import proofs.«01_k».proof.Proof.Gen.NormPromptIdeal
public import proofs.«01_k».proof.Proof.Gen.NormPromptIdeal.Skeleton
public import proofs.«01_k».proof.Proof.Gen.NormPromptIdeal.Launch
public import proofs.«01_k».proof.Proof.Gen.NormPromptIdeal.Points
public import proofs.«01_k».proof.Proof.Gen.NormPromptIdeal.Frame
public import proofs.«01_k».proof.Proof.Gen.NormPromptIdeal.Value
public import proofs.«01_k».proof.Proof.Gen.NormPromptRefIdeal
public import proofs.«01_k».proof.Proof.Gen.NormPromptRefIdeal.Run
public import proofs.«01_k».proof.Proof.Gen.NormSample
public import proofs.«01_k».proof.Proof.Gen.NormSample.Skeleton
public import proofs.«01_k».proof.Proof.Gen.NormSample.Launch
public import proofs.«01_k».proof.Proof.Gen.NormSample.Points
public import proofs.«01_k».proof.Proof.Gen.NormSample.Frame
public import proofs.«01_k».proof.Proof.Gen.NormSampleIdeal
public import proofs.«01_k».proof.Proof.Gen.NormSampleIdeal.Skeleton
public import proofs.«01_k».proof.Proof.Gen.NormSampleIdeal.Launch
public import proofs.«01_k».proof.Proof.Gen.NormSampleIdeal.Points
public import proofs.«01_k».proof.Proof.Gen.NormSampleIdeal.Frame
public import proofs.«01_k».proof.Proof.Gen.NormSampleIdeal.Value
public import proofs.«01_k».proof.Proof.Gen.NormSampleRefIdeal
public import proofs.«01_k».proof.Proof.Gen.NormSampleRefIdeal.Run
public import proofs.«01_k».proof.Proof.Gen.Grouped
public import proofs.«01_k».proof.Proof.Gen.Grouped.Skeleton
public import proofs.«01_k».proof.Proof.Gen.Grouped.Launch
public import proofs.«01_k».proof.Proof.Gen.GroupedIdeal
public import proofs.«01_k».proof.Proof.Gen.GroupedIdeal.Skeleton
public import proofs.«01_k».proof.Proof.Gen.GroupedIdeal.Launch
public import proofs.«01_k».proof.Proof.Gen.GroupedRefIdeal
public import proofs.«01_k».proof.Proof.Gen.GroupedRefIdeal.Run
public import proofs.«01_k».proof.Proof.Gen.Pre_grouped_inputs
public import proofs.«01_k».proof.Proof.DispatchValue
public import proofs.«01_k».proof.Proof.NormPrompt
public import proofs.«01_k».proof.Proof.NormSample
public import proofs.«01_k».proof.Proof.GroupedClaim
public import proofs.«01_k».proof.Proof.Words.Frame
public import Idealize.ShloMosaic.Lib.Quiescent

@[expose] public section

namespace Cert.Proof

open Idealize.ShloMosaic Idealize.SL.Sem

/-- What both sides of the value claims leave in the result. -/
noncomputable abbrev result {F : FTy → Type} [FloatOps F] (m : (ℓ : Loc Cert.KernelIdeal.nD Cert.KernelIdeal.τ Cert.KernelIdeal.sig) → Buf (Elt F) ℓ) (c : Dev Cert.KernelIdeal.nD) :
    Buf (Elt F) ((c.tc : Thread Cert.KernelIdeal.nD Cert.KernelIdeal.τ).loc Cert.KernelIdeal.main_v41) :=
  Cert.ReferenceIdeal.Dispatch.resV (m ((c.tc : Thread Cert.KernelIdeal.nD Cert.KernelIdeal.τ).loc Cert.KernelIdeal.main_arg0))
    (m ((c.tc : Thread Cert.KernelIdeal.nD Cert.KernelIdeal.τ).loc Cert.KernelIdeal.main_arg1))

set_option maxHeartbeats 2000000 in
theorem quiescent_kernel : Cert.quiescent_Kernel := fun m g hp =>
  (θ_run (Cert.KernelIdeal.defs (F := Bits)) _ _).mono (fun _ h => ⟨fun c => (h.1 c).2, h.2⟩)
    (Cert.Dispatch.run (F := Bits) m g fun c => Cert.Dispatch.inRange_of_pre _ _ (hp c))

theorem quiescent_kernelIdeal : Cert.quiescent_KernelIdeal := fun m g hp =>
  (θ_run (Cert.KernelIdeal.defs (F := Ideal)) _ _).mono (fun _ h => ⟨fun c => (h.1 c).2, h.2⟩)
    (Cert.Dispatch.run (F := Ideal) m g fun c => Cert.Dispatch.inRange_of_pre _ _ (hp c))

theorem quiescent_referenceIdeal : Cert.quiescent_ReferenceIdeal := fun m g _ =>
  (θ_run (Cert.ReferenceIdeal.defs (F := Ideal)) _ _).mono (fun r h => ⟨fun c => (h c).2, sem_eq_zero_of_no_sems (by decide) _⟩)
    (Cert.ReferenceIdeal.Value.run (F := Ideal) m g)

set_option maxHeartbeats 2000000 in
theorem quiescent_reference : Cert.quiescent_Reference := fun m g _ =>
  (θ_run (Cert.ReferenceIdeal.defs (F := Bits)) _ _).mono (fun r h => ⟨fun c => (h c).2, sem_eq_zero_of_no_sems (by decide) _⟩)
    (Cert.ReferenceIdeal.Value.run (F := Bits) m g)

theorem algebraic : Cert.algebraic_KernelIdeal_ReferenceIdeal := fun m g m' g' hp hm =>
  ⟨result (F := Ideal) m,
    (θ_run (Cert.KernelIdeal.defs (F := Ideal)) _ _).mono (fun _ h => h.1)
      (Cert.Dispatch.run (F := Ideal) m g fun c => Cert.Dispatch.inRange_of_pre _ _ (hp c)),
    (θ_run (Cert.ReferenceIdeal.defs (F := Ideal)) _ _).mono
      (fun _ h c => ⟨(h c).1.trans ((Cert.ReferenceIdeal.Dispatch.res_eq m' c).trans
        (congrArg₂ (Cert.ReferenceIdeal.Dispatch.resV (F := Ideal)) (hm c).1 (hm c).2)), (h c).2⟩)
      (Cert.ReferenceIdeal.Value.run (F := Ideal) m' g')⟩

set_option maxHeartbeats 2000000 in
theorem bitexact : Cert.bitexact_Kernel_Reference := fun m g m' g' hp hm =>
  ⟨result (F := Bits) m,
    (θ_run (Cert.KernelIdeal.defs (F := Bits)) _ _).mono (fun _ h => h.1)
      (Cert.Dispatch.run (F := Bits) m g fun c => Cert.Dispatch.inRange_of_pre _ _ (hp c)),
    (θ_run (Cert.ReferenceIdeal.defs (F := Bits)) _ _).mono
      (fun _ h c => ⟨(h c).1.trans ((Cert.ReferenceIdeal.Dispatch.res_eq (F := Bits) m' c).trans
        (congrArg₂ (Cert.ReferenceIdeal.Dispatch.resV (F := Bits)) (hm c).1 (hm c).2)), (h c).2⟩)
      (Cert.ReferenceIdeal.Value.run (F := Bits) m' g')⟩

theorem quiescent_normPrompt : Cert.quiescent_NormPrompt := fun m ρ _ => Cert.NormPrompt.Gen.frame (F := Bits) m ρ

theorem quiescent_normPromptIdeal : Cert.quiescent_NormPromptIdeal := fun m ρ _ => Cert.NormPromptIdeal.Gen.frame (F := Ideal) m ρ

theorem quiescent_normPromptRefIdeal : Cert.quiescent_NormPromptRefIdeal := fun m ρ _ =>
  (θ_run (Cert.NormPromptRefIdeal.defs (F := Ideal)) _ _).mono (fun r h => ⟨fun c => (h c).2, sem_eq_zero_of_no_sems (by decide) _⟩)
    (Cert.NormPromptRefIdeal.Value.run (F := Ideal) m ρ)

theorem algebraic_normPrompt : Cert.algebraic_NormPromptIdeal_NormPromptRefIdeal := fun m ρ m' ρ' _ hm =>
  ⟨fun c => Cert.Norm.Prompt.result m c, Cert.Norm.Prompt.run_kernel m ρ,
    (θ_run (Cert.NormPromptRefIdeal.defs (F := Ideal)) _ _).mono
      (fun _ h c => ⟨(h c).1.trans (congrArg₂ Cert.Norm.Prompt.value (hm c).1 (hm c).2), (h c).2⟩)
      (Cert.Norm.Prompt.run_reference m' ρ')⟩

theorem quiescent_normSample : Cert.quiescent_NormSample := fun m ρ _ => Cert.NormSample.Gen.frame (F := Bits) m ρ

theorem quiescent_normSampleIdeal : Cert.quiescent_NormSampleIdeal := fun m ρ _ => Cert.NormSampleIdeal.Gen.frame (F := Ideal) m ρ

theorem quiescent_normSampleRefIdeal : Cert.quiescent_NormSampleRefIdeal := fun m ρ _ =>
  (θ_run (Cert.NormSampleRefIdeal.defs (F := Ideal)) _ _).mono (fun r h => ⟨fun c => (h c).2, sem_eq_zero_of_no_sems (by decide) _⟩)
    (Cert.NormSampleRefIdeal.Value.run (F := Ideal) m ρ)

theorem algebraic_normSample : Cert.algebraic_NormSampleIdeal_NormSampleRefIdeal := fun m ρ m' ρ' _ hm =>
  ⟨fun c => Cert.Norm.Sample.result m c, Cert.Norm.Sample.run_kernel m ρ,
    (θ_run (Cert.NormSampleRefIdeal.defs (F := Ideal)) _ _).mono
      (fun _ h c => ⟨(h c).1.trans (congrArg₂ Cert.Norm.Sample.value (hm c).1 (hm c).2), (h c).2⟩)
      (Cert.Norm.Sample.run_reference m' ρ')⟩

theorem quiescent_grouped : Cert.quiescent_Grouped := Cert.Grouped.Grouped.frame

theorem quiescent_groupedIdeal : Cert.quiescent_GroupedIdeal := fun m ρ hp =>
  (θ_run (Cert.GroupedIdeal.defs (F := Ideal)) _ _).mono (fun _ h => ⟨fun c => (h.1 c).2, h.2⟩)
    (Cert.GroupedIdeal.Grouped.run_frame (F := Ideal) m ρ (Cert.GroupedIdeal.Grouped.inRange_of_pre _ _ _ _ _ _ _ _ _ (hp 0)))

theorem quiescent_groupedRefIdeal : Cert.quiescent_GroupedRefIdeal := fun m ρ _ =>
  (θ_run (Cert.GroupedRefIdeal.defs (F := Ideal)) _ _).mono (fun r h => ⟨fun c => (h c).2, sem_eq_zero_of_no_sems (by decide) _⟩)
    (Cert.GroupedRefIdeal.Value.run (F := Ideal) m ρ)

theorem algebraic_grouped : Cert.algebraic_GroupedIdeal_GroupedRefIdeal := fun m ρ m' ρ' hp hm =>
  ⟨fun c => Cert.GroupedIdeal.Grouped.result m c,
    (θ_run (Cert.GroupedIdeal.defs (F := Ideal)) _ _).mono
      (fun _ h c => ⟨((h.1 c).1).trans (Cert.GroupedIdeal.Grouped.array_eq m _ c (Cert.GroupedIdeal.Grouped.inRange_of_pre _ _ _ _ _ _ _ _ _ (hp 0))
        (fun R o e => (Cert.GroupedIdeal.Grouped.logits_finite m c (hp c) R o e).1) (fun R o e => (Cert.GroupedIdeal.Grouped.logits_finite m c (hp c) R o e).2)), (h.1 c).2⟩)
      (Cert.GroupedIdeal.Grouped.run_frame (F := Ideal) m ρ (Cert.GroupedIdeal.Grouped.inRange_of_pre _ _ _ _ _ _ _ _ _ (hp 0))),
    (θ_run (Cert.GroupedRefIdeal.defs (F := Ideal)) _ _).mono
      (fun _ h c => ⟨(h c).1.trans ((Cert.GroupedRefIdeal.Grouped.res_eq m' c).trans (by
        obtain ⟨h0, h1, h2, h3, h4, h5, h6, h7, h8⟩ := hm c
        rw [h0, h1, h2, h3, h4, h5, h6, h7, h8])), (h c).2⟩)
      (Cert.GroupedRefIdeal.Value.run (F := Ideal) m' ρ')⟩

theorem claim : Cert.Claim :=
  ⟨inferInstance, inferInstance, inferInstance, inferInstance, inferInstance, inferInstance, inferInstance, inferInstance, inferInstance, inferInstance, inferInstance, inferInstance, inferInstance, inferInstance, inferInstance,
    quiescent_kernel, quiescent_kernelIdeal, quiescent_referenceIdeal, fun m g _ => quiescent_referenceIdeal m g trivial, quiescent_reference,
    quiescent_normPrompt, quiescent_normPromptIdeal, quiescent_normPromptRefIdeal, quiescent_normSample, quiescent_normSampleIdeal, quiescent_normSampleRefIdeal,
    quiescent_grouped, quiescent_groupedIdeal, quiescent_groupedRefIdeal, fun m g _ => quiescent_groupedRefIdeal m g trivial,
    trivial, algebraic, bitexact, trivial, algebraic_normPrompt, trivial, algebraic_normSample, trivial, algebraic_grouped⟩

end Cert.Proof

end
